-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2 = (fun _ => 1#1)

def Pre_RefIdeal (m : (ℓ : Loc Cert.RefIdeal.nD Cert.RefIdeal.τ Cert.RefIdeal.sig) → Buf (Elt Ideal) ℓ) : Prop :=
  True

def Pre_RefIdeal_finite [hPre_finite : Cert.Pre_finite.Facts] (m : (ℓ : Loc Cert.RefIdeal.nD Cert.RefIdeal.τ Cert.RefIdeal.sig) → Buf (Elt Ideal) ℓ) : Prop :=
  ∀ c : Dev Cert.RefIdeal.nD,
    (Cert.Pre_finite.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10)) (m ((c.tc : Thread Cert.RefIdeal.nD Cert.RefIdeal.τ).loc Cert.RefIdeal.main_arg11)) (m ((c.tc : Thread Cert.RefIdeal.nD Cert.RefIdeal.τ).loc Cert.RefIdeal.main_arg12)) (m ((c.tc : Thread Cert.RefIdeal.nD Cert.RefIdeal.τ).loc Cert.RefIdeal.main_arg13)) (m ((c.tc : Thread Cert.RefIdeal.nD Cert.RefIdeal.τ).loc Cert.RefIdeal.main_arg14)) (m ((c.tc : Thread Cert.RefIdeal.nD Cert.RefIdeal.τ).loc Cert.RefIdeal.main_arg15))).1 = (fun _ => 1#1)
    ∧ (Cert.Pre_finite.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10)) (m ((c.tc : Thread Cert.RefIdeal.nD Cert.RefIdeal.τ).loc Cert.RefIdeal.main_arg11)) (m ((c.tc : Thread Cert.RefIdeal.nD Cert.RefIdeal.τ).loc Cert.RefIdeal.main_arg12)) (m ((c.tc : Thread Cert.RefIdeal.nD Cert.RefIdeal.τ).loc Cert.RefIdeal.main_arg13)) (m ((c.tc : Thread Cert.RefIdeal.nD Cert.RefIdeal.τ).loc Cert.RefIdeal.main_arg14)) (m ((c.tc : Thread Cert.RefIdeal.nD Cert.RefIdeal.τ).loc Cert.RefIdeal.main_arg15))).2.1 = (fun _ => 1#1)
    ∧ (Cert.Pre_finite.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10)) (m ((c.tc : Thread Cert.RefIdeal.nD Cert.RefIdeal.τ).loc Cert.RefIdeal.main_arg11)) (m ((c.tc : Thread Cert.RefIdeal.nD Cert.RefIdeal.τ).loc Cert.RefIdeal.main_arg12)) (m ((c.tc : Thread Cert.RefIdeal.nD Cert.RefIdeal.τ).loc Cert.RefIdeal.main_arg13)) (m ((c.tc : Thread Cert.RefIdeal.nD Cert.RefIdeal.τ).loc Cert.RefIdeal.main_arg14)) (m ((c.tc : Thread Cert.RefIdeal.nD Cert.RefIdeal.τ).loc Cert.RefIdeal.main_arg15))).2.2.1 = (fun _ => 1#1)
    ∧ (Cert.Pre_finite.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10)) (m ((c.tc : Thread Cert.RefIdeal.nD Cert.RefIdeal.τ).loc Cert.RefIdeal.main_arg11)) (m ((c.tc : Thread Cert.RefIdeal.nD Cert.RefIdeal.τ).loc Cert.RefIdeal.main_arg12)) (m ((c.tc : Thread Cert.RefIdeal.nD Cert.RefIdeal.τ).loc Cert.RefIdeal.main_arg13)) (m ((c.tc : Thread Cert.RefIdeal.nD Cert.RefIdeal.τ).loc Cert.RefIdeal.main_arg14)) (m ((c.tc : Thread Cert.RefIdeal.nD Cert.RefIdeal.τ).loc Cert.RefIdeal.main_arg15))).2.2.2.1 = (fun _ => 1#1)
    ∧ (Cert.Pre_finite.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10)) (m ((c.tc : Thread Cert.RefIdeal.nD Cert.RefIdeal.τ).loc Cert.RefIdeal.main_arg11)) (m ((c.tc : Thread Cert.RefIdeal.nD Cert.RefIdeal.τ).loc Cert.RefIdeal.main_arg12)) (m ((c.tc : Thread Cert.RefIdeal.nD Cert.RefIdeal.τ).loc Cert.RefIdeal.main_arg13)) (m ((c.tc : Thread Cert.RefIdeal.nD Cert.RefIdeal.τ).loc Cert.RefIdeal.main_arg14)) (m ((c.tc : Thread Cert.RefIdeal.nD Cert.RefIdeal.τ).loc Cert.RefIdeal.main_arg15))).2.2.2.2.1 = (fun _ => 1#1)
    ∧ (Cert.Pre_finite.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10)) (m ((c.tc : Thread Cert.RefIdeal.nD Cert.RefIdeal.τ).loc Cert.RefIdeal.main_arg11)) (m ((c.tc : Thread Cert.RefIdeal.nD Cert.RefIdeal.τ).loc Cert.RefIdeal.main_arg12)) (m ((c.tc : Thread Cert.RefIdeal.nD Cert.RefIdeal.τ).loc Cert.RefIdeal.main_arg13)) (m ((c.tc : Thread Cert.RefIdeal.nD Cert.RefIdeal.τ).loc Cert.RefIdeal.main_arg14)) (m ((c.tc : Thread Cert.RefIdeal.nD Cert.RefIdeal.τ).loc Cert.RefIdeal.main_arg15))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8)
      ∧ r.2.mem ((c.tc : Thread Cert.RefIdeal.nD Cert.RefIdeal.τ).loc Cert.RefIdeal.main_arg9) = m ((c.tc : Thread Cert.RefIdeal.nD Cert.RefIdeal.τ).loc Cert.RefIdeal.main_arg9)
      ∧ r.2.mem ((c.tc : Thread Cert.RefIdeal.nD Cert.RefIdeal.τ).loc Cert.RefIdeal.main_arg10) = m ((c.tc : Thread Cert.RefIdeal.nD Cert.RefIdeal.τ).loc Cert.RefIdeal.main_arg10)
      ∧ r.2.mem ((c.tc : Thread Cert.RefIdeal.nD Cert.RefIdeal.τ).loc Cert.RefIdeal.main_arg11) = m ((c.tc : Thread Cert.RefIdeal.nD Cert.RefIdeal.τ).loc Cert.RefIdeal.main_arg11)
      ∧ r.2.mem ((c.tc : Thread Cert.RefIdeal.nD Cert.RefIdeal.τ).loc Cert.RefIdeal.main_arg12) = m ((c.tc : Thread Cert.RefIdeal.nD Cert.RefIdeal.τ).loc Cert.RefIdeal.main_arg12)
      ∧ r.2.mem ((c.tc : Thread Cert.RefIdeal.nD Cert.RefIdeal.τ).loc Cert.RefIdeal.main_arg13) = m ((c.tc : Thread Cert.RefIdeal.nD Cert.RefIdeal.τ).loc Cert.RefIdeal.main_arg13)
      ∧ r.2.mem ((c.tc : Thread Cert.RefIdeal.nD Cert.RefIdeal.τ).loc Cert.RefIdeal.main_arg14) = m ((c.tc : Thread Cert.RefIdeal.nD Cert.RefIdeal.τ).loc Cert.RefIdeal.main_arg14)
      ∧ r.2.mem ((c.tc : Thread Cert.RefIdeal.nD Cert.RefIdeal.τ).loc Cert.RefIdeal.main_arg15) = m ((c.tc : Thread Cert.RefIdeal.nD Cert.RefIdeal.τ).loc Cert.RefIdeal.main_arg15))
      ∧ r.2.sem = fun _ => 0)

def quiescent_RefIdeal_pre_finite [hRefIdeal : Cert.RefIdeal.Facts] [hPre_finite : Cert.Pre_finite.Facts] : Prop :=
  ∀ (m : (ℓ : Loc Cert.RefIdeal.nD Cert.RefIdeal.τ Cert.RefIdeal.sig) → Buf (Elt Ideal) ℓ) (g : Dev Cert.RefIdeal.nD → PrngReg), Pre_RefIdeal_finite m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8)
      ∧ r.2.mem ((c.tc : Thread Cert.RefIdeal.nD Cert.RefIdeal.τ).loc Cert.RefIdeal.main_arg9) = m ((c.tc : Thread Cert.RefIdeal.nD Cert.RefIdeal.τ).loc Cert.RefIdeal.main_arg9)
      ∧ r.2.mem ((c.tc : Thread Cert.RefIdeal.nD Cert.RefIdeal.τ).loc Cert.RefIdeal.main_arg10) = m ((c.tc : Thread Cert.RefIdeal.nD Cert.RefIdeal.τ).loc Cert.RefIdeal.main_arg10)
      ∧ r.2.mem ((c.tc : Thread Cert.RefIdeal.nD Cert.RefIdeal.τ).loc Cert.RefIdeal.main_arg11) = m ((c.tc : Thread Cert.RefIdeal.nD Cert.RefIdeal.τ).loc Cert.RefIdeal.main_arg11)
      ∧ r.2.mem ((c.tc : Thread Cert.RefIdeal.nD Cert.RefIdeal.τ).loc Cert.RefIdeal.main_arg12) = m ((c.tc : Thread Cert.RefIdeal.nD Cert.RefIdeal.τ).loc Cert.RefIdeal.main_arg12)
      ∧ r.2.mem ((c.tc : Thread Cert.RefIdeal.nD Cert.RefIdeal.τ).loc Cert.RefIdeal.main_arg13) = m ((c.tc : Thread Cert.RefIdeal.nD Cert.RefIdeal.τ).loc Cert.RefIdeal.main_arg13)
      ∧ r.2.mem ((c.tc : Thread Cert.RefIdeal.nD Cert.RefIdeal.τ).loc Cert.RefIdeal.main_arg14) = m ((c.tc : Thread Cert.RefIdeal.nD Cert.RefIdeal.τ).loc Cert.RefIdeal.main_arg14)
      ∧ r.2.mem ((c.tc : Thread Cert.RefIdeal.nD Cert.RefIdeal.τ).loc Cert.RefIdeal.main_arg15) = m ((c.tc : Thread Cert.RefIdeal.nD Cert.RefIdeal.τ).loc Cert.RefIdeal.main_arg15))
      ∧ r.2.sem = fun _ => 0)

def preserves_Kernel_KernelIdeal : Prop :=
  IdealRules.named_const.Statement Cert.KernelIdeal.κ "mask" .f32 0xF149F2CA#32 ⊥

def algebraic_KernelIdeal_RefIdeal_pre_finite [hKernelIdeal : Cert.KernelIdeal.Facts] [hRefIdeal : Cert.RefIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal_finite m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)
      ∧ m' ((c.tc : Thread Cert.RefIdeal.nD Cert.RefIdeal.τ).loc Cert.RefIdeal.main_arg7) = m ((c.tc : Thread Cert.KernelIdeal.nD Cert.KernelIdeal.τ).loc Cert.KernelIdeal.main_arg7)
      ∧ m' ((c.tc : Thread Cert.RefIdeal.nD Cert.RefIdeal.τ).loc Cert.RefIdeal.main_arg8) = m ((c.tc : Thread Cert.KernelIdeal.nD Cert.KernelIdeal.τ).loc Cert.KernelIdeal.main_arg8)
      ∧ m' ((c.tc : Thread Cert.RefIdeal.nD Cert.RefIdeal.τ).loc Cert.RefIdeal.main_arg9) = m ((c.tc : Thread Cert.KernelIdeal.nD Cert.KernelIdeal.τ).loc Cert.KernelIdeal.main_arg9)
      ∧ m' ((c.tc : Thread Cert.RefIdeal.nD Cert.RefIdeal.τ).loc Cert.RefIdeal.main_arg10) = m ((c.tc : Thread Cert.KernelIdeal.nD Cert.KernelIdeal.τ).loc Cert.KernelIdeal.main_arg10)
      ∧ m' ((c.tc : Thread Cert.RefIdeal.nD Cert.RefIdeal.τ).loc Cert.RefIdeal.main_arg11) = m ((c.tc : Thread Cert.KernelIdeal.nD Cert.KernelIdeal.τ).loc Cert.KernelIdeal.main_arg11)
      ∧ m' ((c.tc : Thread Cert.RefIdeal.nD Cert.RefIdeal.τ).loc Cert.RefIdeal.main_arg12) = m ((c.tc : Thread Cert.KernelIdeal.nD Cert.KernelIdeal.τ).loc Cert.KernelIdeal.main_arg12)
      ∧ m' ((c.tc : Thread Cert.RefIdeal.nD Cert.RefIdeal.τ).loc Cert.RefIdeal.main_arg13) = m ((c.tc : Thread Cert.KernelIdeal.nD Cert.KernelIdeal.τ).loc Cert.KernelIdeal.main_arg13)
      ∧ m' ((c.tc : Thread Cert.RefIdeal.nD Cert.RefIdeal.τ).loc Cert.RefIdeal.main_arg14) = m ((c.tc : Thread Cert.KernelIdeal.nD Cert.KernelIdeal.τ).loc Cert.KernelIdeal.main_arg14)
      ∧ m' ((c.tc : Thread Cert.RefIdeal.nD Cert.RefIdeal.τ).loc Cert.RefIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v285) = v0 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6)
          ∧ r.2.mem ((c.tc : Thread Cert.RefIdeal.nD Cert.RefIdeal.τ).loc Cert.RefIdeal.main_arg7) = m' ((c.tc : Thread Cert.RefIdeal.nD Cert.RefIdeal.τ).loc Cert.RefIdeal.main_arg7)
          ∧ r.2.mem ((c.tc : Thread Cert.RefIdeal.nD Cert.RefIdeal.τ).loc Cert.RefIdeal.main_arg8) = m' ((c.tc : Thread Cert.RefIdeal.nD Cert.RefIdeal.τ).loc Cert.RefIdeal.main_arg8)
          ∧ r.2.mem ((c.tc : Thread Cert.RefIdeal.nD Cert.RefIdeal.τ).loc Cert.RefIdeal.main_arg9) = m' ((c.tc : Thread Cert.RefIdeal.nD Cert.RefIdeal.τ).loc Cert.RefIdeal.main_arg9)
          ∧ r.2.mem ((c.tc : Thread Cert.RefIdeal.nD Cert.RefIdeal.τ).loc Cert.RefIdeal.main_arg10) = m' ((c.tc : Thread Cert.RefIdeal.nD Cert.RefIdeal.τ).loc Cert.RefIdeal.main_arg10)
          ∧ r.2.mem ((c.tc : Thread Cert.RefIdeal.nD Cert.RefIdeal.τ).loc Cert.RefIdeal.main_arg11) = m' ((c.tc : Thread Cert.RefIdeal.nD Cert.RefIdeal.τ).loc Cert.RefIdeal.main_arg11)
          ∧ r.2.mem ((c.tc : Thread Cert.RefIdeal.nD Cert.RefIdeal.τ).loc Cert.RefIdeal.main_arg12) = m' ((c.tc : Thread Cert.RefIdeal.nD Cert.RefIdeal.τ).loc Cert.RefIdeal.main_arg12)
          ∧ r.2.mem ((c.tc : Thread Cert.RefIdeal.nD Cert.RefIdeal.τ).loc Cert.RefIdeal.main_arg13) = m' ((c.tc : Thread Cert.RefIdeal.nD Cert.RefIdeal.τ).loc Cert.RefIdeal.main_arg13)
          ∧ r.2.mem ((c.tc : Thread Cert.RefIdeal.nD Cert.RefIdeal.τ).loc Cert.RefIdeal.main_arg14) = m' ((c.tc : Thread Cert.RefIdeal.nD Cert.RefIdeal.τ).loc Cert.RefIdeal.main_arg14)
          ∧ r.2.mem ((c.tc : Thread Cert.RefIdeal.nD Cert.RefIdeal.τ).loc Cert.RefIdeal.main_arg15) = m' ((c.tc : Thread Cert.RefIdeal.nD Cert.RefIdeal.τ).loc Cert.RefIdeal.main_arg15))

def Claim : Prop :=
  ∃ (hKernel : Cert.Kernel.Facts) (hKernelIdeal : Cert.KernelIdeal.Facts) (hRefIdeal : Cert.RefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_RefIdeal (hRefIdeal := hRefIdeal)
    ∧ quiescent_RefIdeal_pre_finite (hRefIdeal := hRefIdeal) (hPre_finite := hPre_finite)
    ∧ preserves_Kernel_KernelIdeal
    ∧ algebraic_KernelIdeal_RefIdeal_pre_finite (hKernelIdeal := hKernelIdeal) (hRefIdeal := hRefIdeal) (hPre_finite := hPre_finite)
-- ==== Pre_finite.lean ====
abbrev S2x8192x1024 : Shape := ⟨3, ![2, 8192, 1024]⟩
abbrev S2x2x8192x256 : Shape := ⟨4, ![2, 2, 8192, 256]⟩
abbrev S2x1024 : Shape := ⟨2, ![2, 1024]⟩
abbrev S1x1024x4096 : Shape := ⟨3, ![1, 1024, 4096]⟩
abbrev S1x1024x1024 : Shape := ⟨3, ![1, 1024, 1024]⟩
abbrev S1024 : Shape := ⟨1, ![1024]⟩
abbrev S1024x2048 : Shape := ⟨2, ![1024, 2048]⟩
abbrev S1x1024x2048 : Shape := ⟨3, ![1, 1024, 2048]⟩
abbrev S1x4x64 : Shape := ⟨3, ![1, 4, 64]⟩
abbrev S1x128 : Shape := ⟨2, ![1, 128]⟩
abbrev S32x8 : Shape := ⟨2, ![32, 8]⟩
abbrev S2x256x1024 : Shape := ⟨3, ![2, 256, 1024]⟩
abbrev S2x1024x1024 : Shape := ⟨3, ![2, 1024, 1024]⟩
abbrev S1x1024 : Shape := ⟨2, ![1, 1024]⟩
abbrev S_ : Shape := ⟨0, ![]⟩

class Facts : Prop where
  slices_S2x1024_S1x1024_1_0 : S2x1024.Slices ![1, 0] S1x1024
  shapeCasts_S1x1024_S1024 : S1x1024.ShapeCasts S1024
  bcast_S_S1024 : S_.BroadcastsInDim S1024 (![] : Fin 0 → Fin S1024.rank)
  bcast_S_S1024x2048 : S_.BroadcastsInDim S1024x2048 (![] : Fin 0 → Fin S1024x2048.rank)
  bcast_S_S1x1024x2048 : S_.BroadcastsInDim S1x1024x2048 (![] : Fin 0 → Fin S1x1024x2048.rank)
  bcast_S_S1x4x64 : S_.BroadcastsInDim S1x4x64 (![] : Fin 0 → Fin S1x4x64.rank)
  bcast_S_S32x8 : S_.BroadcastsInDim S32x8 (![] : Fin 0 → Fin S32x8.rank)

variable [Facts]

def fn_part1 {F : FTy → Type} [FloatOps F] (main_v4 : IVec S1024 1) (main_v7 : IVec S1024 1) (main_v10 : IVec S1024x2048 1) (main_v13 : IVec S1x1024x2048 1) (main_v16 : IVec S1x4x64 1) (main_v17 : FVec F S32x8 .f32) (main_cst_4 : FVec F S_ .f32) : IVec S1024 1 × IVec S1024 1 × IVec S1024x2048 1 × IVec S1x1024x2048 1 × IVec S1x4x64 1 × IVec S32x8 1 :=
  let main_v18 : FVec F S32x8 .f32 := broadcastInDim S32x8 ![] bcast_S_S32x8 main_cst_4
  let main_v19 : IVec S32x8 1 := cmpf .olt main_v17 main_v18
  (main_v4, main_v7, main_v10, main_v13, main_v16, main_v19)

def fn {F : FTy → Type} [FloatOps F] (main_arg0 : FVec F S2x8192x1024 .f32) (main_arg1 : FVec F S2x2x8192x256 .f32) (main_arg2 : FVec F S2x1024 .f32) (main_arg3 : FVec F S1x1024x4096 .f32) (main_arg4 : FVec F S1x1024x1024 .f32) (main_arg5 : FVec F S1024 .f32) (main_arg6 : FVec F S1024x2048 .f32) (main_arg7 : FVec F S1x1024x2048 .f32) (main_arg8 : FVec F S1x4x64 .f32) (main_arg9 : FVec F S1x128 .f32) (main_arg10 : FVec F S1x1024x1024 .f32) (main_arg11 : FVec F S32x8 .f32) (main_arg12 : FVec F S2x1024 .f32) (main_arg13 : FVec F S2x256x1024 .f32) (main_arg14 : FVec F S2x1024x1024 .f32) (main_arg15 : FVec F S1024 .f32) : IVec S1024 1 × IVec S1024 1 × IVec S1024x2048 1 × IVec S1x1024x2048 1 × IVec S1x4x64 1 × IVec S32x8 1 :=
  let main_v0 : FVec F S1x1024 .f32 := (extractStridedSlice S1x1024 ![1, 0] · slices_S2x1024_S1x1024_1_0) main_arg2
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_v5 : FVec F S1024 .f32 := Host.absf main_arg5
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_v8 : FVec F S1024x2048 .f32 := Host.absf main_arg6
  let main_cst_1 : FVec F S_ .f32 := constant S_ .f32 0x7F800000#32
  let main_v9 : FVec F S1024x2048 .f32 := broadcastInDim S1024x2048 ![] bcast_S_S1024x2048 main_cst_1
  let main_v10 : IVec S1024x2048 1 := cmpf .olt main_v8 main_v9
  let main_v11 : FVec F S1x1024x2048 .f32 := Host.absf main_arg7
  let main_cst_2 : FVec F S_ .f32 := constant S_ .f32 0x7F800000#32
  let main_v12 : FVec F S1x1024x2048 .f32 := broadcastInDim S1x1024x2048 ![] bcast_S_S1x1024x2048 main_cst_2
  let main_v13 : IVec S1x1024x2048 1 := cmpf .olt main_v11 main_v12
  let main_v14 : FVec F S1x4x64 .f32 := Host.absf main_arg8
  let main_cst_3 : FVec F S_ .f32 := constant S_ .f32 0x7F800000#32
  let main_v15 : FVec F S1x4x64 .f32 := broadcastInDim S1x4x64 ![] bcast_S_S1x4x64 main_cst_3
  let main_v16 : IVec S1x4x64 1 := cmpf .olt main_v14 main_v15
  let main_v17 : FVec F S32x8 .f32 := Host.absf main_arg11
  let main_cst_4 : FVec F S_ .f32 := constant S_ .f32 0x7F800000#32
  fn_part1 (F := F) main_v4 main_v7 main_v10 main_v13 main_v16 main_v17 main_cst_4
-- ==== Kernel.lean ====
abbrev S2x8192x1024 : Shape := ⟨3, ![2, 8192, 1024]⟩
abbrev S2x2x8192x256 : Shape := ⟨4, ![2, 2, 8192, 256]⟩
abbrev S2x1024 : Shape := ⟨2, ![2, 1024]⟩
abbrev S1x1024x4096 : Shape := ⟨3, ![1, 1024, 4096]⟩
abbrev S1x1024x1024 : Shape := ⟨3, ![1, 1024, 1024]⟩
abbrev S1024 : Shape := ⟨1, ![1024]⟩
abbrev S1024x2048 : Shape := ⟨2, ![1024, 2048]⟩
abbrev S1x1024x2048 : Shape := ⟨3, ![1, 1024, 2048]⟩
abbrev S1x4x64 : Shape := ⟨3, ![1, 4, 64]⟩
abbrev S1x128 : Shape := ⟨2, ![1, 128]⟩
abbrev S32x8 : Shape := ⟨2, ![32, 8]⟩
abbrev S2x256x1024 : Shape := ⟨3, ![2, 256, 1024]⟩
abbrev S2x1024x1024 : Shape := ⟨3, ![2, 1024, 1024]⟩
abbrev S16384x1024 : Shape := ⟨2, ![16384, 1024]⟩
abbrev S2x16384x256 : Shape := ⟨3, ![2, 16384, 256]⟩
abbrev S1024x4096 : Shape := ⟨2, ![1024, 4096]⟩
abbrev S1024x1024 : Shape := ⟨2, ![1024, 1024]⟩
abbrev S2048x1024 : Shape := ⟨2, ![2048, 1024]⟩
abbrev S1024x512 : Shape := ⟨2, ![1024, 512]⟩
abbrev S1024x8x64 : Shape := ⟨3, ![1024, 8, 64]⟩
abbrev S1024x8x1x64 : Shape := ⟨4, ![1024, 8, 1, 64]⟩
abbrev S1024x8x2x64 : Shape := ⟨4, ![1024, 8, 2, 64]⟩
abbrev S4x64 : Shape := ⟨2, ![4, 64]⟩
abbrev S8x2x256x256 : Shape := ⟨4, ![8, 2, 256, 256]⟩
abbrev S8x128 : Shape := ⟨2, ![8, 128]⟩
abbrev S1x2x256x256 : Shape := ⟨4, ![1, 2, 256, 256]⟩
abbrev S256x256 : Shape := ⟨2, ![256, 256]⟩
abbrev S1x1 : Shape := ⟨2, ![1, 1]⟩
abbrev S1x1x256x256 : Shape := ⟨4, ![1, 1, 256, 256]⟩
abbrev S1x64 : Shape := ⟨2, ![1, 64]⟩
abbrev S1 : Shape := ⟨1, ![1]⟩
abbrev S1x1024 : Shape := ⟨2, ![1, 1024]⟩
abbrev S64x1024x256 : Shape := ⟨3, ![64, 1024, 256]⟩
abbrev S512x1024 : Shape := ⟨2, ![512, 1024]⟩
abbrev S2x1024x256 : Shape := ⟨3, ![2, 1024, 256]⟩
abbrev S512 : Shape := ⟨1, ![512]⟩
abbrev S512x1 : Shape := ⟨2, ![512, 1]⟩
abbrev S1024x256 : Shape := ⟨2, ![1024, 256]⟩
abbrev S1x1024x256 : Shape := ⟨3, ![1, 1024, 256]⟩
abbrev S1x128x256 : Shape := ⟨3, ![1, 128, 256]⟩
abbrev S8192x128 : Shape := ⟨2, ![8192, 128]⟩
abbrev S32x128x256 : Shape := ⟨3, ![32, 128, 256]⟩
abbrev S256x128 : Shape := ⟨2, ![256, 128]⟩
abbrev S128x256 : Shape := ⟨2, ![128, 256]⟩
abbrev S64x256 : Shape := ⟨2, ![64, 256]⟩
abbrev S1x256 : Shape := ⟨2, ![1, 256]⟩
abbrev S1x64x256 : Shape := ⟨3, ![1, 64, 256]⟩
abbrev S1x16384x256 : Shape := ⟨3, ![1, 16384, 256]⟩
abbrev S16384x256 : Shape := ⟨2, ![16384, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S128 : Shape := ⟨1, ![128]⟩
abbrev S128x1 : Shape := ⟨2, ![128, 1]⟩
abbrev S512x256 : Shape := ⟨2, ![512, 256]⟩

abbrev nBuf : Space → Nat
  | .hbm => 106
  | .vmem => 79
  | .smem => 2
  | _ => 0

abbrev bufTy : (tb : Table) → Fin (tcTables nBuf tb) → BufTy
  | .hbm, ⟨0, _⟩ => ⟨S2x8192x1024, .f32⟩
  | .hbm, ⟨1, _⟩ => ⟨S2x2x8192x256, .f32⟩
  | .hbm, ⟨2, _⟩ => ⟨S2x1024, .f32⟩
  | .hbm, ⟨3, _⟩ => ⟨S1x1024x4096, .f32⟩
  | .hbm, ⟨4, _⟩ => ⟨S1x1024x1024, .f32⟩
  | .hbm, ⟨5, _⟩ => ⟨S1024, .f32⟩
  | .hbm, ⟨6, _⟩ => ⟨S1024x2048, .f32⟩
  | .hbm, ⟨7, _⟩ => ⟨S1x1024x2048, .f32⟩
  | .hbm, ⟨8, _⟩ => ⟨S1x4x64, .f32⟩
  | .hbm, ⟨9, _⟩ => ⟨S1x128, .f32⟩
  | .hbm, ⟨10, _⟩ => ⟨S1x1024x1024, .f32⟩
  | .hbm, ⟨11, _⟩ => ⟨S32x8, .f32⟩
  | .hbm, ⟨12, _⟩ => ⟨S2x1024, .f32⟩
  | .hbm, ⟨13, _⟩ => ⟨S2x256x1024, .f32⟩
  | .hbm, ⟨14, _⟩ => ⟨S2x1024x1024, .f32⟩
  | .hbm, ⟨15, _⟩ => ⟨S1024, .f32⟩
  | .hbm, ⟨16, _⟩ => ⟨S16384x1024, .f32⟩
  | .hbm, ⟨17, _⟩ => ⟨S2x16384x256, .f32⟩
  | .hbm, ⟨18, _⟩ => ⟨S1024x4096, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x2048, .f32⟩
  | .hbm, ⟨24, _⟩ => ⟨S1024x2048, .bf16⟩
  | .hbm, ⟨25, _⟩ => ⟨S1024x2048, .f32⟩
  | .hbm, ⟨26, _⟩ => ⟨S2048x1024, .f32⟩
  | .hbm, ⟨27, _⟩ => ⟨S2048x1024, .bf16⟩
  | .hbm, ⟨28, _⟩ => ⟨S1024x512, .f32⟩
  | .hbm, ⟨29, _⟩ => ⟨S1024x512, .f32⟩
  | .hbm, ⟨30, _⟩ => ⟨S1024x1024, .f32⟩
  | .hbm, ⟨31, _⟩ => ⟨S1024x2048, .f32⟩
  | .hbm, ⟨32, _⟩ => ⟨S1024x512, .f32⟩
  | .hbm, ⟨33, _⟩ => ⟨S1024x512, .f32⟩
  | .hbm, ⟨34, _⟩ => ⟨S1024x1024, .f32⟩
  | .hbm, ⟨35, _⟩ => ⟨S1024x8x64, .f32⟩
  | .hbm, ⟨36, _⟩ => ⟨S1024x8x64, .f32⟩
  | .hbm, ⟨37, _⟩ => ⟨S1024x8x1x64, .f32⟩
  | .hbm, ⟨38, _⟩ => ⟨S1024x8x1x64, .f32⟩
  | .hbm, ⟨39, _⟩ => ⟨S1024x8x2x64, .f32⟩
  | .hbm, ⟨40, _⟩ => ⟨S1024x1024, .f32⟩
  | .hbm, ⟨41, _⟩ => ⟨S1024x1024, .bf16⟩
  | .hbm, ⟨42, _⟩ => ⟨S1024x8x64, .f32⟩
  | .hbm, ⟨43, _⟩ => ⟨S1024x8x64, .f32⟩
  | .hbm, ⟨44, _⟩ => ⟨S1024x8x1x64, .f32⟩
  | .hbm, ⟨45, _⟩ => ⟨S1024x8x1x64, .f32⟩
  | .hbm, ⟨46, _⟩ => ⟨S1024x8x2x64, .f32⟩
  | .hbm, ⟨47, _⟩ => ⟨S1024x1024, .f32⟩
  | .hbm, ⟨48, _⟩ => ⟨S1024x1024, .f32⟩
  | .hbm, ⟨49, _⟩ => ⟨S1024x1024, .bf16⟩
  | .hbm, ⟨50, _⟩ => ⟨S1024x1024, .f32⟩
  | .hbm, ⟨51, _⟩ => ⟨S1024x1024, .bf16⟩
  | .hbm, ⟨52, _⟩ => ⟨S4x64, .f32⟩
  | .hbm, ⟨53, _⟩ => ⟨S8x2x256x256, .f32⟩
  | .hbm, ⟨54, _⟩ => ⟨S8x128, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S16384x1024, .bf16⟩
  | .hbm, ⟨59, _⟩ => ⟨S16384x1024, .f32⟩
  | .hbm, ⟨60, _⟩ => ⟨S64x1024x256, .bf16⟩
  | .hbm, ⟨61, _⟩ => ⟨S64x1024x256, .bf16⟩
  | .hbm, ⟨62, _⟩ => ⟨S16384x1024, .f32⟩
  | .hbm, ⟨63, _⟩ => ⟨S1x16384x256, .f32⟩
  | .hbm, ⟨64, _⟩ => ⟨S16384x256, .f32⟩
  | .hbm, ⟨65, _⟩ => ⟨S1x1024, .f32⟩
  | .hbm, ⟨66, _⟩ => ⟨S1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1024, .f32⟩
  | .hbm, ⟨71, _⟩ => ⟨S1x1024, .f32⟩
  | .hbm, ⟨72, _⟩ => ⟨S1024x1024, .f32⟩
  | .hbm, ⟨73, _⟩ => ⟨S1024x1024, .bf16⟩
  | .hbm, ⟨74, _⟩ => ⟨S1x1024x1024, .f32⟩
  | .hbm, ⟨75, _⟩ => ⟨S1024x1024, .f32⟩
  | .hbm, ⟨76, _⟩ => ⟨S1024x1024, .bf16⟩
  | .hbm, ⟨77, _⟩ => ⟨S1x256x1024, .f32⟩
  | .hbm, ⟨78, _⟩ => ⟨S256x1024, .f32⟩
  | .hbm, ⟨79, _⟩ => ⟨S256x1024, .bf16⟩
  | .hbm, ⟨80, _⟩ => ⟨S1024x1024, .bf16⟩
  | .hbm, ⟨81, _⟩ => ⟨S16384x1024, .f32⟩
  | .hbm, ⟨82, _⟩ => ⟨S16384x1024, .bf16⟩
  | .hbm, ⟨83, _⟩ => ⟨S64x1024x256, .bf16⟩
  | .hbm, ⟨84, _⟩ => ⟨S64x1024x256, .bf16⟩
  | .hbm, ⟨85, _⟩ => ⟨S16384x1024, .f32⟩
  | .hbm, ⟨86, _⟩ => ⟨S1x1, .f32⟩
  | .hbm, ⟨87, _⟩ => ⟨S128, .f32⟩
  | .hbm, ⟨88, _⟩ => ⟨S128x1, .f32⟩
  | .hbm, ⟨89, _⟩ => ⟨S16384x1024, .f32⟩
  | .hbm, ⟨90, _⟩ => ⟨S1x16384x256, .f32⟩
  | .hbm, ⟨91, _⟩ => ⟨S16384x256, .f32⟩
  | .hbm, ⟨92, _⟩ => ⟨S1x1024, .f32⟩
  | .hbm, ⟨93, _⟩ => ⟨S1024, .f32⟩
  | .hbm, ⟨94, _⟩ => ⟨S1x1024, .f32⟩
  | .hbm, ⟨95, _⟩ => ⟨S1x1024, .f32⟩
  | .hbm, ⟨96, _⟩ => ⟨S1024x1024, .f32⟩
  | .hbm, ⟨97, _⟩ => ⟨S1024x1024, .bf16⟩
  | .hbm, ⟨98, _⟩ => ⟨S1x1024x1024, .f32⟩
  | .hbm, ⟨99, _⟩ => ⟨S1024x1024, .f32⟩
  | .hbm, ⟨100, _⟩ => ⟨S1024x1024, .bf16⟩
  | .hbm, ⟨101, _⟩ => ⟨S1x256x1024, .f32⟩
  | .hbm, ⟨102, _⟩ => ⟨S256x1024, .f32⟩
  | .hbm, ⟨103, _⟩ => ⟨S256x1024, .bf16⟩
  | .hbm, ⟨104, _⟩ => ⟨S16384x1024, .f32⟩
  | .hbm, ⟨105, _⟩ => ⟨S2x8192x1024, .f32⟩
  | .local _ .vmem, ⟨0, _⟩ => ⟨S4x64, .f32⟩
  | .local _ .vmem, ⟨1, _⟩ => ⟨S1x2x256x256, .f32⟩
  | .local _ .vmem, ⟨2, _⟩ => ⟨S1x2x256x256, .f32⟩
  | .local _ .vmem, ⟨3, _⟩ => ⟨S8x128, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x2048, .bf16⟩
  | .local _ .vmem, ⟨8, _⟩ => ⟨S2048x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S2x1024x256, .bf16⟩
  | .local _ .vmem, ⟨14, _⟩ => ⟨S2x1024x256, .bf16⟩
  | .local _ .vmem, ⟨15, _⟩ => ⟨S2x1024x256, .bf16⟩
  | .local _ .vmem, ⟨16, _⟩ => ⟨S2x1024x256, .bf16⟩
  | .local _ .vmem, ⟨17, _⟩ => ⟨S1x128x256, .bf16⟩
  | .local _ .vmem, ⟨18, _⟩ => ⟨S1x128x256, .bf16⟩
  | .local _ .vmem, ⟨19, _⟩ => ⟨S8192x128, .bf16⟩
  | .local _ .vmem, ⟨20, _⟩ => ⟨S8192x128, .bf16⟩
  | .local _ .vmem, ⟨21, _⟩ => ⟨S32x128x256, .bf16⟩
  | .local _ .vmem, ⟨22, _⟩ => ⟨S32x128x256, .bf16⟩
  | .local _ .vmem, ⟨23, _⟩ => ⟨S256x128, .f32⟩
  | .local _ .vmem, ⟨24, _⟩ => ⟨S256x128, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x256, .f32⟩
  | .local _ .vmem, ⟨32, _⟩ => ⟨S256x256, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1024x1024, .bf16⟩
  | .local _ .vmem, ⟨37, _⟩ => ⟨S1024x1024, .bf16⟩
  | .local _ .vmem, ⟨38, _⟩ => ⟨S256x1024, .bf16⟩
  | .local _ .vmem, ⟨39, _⟩ => ⟨S1024x1024, .bf16⟩
  | .local _ .vmem, ⟨40, _⟩ => ⟨S1024x1024, .bf16⟩
  | .local _ .vmem, ⟨41, _⟩ => ⟨S1024x1024, .bf16⟩
  | .local _ .vmem, ⟨42, _⟩ => ⟨S1024x1024, .bf16⟩
  | .local _ .vmem, ⟨43, _⟩ => ⟨S256x1024, .f32⟩
  | .local _ .vmem, ⟨44, _⟩ => ⟨S256x1024, .f32⟩
  | .local _ .vmem, ⟨45, _⟩ => ⟨S256x1024, .bf16⟩
  | .local _ .vmem, ⟨46, _⟩ => ⟨S256x1024, .bf16⟩
  | .local _ .vmem, ⟨47, _⟩ => ⟨S1x1024x256, .bf16⟩
  | .local _ .vmem, ⟨48, _⟩ => ⟨S1x1024x256, .bf16⟩
  | .local _ .vmem, ⟨49, _⟩ => ⟨S1x1024x256, .bf16⟩
  | .local _ .vmem, ⟨50, _⟩ => ⟨S1x1024x256, .bf16⟩
  | .local _ .vmem, ⟨51, _⟩ => ⟨S256x1024, .f32⟩
  | .local _ .vmem, ⟨52, _⟩ => ⟨S256x1024, .f32⟩
  | .local _ .vmem, ⟨53, _⟩ => ⟨S1x128x256, .bf16⟩
  | .local _ .vmem, ⟨54, _⟩ => ⟨S1x128x256, .bf16⟩
  | .local _ .vmem, ⟨55, _⟩ => ⟨S8192x128, .bf16⟩
  | .local _ .vmem, ⟨56, _⟩ => ⟨S8192x128, .bf16⟩
  | .local _ .vmem, ⟨57, _⟩ => ⟨S32x128x256, .bf16⟩
  | .local _ .vmem, ⟨58, _⟩ => ⟨S32x128x256, .bf16⟩
  | .local _ .vmem, ⟨59, _⟩ => ⟨S1x2x256x256, .f32⟩
  | .local _ .vmem, ⟨60, _⟩ => ⟨S1x2x256x256, .f32⟩
  | .local _ .vmem, ⟨61, _⟩ => ⟨S128x1, .f32⟩
  | .local _ .vmem, ⟨62, _⟩ => ⟨S256x128, .f32⟩
  | .local _ .vmem, ⟨63, _⟩ => ⟨S256x128, .f32⟩
  | .local _ .vmem, ⟨64, _⟩ => ⟨S512x1024, .f32⟩
  | .local _ .vmem, ⟨65, _⟩ => ⟨S512x1024, .f32⟩
  | .local _ .vmem, ⟨66, _⟩ => ⟨S512x1024, .f32⟩
  | .local _ .vmem, ⟨67, _⟩ => ⟨S512x1024, .f32⟩
  | .local _ .vmem, ⟨68, _⟩ => ⟨S512x1024, .f32⟩
  | .local _ .vmem, ⟨69, _⟩ => ⟨S512x1024, .f32⟩
  | .local _ .vmem, ⟨70, _⟩ => ⟨S512x256, .f32⟩
  | .local _ .vmem, ⟨71, _⟩ => ⟨S512x256, .f32⟩
  | .local _ .vmem, ⟨72, _⟩ => ⟨S1x1024, .f32⟩
  | .local _ .vmem, ⟨73, _⟩ => ⟨S1x1024, .f32⟩
  | .local _ .vmem, ⟨74, _⟩ => ⟨S1024x1024, .bf16⟩
  | .local _ .vmem, ⟨75, _⟩ => ⟨S1024x1024, .bf16⟩
  | .local _ .vmem, ⟨76, _⟩ => ⟨S256x1024, .bf16⟩
  | .local _ .vmem, ⟨77, _⟩ => ⟨S512x1024, .f32⟩
  | .local _ .vmem, ⟨78, _⟩ => ⟨S512x1024, .f32⟩
  | .local _ .smem, ⟨0, _⟩ => ⟨S32x8, .f32⟩
  | .local _ .smem, ⟨1, _⟩ => ⟨S1x1, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37_0 : Ref sig .tc := ⟨.hbm, 53, rfl⟩
abbrev main_v37_1 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev main_v41_2 : Ref sig .tc := ⟨.hbm, 60, rfl⟩
abbrev main_v41_3 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61_0 : Ref sig .tc := ⟨.hbm, 81, rfl⟩
abbrev main_v61_1 : Ref sig .tc := ⟨.hbm, 82, rfl⟩
abbrev main_v61_2 : Ref sig .tc := ⟨.hbm, 83, rfl⟩
abbrev main_v61_3 : Ref sig .tc := ⟨.hbm, 84, rfl⟩
abbrev main_v61_4 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg10_0 : Ref sig .tc := ⟨.vmem, 39, rfl⟩
abbrev cc3_stg11_0 : Ref sig .tc := ⟨.vmem, 40, rfl⟩
abbrev cc3_stg12_0 : Ref sig .tc := ⟨.vmem, 41, rfl⟩
abbrev cc3_stg13_0 : Ref sig .tc := ⟨.vmem, 42, rfl⟩
abbrev cc3_stg14_0 : Ref sig .tc := ⟨.vmem, 43, rfl⟩
abbrev cc3_stg14_1 : Ref sig .tc := ⟨.vmem, 44, rfl⟩
abbrev cc3_stg15_0 : Ref sig .tc := ⟨.vmem, 45, rfl⟩
abbrev cc3_stg15_1 : Ref sig .tc := ⟨.vmem, 46, rfl⟩
abbrev cc3_stg16_0 : Ref sig .tc := ⟨.vmem, 47, rfl⟩
abbrev cc3_stg16_1 : Ref sig .tc := ⟨.vmem, 48, rfl⟩
abbrev cc3_stg17_0 : Ref sig .tc := ⟨.vmem, 49, rfl⟩
abbrev cc3_stg17_1 : Ref sig .tc := ⟨.vmem, 50, rfl⟩
abbrev cc3_stg18_0 : Ref sig .tc := ⟨.vmem, 51, rfl⟩
abbrev cc3_stg18_1 : Ref sig .tc := ⟨.vmem, 52, rfl⟩
abbrev cc4_stg1_0 : Ref sig .tc := ⟨.vmem, 53, rfl⟩
abbrev cc4_stg1_1 : Ref sig .tc := ⟨.vmem, 54, rfl⟩
abbrev cc4_stg2_0 : Ref sig .tc := ⟨.vmem, 55, rfl⟩
abbrev cc4_stg2_1 : Ref sig .tc := ⟨.vmem, 56, rfl⟩
abbrev cc4_stg3_0 : Ref sig .tc := ⟨.vmem, 57, rfl⟩
abbrev cc4_stg3_1 : Ref sig .tc := ⟨.vmem, 58, rfl⟩
abbrev cc4_stg4_0 : Ref sig .tc := ⟨.vmem, 59, rfl⟩
abbrev cc4_stg4_1 : Ref sig .tc := ⟨.vmem, 60, rfl⟩
abbrev cc4_stg5_0 : Ref sig .tc := ⟨.vmem, 61, rfl⟩
abbrev cc4_stg6_0 : Ref sig .tc := ⟨.vmem, 62, rfl⟩
abbrev cc4_stg6_1 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg1_1 : Ref sig .tc := ⟨.vmem, 67, rfl⟩
abbrev cc5_stg2_0 : Ref sig .tc := ⟨.vmem, 68, rfl⟩
abbrev cc5_stg2_1 : Ref sig .tc := ⟨.vmem, 69, rfl⟩
abbrev cc5_stg3_0 : Ref sig .tc := ⟨.vmem, 70, rfl⟩
abbrev cc5_stg3_1 : Ref sig .tc := ⟨.vmem, 71, rfl⟩
abbrev cc5_stg4_0 : Ref sig .tc := ⟨.vmem, 72, rfl⟩
abbrev cc5_stg5_0 : Ref sig .tc := ⟨.vmem, 73, rfl⟩
abbrev cc5_stg6_0 : Ref sig .tc := ⟨.vmem, 74, rfl⟩
abbrev cc5_stg7_0 : Ref sig .tc := ⟨.vmem, 75, rfl⟩
abbrev cc5_stg8_0 : Ref sig .tc := ⟨.vmem, 76, rfl⟩
abbrev cc5_stg9_0 : Ref sig .tc := ⟨.vmem, 77, rfl⟩
abbrev cc5_stg9_1 : Ref sig .tc := ⟨.vmem, 78, rfl⟩
abbrev cc0_stg0_0 : Ref sig .tc := ⟨.smem, 0, rfl⟩
abbrev cc4_stg0_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem9_0 : DmaSem sig := 39
abbrev cc3_sem10_0 : DmaSem sig := 40
abbrev cc3_sem11_0 : DmaSem sig := 41
abbrev cc3_sem12_0 : DmaSem sig := 42
abbrev cc3_sem13_0 : DmaSem sig := 43
abbrev cc3_sem14_0 : DmaSem sig := 44
abbrev cc3_sem14_1 : DmaSem sig := 45
abbrev cc3_sem15_0 : DmaSem sig := 46
abbrev cc3_sem15_1 : DmaSem sig := 47
abbrev cc3_sem16_0 : DmaSem sig := 48
abbrev cc3_sem16_1 : DmaSem sig := 49
abbrev cc3_sem17_0 : DmaSem sig := 50
abbrev cc3_sem17_1 : DmaSem sig := 51
abbrev cc3_sem18_0 : DmaSem sig := 52
abbrev cc3_sem18_1 : DmaSem sig := 53
abbrev cc4_sem0_0 : DmaSem sig := 54
abbrev cc4_sem1_0 : DmaSem sig := 55
abbrev cc4_sem1_1 : DmaSem sig := 56
abbrev cc4_sem2_0 : DmaSem sig := 57
abbrev cc4_sem2_1 : DmaSem sig := 58
abbrev cc4_sem3_0 : DmaSem sig := 59
abbrev cc4_sem3_1 : DmaSem sig := 60
abbrev cc4_sem4_0 : DmaSem sig := 61
abbrev cc4_sem4_1 : DmaSem sig := 62
abbrev cc4_sem5_0 : DmaSem sig := 63
abbrev cc4_sem6_0 : DmaSem sig := 64
abbrev cc4_sem6_1 : DmaSem sig := 65
abbrev cc5_sem0_0 : DmaSem sig := 66
abbrev cc5_sem0_1 : DmaSem sig := 67
abbrev cc5_sem1_0 : DmaSem sig := 68
abbrev cc5_sem1_1 : DmaSem sig := 69
abbrev cc5_sem2_0 : DmaSem sig := 70
abbrev cc5_sem2_1 : DmaSem sig := 71
abbrev cc5_sem3_0 : DmaSem sig := 72
abbrev cc5_sem3_1 : DmaSem sig := 73
abbrev cc5_sem4_0 : DmaSem sig := 74
abbrev cc5_sem5_0 : DmaSem sig := 75
abbrev cc5_sem6_0 : DmaSem sig := 76
abbrev cc5_sem7_0 : DmaSem sig := 77
abbrev cc5_sem8_0 : DmaSem sig := 78
abbrev cc5_sem9_0 : DmaSem sig := 79
abbrev cc5_sem9_1 : DmaSem sig := 80

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c31 : Index := 31#32
  let arg0 : BitVec 32 := BitVec.ofNat 32 (i 0).val
  let v2 : Index := Scalar.indexCast arg0
  ![31, v2.toNat]
def k0_off2 (i : grid0.Coords) : Fin 2 → Nat :=
  let c0 : Index := 0#32
  let arg0 : BitVec 32 := BitVec.ofNat 32 (i 0).val
  let v30 : Index := Scalar.indexCast arg0
  ![0, v30.toNat]
def k0_off3 (i : grid0.Coords) : Fin 2 → Nat :=
  let c1 : Index := 1#32
  let arg0 : BitVec 32 := BitVec.ofNat 32 (i 0).val
  let v36 : Index := Scalar.indexCast arg0
  ![1, v36.toNat]
def k0_off4 (i : grid0.Coords) : Fin 2 → Nat :=
  let c2 : Index := 2#32
  let arg0 : BitVec 32 := BitVec.ofNat 32 (i 0).val
  let v42 : Index := Scalar.indexCast arg0
  ![2, v42.toNat]
def k0_off5 (i : grid0.Coords) : Fin 2 → Nat :=
  let c3 : Index := 3#32
  let arg0 : BitVec 32 := BitVec.ofNat 32 (i 0).val
  let v48 : Index := Scalar.indexCast arg0
  ![3, v48.toNat]
def k0_off6 (i : grid0.Coords) : Fin 2 → Nat :=
  let c4 : Index := 4#32
  let arg0 : BitVec 32 := BitVec.ofNat 32 (i 0).val
  let v54 : Index := Scalar.indexCast arg0
  ![4, v54.toNat]
def k0_off7 (i : grid0.Coords) : Fin 2 → Nat :=
  let c5 : Index := 5#32
  let arg0 : BitVec 32 := BitVec.ofNat 32 (i 0).val
  let v60 : Index := Scalar.indexCast arg0
  ![5, v60.toNat]
def k0_off8 (i : grid0.Coords) : Fin 2 → Nat :=
  let c6 : Index := 6#32
  let arg0 : BitVec 32 := BitVec.ofNat 32 (i 0).val
  let v66 : Index := Scalar.indexCast arg0
  ![6, v66.toNat]
def k0_off9 (i : grid0.Coords) : Fin 2 → Nat :=
  let c7 : Index := 7#32
  let arg0 : BitVec 32 := BitVec.ofNat 32 (i 0).val
  let v72 : Index := Scalar.indexCast arg0
  ![7, v72.toNat]
def k0_off10 (i : grid0.Coords) : Fin 2 → Nat :=
  let c8 : Index := 8#32
  let arg0 : BitVec 32 := BitVec.ofNat 32 (i 0).val
  let v78 : Index := Scalar.indexCast arg0
  ![8, v78.toNat]
def k0_off11 (i : grid0.Coords) : Fin 2 → Nat :=
  let c9 : Index := 9#32
  let arg0 : BitVec 32 := BitVec.ofNat 32 (i 0).val
  let v84 : Index := Scalar.indexCast arg0
  ![9, v84.toNat]
def k0_off12 (i : grid0.Coords) : Fin 2 → Nat :=
  let c10 : Index := 10#32
  let arg0 : BitVec 32 := BitVec.ofNat 32 (i 0).val
  let v90 : Index := Scalar.indexCast arg0
  ![10, v90.toNat]
def k0_off13 (i : grid0.Coords) : Fin 2 → Nat :=
  let c11 : Index := 11#32
  let arg0 : BitVec 32 := BitVec.ofNat 32 (i 0).val
  let v96 : Index := Scalar.indexCast arg0
  ![11, v96.toNat]
def k0_off14 (i : grid0.Coords) : Fin 2 → Nat :=
  let c12 : Index := 12#32
  let arg0 : BitVec 32 := BitVec.ofNat 32 (i 0).val
  let v102 : Index := Scalar.indexCast arg0
  ![12, v102.toNat]
def k0_off15 (i : grid0.Coords) : Fin 2 → Nat :=
  let c13 : Index := 13#32
  let arg0 : BitVec 32 := BitVec.ofNat 32 (i 0).val
  let v108 : Index := Scalar.indexCast arg0
  ![13, v108.toNat]
def k0_off16 (i : grid0.Coords) : Fin 2 → Nat :=
  let c14 : Index := 14#32
  let arg0 : BitVec 32 := BitVec.ofNat 32 (i 0).val
  let v114 : Index := Scalar.indexCast arg0
  ![14, v114.toNat]
def k0_off17 (i : grid0.Coords) : Fin 2 → Nat :=
  let c15 : Index := 15#32
  let arg0 : BitVec 32 := BitVec.ofNat 32 (i 0).val
  let v120 : Index := Scalar.indexCast arg0
  ![15, v120.toNat]
def k0_off18 (i : grid0.Coords) : Fin 2 → Nat :=
  let c16 : Index := 16#32
  let arg0 : BitVec 32 := BitVec.ofNat 32 (i 0).val
  let v126 : Index := Scalar.indexCast arg0
  ![16, v126.toNat]
def k0_off19 (i : grid0.Coords) : Fin 2 → Nat :=
  let c17 : Index := 17#32
  let arg0 : BitVec 32 := BitVec.ofNat 32 (i 0).val
  let v132 : Index := Scalar.indexCast arg0
  ![17, v132.toNat]
def k0_off20 (i : grid0.Coords) : Fin 2 → Nat :=
  let c18 : Index := 18#32
  let arg0 : BitVec 32 := BitVec.ofNat 32 (i 0).val
  let v138 : Index := Scalar.indexCast arg0
  ![18, v138.toNat]
def k0_off21 (i : grid0.Coords) : Fin 2 → Nat :=
  let c19 : Index := 19#32
  let arg0 : BitVec 32 := BitVec.ofNat 32 (i 0).val
  let v144 : Index := Scalar.indexCast arg0
  ![19, v144.toNat]
def k0_off22 (i : grid0.Coords) : Fin 2 → Nat :=
  let c20 : Index := 20#32
  let arg0 : BitVec 32 := BitVec.ofNat 32 (i 0).val
  let v150 : Index := Scalar.indexCast arg0
  ![20, v150.toNat]
def k0_off23 (i : grid0.Coords) : Fin 2 → Nat :=
  let c21 : Index := 21#32
  let arg0 : BitVec 32 := BitVec.ofNat 32 (i 0).val
  let v156 : Index := Scalar.indexCast arg0
  ![21, v156.toNat]
def k0_off24 (i : grid0.Coords) : Fin 2 → Nat :=
  let c22 : Index := 22#32
  let arg0 : BitVec 32 := BitVec.ofNat 32 (i 0).val
  let v162 : Index := Scalar.indexCast arg0
  ![22, v162.toNat]
def k0_off25 (i : grid0.Coords) : Fin 2 → Nat :=
  let c23 : Index := 23#32
  let arg0 : BitVec 32 := BitVec.ofNat 32 (i 0).val
  let v168 : Index := Scalar.indexCast arg0
  ![23, v168.toNat]
def k0_off26 (i : grid0.Coords) : Fin 2 → Nat :=
  let c24 : Index := 24#32
  let arg0 : BitVec 32 := BitVec.ofNat 32 (i 0).val
  let v174 : Index := Scalar.indexCast arg0
  ![24, v174.toNat]
def k0_off27 (i : grid0.Coords) : Fin 2 → Nat :=
  let c25 : Index := 25#32
  let arg0 : BitVec 32 := BitVec.ofNat 32 (i 0).val
  let v180 : Index := Scalar.indexCast arg0
  ![25, v180.toNat]
def k0_off28 (i : grid0.Coords) : Fin 2 → Nat :=
  let c26 : Index := 26#32
  let arg0 : BitVec 32 := BitVec.ofNat 32 (i 0).val
  let v186 : Index := Scalar.indexCast arg0
  ![26, v186.toNat]
def k0_off29 (i : grid0.Coords) : Fin 2 → Nat :=
  let c27 : Index := 27#32
  let arg0 : BitVec 32 := BitVec.ofNat 32 (i 0).val
  let v192 : Index := Scalar.indexCast arg0
  ![27, v192.toNat]
def k0_off30 (i : grid0.Coords) : Fin 2 → Nat :=
  let c28 : Index := 28#32
  let arg0 : BitVec 32 := BitVec.ofNat 32 (i 0).val
  let v198 : Index := Scalar.indexCast arg0
  ![28, v198.toNat]
def k0_off31 (i : grid0.Coords) : Fin 2 → Nat :=
  let c29 : Index := 29#32
  let arg0 : BitVec 32 := BitVec.ofNat 32 (i 0).val
  let v204 : Index := Scalar.indexCast arg0
  ![29, v204.toNat]
def k0_off32 (i : grid0.Coords) : Fin 2 → Nat :=
  let c30 : Index := 30#32
  let arg0 : BitVec 32 := BitVec.ofNat 32 (i 0).val
  let v210 : Index := Scalar.indexCast arg0
  ![30, v210.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x1024x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2x1024x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨3, ![2, 8, 32], ![false, false, false]⟩

def k2_mult1 (i : grid2.Coords) : BitVec 32 :=
  let arg2 : BitVec 32 := BitVec.ofNat 32 (i 2).val
  let c256_i32 : BitVec 32 := 256#32
  let v22 : BitVec 32 := Scalar.muli arg2 c256_i32
  v22
def k2_off1 (i : grid2.Coords) : Fin 2 → Nat :=
  let arg2 : BitVec 32 := BitVec.ofNat 32 (i 2).val
  let c256_i32 : BitVec 32 := 256#32
  let v22 : BitVec 32 := Scalar.muli arg2 c256_i32
  let v23 : BitVec 32 := v22
  let v24 : Index := Scalar.indexCast v23
  let c0_9 : Index := 0#32
  ![v24.toNat, 0]
def k2_off2 (i : grid2.Coords) : Fin 3 → Nat :=
  let arg2 : BitVec 32 := BitVec.ofNat 32 (i 2).val
  let v49 : Index := Scalar.indexCast arg2
  let c0_18 : Index := 0#32
  let c0_19 : Index := 0#32
  ![v49.toNat, 0, 0]
def k2_off3 (i : grid2.Coords) : Fin 3 → Nat :=
  let arg2 : BitVec 32 := BitVec.ofNat 32 (i 2).val
  let v86 : Index := Scalar.indexCast arg2
  let c64 : Index := 64#32
  let c0_30 : Index := 0#32
  ![v86.toNat, 64, 0]
@[reducible] def k2_t1_loop (i : grid2.Coords) : Scf.Loop 32 :=
  let c0_i32 : BitVec 32 := 0#32
  let arg2 : BitVec 32 := BitVec.ofNat 32 (i 2).val
  let v101 : BitVec 32 := Scalar.subi arg2 c0_i32
  let c1_i32 : BitVec 32 := 1#32
  let v103 : BitVec 32 := Scalar.divsi v101 c1_i32
  let v104 : BitVec 32 := Scalar.muli v103 c1_i32
  let v105 : BitVec 32 := Scalar.addi c0_i32 v104
  let c1_i32_33 : BitVec 32 := 1#32
  ⟨c0_i32, v105, c1_i32_33⟩
def k2_mult2 (i : grid2.Coords) (k2_t1 : Fin (k2_t1_loop i).trips) : BitVec 32 :=
  let arg2 : BitVec 32 := BitVec.ofNat 32 (i 2).val
  let c1_i32_37 : BitVec 32 := 1#32
  let v111 : BitVec 32 := Scalar.subi arg2 c1_i32_37
  let c0_i32 : BitVec 32 := 0#32
  let c1_i32_33 : BitVec 32 := 1#32
  let arg7 : BitVec 32 := Scf.iv c0_i32 c1_i32_33 k2_t1
  let v112 : BitVec 32 := Scalar.subi v111 arg7
  let c256_i32_38 : BitVec 32 := 256#32
  let v113 : BitVec 32 := Scalar.muli v112 c256_i32_38
  v113
def k2_off4 (i : grid2.Coords) (k2_t1 : Fin (k2_t1_loop i).trips) : Fin 2 → Nat :=
  let arg2 : BitVec 32 := BitVec.ofNat 32 (i 2).val
  let c1_i32_37 : BitVec 32 := 1#32
  let v111 : BitVec 32 := Scalar.subi arg2 c1_i32_37
  let c0_i32 : BitVec 32 := 0#32
  let c1_i32_33 : BitVec 32 := 1#32
  let arg7 : BitVec 32 := Scf.iv c0_i32 c1_i32_33 k2_t1
  let v112 : BitVec 32 := Scalar.subi v111 arg7
  let c256_i32_38 : BitVec 32 := 256#32
  let v113 : BitVec 32 := Scalar.muli v112 c256_i32_38
  let v114 : BitVec 32 := v113
  let v115 : Index := Scalar.indexCast v114
  let c0_39 : Index := 0#32
  ![v115.toNat, 0]
def k2_off5 (i : grid2.Coords) (k2_t1 : Fin (k2_t1_loop i).trips) : Fin 3 → Nat :=
  let arg2 : BitVec 32 := BitVec.ofNat 32 (i 2).val
  let c1_i32_37 : BitVec 32 := 1#32
  let v111 : BitVec 32 := Scalar.subi arg2 c1_i32_37
  let c0_i32 : BitVec 32 := 0#32
  let c1_i32_33 : BitVec 32 := 1#32
  let arg7 : BitVec 32 := Scf.iv c0_i32 c1_i32_33 k2_t1
  let v112 : BitVec 32 := Scalar.subi v111 arg7
  let v136 : Index := Scalar.indexCast v112
  let c0_46 : Index := 0#32
  let c0_47 : Index := 0#32
  ![v136.toNat, 0, 0]
def k2_off6 (i : grid2.Coords) (k2_t1 : Fin (k2_t1_loop i).trips) : Fin 3 → Nat :=
  let arg2 : BitVec 32 := BitVec.ofNat 32 (i 2).val
  let c1_i32_37 : BitVec 32 := 1#32
  let v111 : BitVec 32 := Scalar.subi arg2 c1_i32_37
  let c0_i32 : BitVec 32 := 0#32
  let c1_i32_33 : BitVec 32 := 1#32
  let arg7 : BitVec 32 := Scf.iv c0_i32 c1_i32_33 k2_t1
  let v112 : BitVec 32 := Scalar.subi v111 arg7
  let v169 : Index := Scalar.indexCast v112
  let c64_56 : Index := 64#32
  let c0_57 : Index := 0#32
  ![v169.toNat, 64, 0]
@[reducible] def k2_t2_loop (i : grid2.Coords) : Scf.Loop 32 :=
  let c0_i32 : BitVec 32 := 0#32
  let arg2 : BitVec 32 := BitVec.ofNat 32 (i 2).val
  let v101 : BitVec 32 := Scalar.subi arg2 c0_i32
  let c1_i32 : BitVec 32 := 1#32
  let v103 : BitVec 32 := Scalar.divsi v101 c1_i32
  let v104 : BitVec 32 := Scalar.muli v103 c1_i32
  let v105 : BitVec 32 := Scalar.addi c0_i32 v104
  let v102 : BitVec 32 := Scalar.addi c0_i32 v101
  let c1_i32_34 : BitVec 32 := 1#32
  ⟨v105, v102, c1_i32_34⟩
def k2_mult3 (i : grid2.Coords) (k2_t2 : Fin (k2_t2_loop i).trips) : BitVec 32 :=
  let arg2 : BitVec 32 := BitVec.ofNat 32 (i 2).val
  let c1_i32_37 : BitVec 32 := 1#32
  let v111 : BitVec 32 := Scalar.subi arg2 c1_i32_37
  let c0_i32 : BitVec 32 := 0#32
  let v101 : BitVec 32 := Scalar.subi arg2 c0_i32
  let c1_i32 : BitVec 32 := 1#32
  let v103 : BitVec 32 := Scalar.divsi v101 c1_i32
  let v104 : BitVec 32 := Scalar.muli v103 c1_i32
  let v105 : BitVec 32 := Scalar.addi c0_i32 v104
  let c1_i32_34 : BitVec 32 := 1#32
  let arg7 : BitVec 32 := Scf.iv v105 c1_i32_34 k2_t2
  let v112 : BitVec 32 := Scalar.subi v111 arg7
  let c256_i32_38 : BitVec 32 := 256#32
  let v113 : BitVec 32 := Scalar.muli v112 c256_i32_38
  v113
def k2_off7 (i : grid2.Coords) (k2_t2 : Fin (k2_t2_loop i).trips) : Fin 2 → Nat :=
  let arg2 : BitVec 32 := BitVec.ofNat 32 (i 2).val
  let c1_i32_37 : BitVec 32 := 1#32
  let v111 : BitVec 32 := Scalar.subi arg2 c1_i32_37
  let c0_i32 : BitVec 32 := 0#32
  let v101 : BitVec 32 := Scalar.subi arg2 c0_i32
  let c1_i32 : BitVec 32 := 1#32
  let v103 : BitVec 32 := Scalar.divsi v101 c1_i32
  let v104 : BitVec 32 := Scalar.muli v103 c1_i32
  let v105 : BitVec 32 := Scalar.addi c0_i32 v104
  let c1_i32_34 : BitVec 32 := 1#32
  let arg7 : BitVec 32 := Scf.iv v105 c1_i32_34 k2_t2
  let v112 : BitVec 32 := Scalar.subi v111 arg7
  let c256_i32_38 : BitVec 32 := 256#32
  let v113 : BitVec 32 := Scalar.muli v112 c256_i32_38
  let v114 : BitVec 32 := v113
  let v115 : Index := Scalar.indexCast v114
  let c0_39 : Index := 0#32
  ![v115.toNat, 0]
def k2_off8 (i : grid2.Coords) (k2_t2 : Fin (k2_t2_loop i).trips) : Fin 3 → Nat :=
  let arg2 : BitVec 32 := BitVec.ofNat 32 (i 2).val
  let c1_i32_37 : BitVec 32 := 1#32
  let v111 : BitVec 32 := Scalar.subi arg2 c1_i32_37
  let c0_i32 : BitVec 32 := 0#32
  let v101 : BitVec 32 := Scalar.subi arg2 c0_i32
  let c1_i32 : BitVec 32 := 1#32
  let v103 : BitVec 32 := Scalar.divsi v101 c1_i32
  let v104 : BitVec 32 := Scalar.muli v103 c1_i32
  let v105 : BitVec 32 := Scalar.addi c0_i32 v104
  let c1_i32_34 : BitVec 32 := 1#32
  let arg7 : BitVec 32 := Scf.iv v105 c1_i32_34 k2_t2
  let v112 : BitVec 32 := Scalar.subi v111 arg7
  let v136 : Index := Scalar.indexCast v112
  let c0_46 : Index := 0#32
  let c0_47 : Index := 0#32
  ![v136.toNat, 0, 0]
def k2_off9 (i : grid2.Coords) (k2_t2 : Fin (k2_t2_loop i).trips) : Fin 3 → Nat :=
  let arg2 : BitVec 32 := BitVec.ofNat 32 (i 2).val
  let c1_i32_37 : BitVec 32 := 1#32
  let v111 : BitVec 32 := Scalar.subi arg2 c1_i32_37
  let c0_i32 : BitVec 32 := 0#32
  let v101 : BitVec 32 := Scalar.subi arg2 c0_i32
  let c1_i32 : BitVec 32 := 1#32
  let v103 : BitVec 32 := Scalar.divsi v101 c1_i32
  let v104 : BitVec 32 := Scalar.muli v103 c1_i32
  let v105 : BitVec 32 := Scalar.addi c0_i32 v104
  let c1_i32_34 : BitVec 32 := 1#32
  let arg7 : BitVec 32 := Scf.iv v105 c1_i32_34 k2_t2
  let v112 : BitVec 32 := Scalar.subi v111 arg7
  let v169 : Index := Scalar.indexCast v112
  let c64_56 : Index := 64#32
  let c0_57 : Index := 0#32
  ![v169.toNat, 64, 0]
def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let c0_i32_0 : BitVec 32 := 0#32
  ![v1.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage2_0 : Fin 2 → Memref sig .tc .vmem S1x128x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S8192x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S32x128x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_16 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_17 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_18 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024x1024 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1024x1024 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S256x1024 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1024x1024 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1024x1024 .bf16 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1024x1024 .bf16 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1024x1024 .bf16 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S256x1024 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev stage3_15 : Fin 2 → Memref sig .tc .vmem S256x1024 .bf16 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev stage3_16 : Fin 2 → Memref sig .tc .vmem S1x1024x256 .bf16 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true]

abbrev stage3_17 : Fin 2 → Memref sig .tc .vmem S1x1024x256 .bf16 := fun | 0 => Memref.whole cc3_stg17_0 | 1 => Memref.whole cc3_stg17_1 | ⟨_ + 2, h⟩ => absurd h (Nat.not_lt.2 (Nat.le_add_left _ _))
abbrev sem3_17 : Fin 2 → DmaSem sig := fun | 0 => cc3_sem17_0 | 1 => cc3_sem17_1 | ⟨_ + 2, h⟩ => absurd h (Nat.not_lt.2 (Nat.le_add_left _ _))
abbrev reads3_17 : Fin grid3.rank → Bool := ![true]

abbrev stage3_18 : Fin 2 → Memref sig .tc .vmem S256x1024 .f32 := fun | 0 => Memref.whole cc3_stg18_0 | 1 => Memref.whole cc3_stg18_1 | ⟨_ + 2, h⟩ => absurd h (Nat.not_lt.2 (Nat.le_add_left _ _))
abbrev sem3_18 : Fin 2 → DmaSem sig := fun | 0 => cc3_sem18_0 | 1 => cc3_sem18_1 | ⟨_ + 2, h⟩ => absurd h (Nat.not_lt.2 (Nat.le_add_left _ _))
abbrev reads3_18 : Fin grid3.rank → Bool := ![true]

abbrev grid4 : Pipeline.Grid := ⟨3, ![2, 8, 32], ![false, false, false]⟩

def k4_mult1 (i : grid4.Coords) : BitVec 32 :=
  let arg2 : BitVec 32 := BitVec.ofNat 32 (i 2).val
  let c256_i32 : BitVec 32 := 256#32
  let v18 : BitVec 32 := Scalar.muli arg2 c256_i32
  v18
def k4_off1 (i : grid4.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v20 : Index := Scalar.indexCast v19
  let c0_13 : Index := 0#32
  ![v20.toNat, 0]
def k4_off2 (i : grid4.Coords) : Fin 3 → Nat :=
  let arg2 : BitVec 32 := BitVec.ofNat 32 (i 2).val
  let v23 : Index := Scalar.indexCast arg2
  let c0_14 : Index := 0#32
  let c0_15 : Index := 0#32
  ![v23.toNat, 0, 0]
@[reducible] def k4_t1_loop (i : grid4.Coords) : Scf.Loop 32 :=
  let c0_i32 : BitVec 32 := 0#32
  let arg2 : BitVec 32 := BitVec.ofNat 32 (i 2).val
  let c1_i32 : BitVec 32 := 1#32
  let v64 : BitVec 32 := Scalar.minsi arg2 c1_i32
  let v65 : BitVec 32 := Scalar.subi v64 c0_i32
  let c1_i32_24 : BitVec 32 := 1#32
  let v67 : BitVec 32 := Scalar.divsi v65 c1_i32_24
  let v68 : BitVec 32 := Scalar.muli v67 c1_i32_24
  let v69 : BitVec 32 := Scalar.addi c0_i32 v68
  let c1_i32_25 : BitVec 32 := 1#32
  ⟨c0_i32, v69, c1_i32_25⟩
def k4_mult2 (i : grid4.Coords) : BitVec 32 :=
  let arg2 : BitVec 32 := BitVec.ofNat 32 (i 2).val
  let c1_i32_43 : BitVec 32 := 1#32
  let v110 : BitVec 32 := Scalar.subi arg2 c1_i32_43
  let c256_i32_47 : BitVec 32 := 256#32
  let v113 : BitVec 32 := Scalar.muli v110 c256_i32_47
  v113
def k4_off3 (i : grid4.Coords) : Fin 2 → Nat :=
  let arg2 : BitVec 32 := BitVec.ofNat 32 (i 2).val
  let c1_i32_43 : BitVec 32 := 1#32
  let v110 : BitVec 32 := Scalar.subi arg2 c1_i32_43
  let c256_i32_47 : BitVec 32 := 256#32
  let v113 : BitVec 32 := Scalar.muli v110 c256_i32_47
  let v114 : BitVec 32 := v113
  let v115 : Index := Scalar.indexCast v114
  let c0_48 : Index := 0#32
  ![v115.toNat, 0]
def k4_off4 (i : grid4.Coords) : Fin 3 → Nat :=
  let arg2 : BitVec 32 := BitVec.ofNat 32 (i 2).val
  let c1_i32_43 : BitVec 32 := 1#32
  let v110 : BitVec 32 := Scalar.subi arg2 c1_i32_43
  let v118 : Index := Scalar.indexCast v110
  let c0_49 : Index := 0#32
  let c0_50 : Index := 0#32
  ![v118.toNat, 0, 0]
@[reducible] def k4_t2_loop (i : grid4.Coords) : Scf.Loop 32 :=
  let c0_i32 : BitVec 32 := 0#32
  let arg2 : BitVec 32 := BitVec.ofNat 32 (i 2).val
  let c1_i32 : BitVec 32 := 1#32
  let v64 : BitVec 32 := Scalar.minsi arg2 c1_i32
  let v65 : BitVec 32 := Scalar.subi v64 c0_i32
  let c1_i32_24 : BitVec 32 := 1#32
  let v67 : BitVec 32 := Scalar.divsi v65 c1_i32_24
  let v68 : BitVec 32 := Scalar.muli v67 c1_i32_24
  let v69 : BitVec 32 := Scalar.addi c0_i32 v68
  let v66 : BitVec 32 := Scalar.addi c0_i32 v65
  let c1_i32_26 : BitVec 32 := 1#32
  ⟨v69, v66, c1_i32_26⟩
def k4_mult3 (i : grid4.Coords) : BitVec 32 :=
  let arg2 : BitVec 32 := BitVec.ofNat 32 (i 2).val
  let c1_i32_43 : BitVec 32 := 1#32
  let v110 : BitVec 32 := Scalar.subi arg2 c1_i32_43
  let c256_i32_47 : BitVec 32 := 256#32
  let v113 : BitVec 32 := Scalar.muli v110 c256_i32_47
  v113
def k4_off5 (i : grid4.Coords) : Fin 2 → Nat :=
  let arg2 : BitVec 32 := BitVec.ofNat 32 (i 2).val
  let c1_i32_43 : BitVec 32 := 1#32
  let v110 : BitVec 32 := Scalar.subi arg2 c1_i32_43
  let c256_i32_47 : BitVec 32 := 256#32
  let v113 : BitVec 32 := Scalar.muli v110 c256_i32_47
  let v114 : BitVec 32 := v113
  let v115 : Index := Scalar.indexCast v114
  let c0_48 : Index := 0#32
  ![v115.toNat, 0]
def k4_off6 (i : grid4.Coords) : Fin 3 → Nat :=
  let arg2 : BitVec 32 := BitVec.ofNat 32 (i 2).val
  let c1_i32_43 : BitVec 32 := 1#32
  let v110 : BitVec 32 := Scalar.subi arg2 c1_i32_43
  let v118 : Index := Scalar.indexCast v110
  let c0_49 : Index := 0#32
  let c0_50 : Index := 0#32
  ![v118.toNat, 0, 0]
@[reducible] def k4_t3_loop (i : grid4.Coords) : Scf.Loop 32 :=
  let c0_i32_27 : BitVec 32 := 0#32
  let arg2 : BitVec 32 := BitVec.ofNat 32 (i 2).val
  let c1_i32 : BitVec 32 := 1#32
  let v64 : BitVec 32 := Scalar.minsi arg2 c1_i32
  let v72 : BitVec 32 := Scalar.subi arg2 v64
  let v73 : BitVec 32 := Scalar.subi v72 c0_i32_27
  let c1_i32_28 : BitVec 32 := 1#32
  let v75 : BitVec 32 := Scalar.divsi v73 c1_i32_28
  let v76 : BitVec 32 := Scalar.muli v75 c1_i32_28
  let v77 : BitVec 32 := Scalar.addi c0_i32_27 v76
  let c1_i32_29 : BitVec 32 := 1#32
  ⟨c0_i32_27, v77, c1_i32_29⟩
def k4_mult4 (i : grid4.Coords) (k4_t3 : Fin (k4_t3_loop i).trips) : BitVec 32 :=
  let arg2 : BitVec 32 := BitVec.ofNat 32 (i 2).val
  let c2_i32 : BitVec 32 := 2#32
  let v110 : BitVec 32 := Scalar.subi arg2 c2_i32
  let c0_i32_27 : BitVec 32 := 0#32
  let c1_i32_29 : BitVec 32 := 1#32
  let arg10 : BitVec 32 := Scf.iv c0_i32_27 c1_i32_29 k4_t3
  let v111 : BitVec 32 := Scalar.subi v110 arg10
  let c256_i32_43 : BitVec 32 := 256#32
  let v112 : BitVec 32 := Scalar.muli v111 c256_i32_43
  v112
def k4_off7 (i : grid4.Coords) (k4_t3 : Fin (k4_t3_loop i).trips) : Fin 2 → Nat :=
  let arg2 : BitVec 32 := BitVec.ofNat 32 (i 2).val
  let c2_i32 : BitVec 32 := 2#32
  let v110 : BitVec 32 := Scalar.subi arg2 c2_i32
  let c0_i32_27 : BitVec 32 := 0#32
  let c1_i32_29 : BitVec 32 := 1#32
  let arg10 : BitVec 32 := Scf.iv c0_i32_27 c1_i32_29 k4_t3
  let v111 : BitVec 32 := Scalar.subi v110 arg10
  let c256_i32_43 : BitVec 32 := 256#32
  let v112 : BitVec 32 := Scalar.muli v111 c256_i32_43
  let v113 : BitVec 32 := v112
  let v114 : Index := Scalar.indexCast v113
  let c0_44 : Index := 0#32
  ![v114.toNat, 0]
def k4_off8 (i : grid4.Coords) (k4_t3 : Fin (k4_t3_loop i).trips) : Fin 3 → Nat :=
  let arg2 : BitVec 32 := BitVec.ofNat 32 (i 2).val
  let c2_i32 : BitVec 32 := 2#32
  let v110 : BitVec 32 := Scalar.subi arg2 c2_i32
  let c0_i32_27 : BitVec 32 := 0#32
  let c1_i32_29 : BitVec 32 := 1#32
  let arg10 : BitVec 32 := Scf.iv c0_i32_27 c1_i32_29 k4_t3
  let v111 : BitVec 32 := Scalar.subi v110 arg10
  let v117 : Index := Scalar.indexCast v111
  let c0_45 : Index := 0#32
  let c0_46 : Index := 0#32
  ![v117.toNat, 0, 0]
@[reducible] def k4_t4_loop (i : grid4.Coords) : Scf.Loop 32 :=
  let c0_i32_27 : BitVec 32 := 0#32
  let arg2 : BitVec 32 := BitVec.ofNat 32 (i 2).val
  let c1_i32 : BitVec 32 := 1#32
  let v64 : BitVec 32 := Scalar.minsi arg2 c1_i32
  let v72 : BitVec 32 := Scalar.subi arg2 v64
  let v73 : BitVec 32 := Scalar.subi v72 c0_i32_27
  let c1_i32_28 : BitVec 32 := 1#32
  let v75 : BitVec 32 := Scalar.divsi v73 c1_i32_28
  let v76 : BitVec 32 := Scalar.muli v75 c1_i32_28
  let v77 : BitVec 32 := Scalar.addi c0_i32_27 v76
  let v74 : BitVec 32 := Scalar.addi c0_i32_27 v73
  let c1_i32_30 : BitVec 32 := 1#32
  ⟨v77, v74, c1_i32_30⟩
def k4_mult5 (i : grid4.Coords) (k4_t4 : Fin (k4_t4_loop i).trips) : BitVec 32 :=
  let arg2 : BitVec 32 := BitVec.ofNat 32 (i 2).val
  let c2_i32 : BitVec 32 := 2#32
  let v110 : BitVec 32 := Scalar.subi arg2 c2_i32
  let c0_i32_27 : BitVec 32 := 0#32
  let c1_i32 : BitVec 32 := 1#32
  let v64 : BitVec 32 := Scalar.minsi arg2 c1_i32
  let v72 : BitVec 32 := Scalar.subi arg2 v64
  let v73 : BitVec 32 := Scalar.subi v72 c0_i32_27
  let c1_i32_28 : BitVec 32 := 1#32
  let v75 : BitVec 32 := Scalar.divsi v73 c1_i32_28
  let v76 : BitVec 32 := Scalar.muli v75 c1_i32_28
  let v77 : BitVec 32 := Scalar.addi c0_i32_27 v76
  let c1_i32_30 : BitVec 32 := 1#32
  let arg10 : BitVec 32 := Scf.iv v77 c1_i32_30 k4_t4
  let v111 : BitVec 32 := Scalar.subi v110 arg10
  let c256_i32_43 : BitVec 32 := 256#32
  let v112 : BitVec 32 := Scalar.muli v111 c256_i32_43
  v112
def k4_off9 (i : grid4.Coords) (k4_t4 : Fin (k4_t4_loop i).trips) : Fin 2 → Nat :=
  let arg2 : BitVec 32 := BitVec.ofNat 32 (i 2).val
  let c2_i32 : BitVec 32 := 2#32
  let v110 : BitVec 32 := Scalar.subi arg2 c2_i32
  let c0_i32_27 : BitVec 32 := 0#32
  let c1_i32 : BitVec 32 := 1#32
  let v64 : BitVec 32 := Scalar.minsi arg2 c1_i32
  let v72 : BitVec 32 := Scalar.subi arg2 v64
  let v73 : BitVec 32 := Scalar.subi v72 c0_i32_27
  let c1_i32_28 : BitVec 32 := 1#32
  let v75 : BitVec 32 := Scalar.divsi v73 c1_i32_28
  let v76 : BitVec 32 := Scalar.muli v75 c1_i32_28
  let v77 : BitVec 32 := Scalar.addi c0_i32_27 v76
  let c1_i32_30 : BitVec 32 := 1#32
  let arg10 : BitVec 32 := Scf.iv v77 c1_i32_30 k4_t4
  let v111 : BitVec 32 := Scalar.subi v110 arg10
  let c256_i32_43 : BitVec 32 := 256#32
  let v112 : BitVec 32 := Scalar.muli v111 c256_i32_43
  let v113 : BitVec 32 := v112
  let v114 : Index := Scalar.indexCast v113
  let c0_44 : Index := 0#32
  ![v114.toNat, 0]
def k4_off10 (i : grid4.Coords) (k4_t4 : Fin (k4_t4_loop i).trips) : Fin 3 → Nat :=
  let arg2 : BitVec 32 := BitVec.ofNat 32 (i 2).val
  let c2_i32 : BitVec 32 := 2#32
  let v110 : BitVec 32 := Scalar.subi arg2 c2_i32
  let c0_i32_27 : BitVec 32 := 0#32
  let c1_i32 : BitVec 32 := 1#32
  let v64 : BitVec 32 := Scalar.minsi arg2 c1_i32
  let v72 : BitVec 32 := Scalar.subi arg2 v64
  let v73 : BitVec 32 := Scalar.subi v72 c0_i32_27
  let c1_i32_28 : BitVec 32 := 1#32
  let v75 : BitVec 32 := Scalar.divsi v73 c1_i32_28
  let v76 : BitVec 32 := Scalar.muli v75 c1_i32_28
  let v77 : BitVec 32 := Scalar.addi c0_i32_27 v76
  let c1_i32_30 : BitVec 32 := 1#32
  let arg10 : BitVec 32 := Scf.iv v77 c1_i32_30 k4_t4
  let v111 : BitVec 32 := Scalar.subi v110 arg10
  let v117 : Index := Scalar.indexCast v111
  let c0_45 : Index := 0#32
  let c0_46 : Index := 0#32
  ![v117.toNat, 0, 0]
def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let c0_i32_0 : BitVec 32 := 0#32
  ![v1.toNat, arg1.toNat, c0_i32.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc4_transform_4 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc4_transform_5 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage4_0 : Fin 1 → Memref sig .tc .smem S1x1 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false, false]

abbrev stage4_1 : Fin 2 → Memref sig .tc .vmem S1x128x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true, true]

abbrev stage4_2 : Fin 2 → Memref sig .tc .vmem S8192x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S32x128x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev stage4_4 : Fin 2 → Memref sig .tc .vmem S1x2x256x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true, false]

abbrev stage4_5 : Fin 1 → Memref sig .tc .vmem S128x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false, false]

abbrev stage4_6 : Fin 2 → Memref sig .tc .vmem S256x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true, true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1024x1024 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1024x1024 .bf16 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S256x1024 .bf16 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S512x1024 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]
-- ==== KernelIdeal.lean ====
variable {F : FTy → Type} [FloatOps F] [Named F]
def κ : String → Option EReal := fun
  | "mask" => some ⊥
  | _ => none
-- ==== RefIdeal.lean ====
abbrev S2x8192x1024 : Shape := ⟨3, ![2, 8192, 1024]⟩
abbrev S2x2x8192x256 : Shape := ⟨4, ![2, 2, 8192, 256]⟩
abbrev S2x1024 : Shape := ⟨2, ![2, 1024]⟩
abbrev S1x1024x4096 : Shape := ⟨3, ![1, 1024, 4096]⟩
abbrev S1x1024x1024 : Shape := ⟨3, ![1, 1024, 1024]⟩
abbrev S1024 : Shape := ⟨1, ![1024]⟩
abbrev S1024x2048 : Shape := ⟨2, ![1024, 2048]⟩
abbrev S1x1024x2048 : Shape := ⟨3, ![1, 1024, 2048]⟩
abbrev S1x4x64 : Shape := ⟨3, ![1, 4, 64]⟩
abbrev S1x128 : Shape := ⟨2, ![1, 128]⟩
abbrev S32x8 : Shape := ⟨2, ![32, 8]⟩
abbrev S2x256x1024 : Shape := ⟨3, ![2, 256, 1024]⟩
abbrev S2x1024x1024 : Shape := ⟨3, ![2, 1024, 1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x4096 : Shape := ⟨2, ![1024, 4096]⟩
abbrev S2x8192x4096 : Shape := ⟨3, ![2, 8192, 4096]⟩
abbrev S2x8192x16x64 : Shape := ⟨4, ![2, 8192, 16, 64]⟩
abbrev S8192 : Shape := ⟨1, ![8192]⟩
abbrev S2x16x8192x8192 : Shape := ⟨4, ![2, 16, 8192, 8192]⟩
abbrev S1x8192 : Shape := ⟨2, ![1, 8192]⟩
abbrev S8192x1 : Shape := ⟨2, ![8192, 1]⟩
abbrev S8192x8192 : Shape := ⟨2, ![8192, 8192]⟩
abbrev S2x16x8192x8191 : Shape := ⟨4, ![2, 16, 8192, 8191]⟩
abbrev S2x16x8192x1 : Shape := ⟨4, ![2, 16, 8192, 1]⟩
abbrev S2x16x64x8192 : Shape := ⟨4, ![2, 16, 64, 8192]⟩
abbrev S1024x1024 : Shape := ⟨2, ![1024, 1024]⟩
abbrev S1x2x8192x256 : Shape := ⟨4, ![1, 2, 8192, 256]⟩
abbrev S2x8192x256 : Shape := ⟨3, ![2, 8192, 256]⟩
abbrev S1x256x1024 : Shape := ⟨3, ![1, 256, 1024]⟩
abbrev S256x1024 : Shape := ⟨2, ![256, 1024]⟩
abbrev S2x8192x2048 : Shape := ⟨3, ![2, 8192, 2048]⟩
abbrev S2x8192x512 : Shape := ⟨3, ![2, 8192, 512]⟩
abbrev S2x8192x8x64 : Shape := ⟨4, ![2, 8192, 8, 64]⟩
abbrev S2x8192x8x128 : Shape := ⟨4, ![2, 8192, 8, 128]⟩
abbrev S4x64 : Shape := ⟨2, ![4, 64]⟩
abbrev S1x64 : Shape := ⟨2, ![1, 64]⟩
abbrev S64 : Shape := ⟨1, ![64]⟩
abbrev S8192x8192x1 : Shape := ⟨3, ![8192, 8192, 1]⟩
abbrev S8192x8192x8 : Shape := ⟨3, ![8192, 8192, 8]⟩
abbrev S8x8192x8192 : Shape := ⟨3, ![8, 8192, 8192]⟩
abbrev S2x8x8192x8192 : Shape := ⟨4, ![2, 8, 8192, 8192]⟩
abbrev S1x8x8192x8192 : Shape := ⟨4, ![1, 8, 8192, 8192]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S128 : Shape := ⟨1, ![128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 416
  | .vmem => 0
  | .smem => 0
  | _ => 0

abbrev hbmTy0_0 (i : Nat) : BufTy := match i % 128 with
  | 0 => ⟨S2x8192x1024, .f32⟩
  | 1 => ⟨S2x2x8192x256, .f32⟩
  | 2 => ⟨S2x1024, .f32⟩
  | 3 => ⟨S1x1024x4096, .f32⟩
  | 4 => ⟨S1x1024x1024, .f32⟩
  | 5 => ⟨S1024, .f32⟩
  | 6 => ⟨S1024x2048, .f32⟩
  | 7 => ⟨S1x1024x2048, .f32⟩
  | 8 => ⟨S1x4x64, .f32⟩
  | 9 => ⟨S1x128, .f32⟩
  | 10 => ⟨S1x1024x1024, .f32⟩
  | 11 => ⟨S32x8, .f32⟩
  | 12 => ⟨S2x1024, .f32⟩
  | 13 => ⟨S2x256x1024, .f32⟩
  | 14 => ⟨S2x1024x1024, .f32⟩
  | 15 => ⟨S1024, .f32⟩
  | 16 => ⟨S1x1024, .f32⟩
  | 17 => ⟨S1024, .f32⟩
  | 18 => ⟨S2x8192x1024, .f32⟩
  | 19 => ⟨S_, .f32⟩
  | 20 => ⟨S2x8192, .f32⟩
  | 21 => ⟨S2x8192x1, .f32⟩
  | 22 => ⟨S_, .f32⟩
  | 23 => ⟨S2x8192x1, .f32⟩
  | 24 => ⟨S2x8192x1, .f32⟩
  | 25 => ⟨S_, .f32⟩
  | 26 => ⟨S2x8192x1, .f32⟩
  | 27 => ⟨S2x8192x1, .f32⟩
  | 28 => ⟨S2x8192x1, .f32⟩
  | 29 => ⟨S2x8192x1024, .f32⟩
  | 30 => ⟨S2x8192x1024, .f32⟩
  | 31 => ⟨S1x1x1024, .f32⟩
  | 32 => ⟨S2x8192x1024, .f32⟩
  | 33 => ⟨S2x8192x1024, .f32⟩
  | 34 => ⟨S1024x4096, .f32⟩
  | 35 => ⟨S2x8192x4096, .f32⟩
  | 36 => ⟨S2x8192x1024, .f32⟩
  | 37 => ⟨S2x8192x1024, .f32⟩
  | 38 => ⟨S2x8192x1024, .f32⟩
  | 39 => ⟨S2x8192x1024, .f32⟩
  | 40 => ⟨S2x8192x16x64, .f32⟩
  | 41 => ⟨S2x8192x16x64, .f32⟩
  | 42 => ⟨S2x8192x16x64, .f32⟩
  | 43 => ⟨S8192, .i32⟩
  | 44 => ⟨S2x16x8192x8192, .f32⟩
  | 45 => ⟨S_, .f32⟩
  | 46 => ⟨S2x16x8192x8192, .f32⟩
  | 47 => ⟨S2x16x8192x8192, .f32⟩
  | 48 => ⟨S1x8192, .i32⟩
  | 49 => ⟨S8192x1, .i32⟩
  | 50 => ⟨S8192x8192, .i32⟩
  | 51 => ⟨S8192x8192, .i32⟩
  | 52 => ⟨S8192x8192, .i1⟩
  | 53 => ⟨S2x16x8192x8192, .f32⟩
  | 54 => ⟨S2x16x8192x8192, .f32⟩
  | 55 => ⟨S_, .f32⟩
  | 56 => ⟨S2x16x8192x8192, .f32⟩
  | 57 => ⟨S2x16x8192x8192, .f32⟩
  | 58 => ⟨S2x16x8192x8192, .f32⟩
  | 59 => ⟨S2x16x8192x8192, .f32⟩
  | 60 => ⟨S2x16x8192x8192, .i1⟩
  | 61 => ⟨S2x16x8192x8192, .f32⟩
  | 62 => ⟨S2x16x8192x8192, .f32⟩
  | 63 => ⟨S2x16x8192x8192, .f32⟩
  | 64 => ⟨S2x16x8192x8192, .f32⟩
  | 65 => ⟨S2x16x8192x8192, .f32⟩
  | 66 => ⟨S2x16x8192x8192, .f32⟩
  | 67 => ⟨S2x16x8192x8192, .f32⟩
  | 68 => ⟨S2x16x8192x8192, .f32⟩
  | 69 => ⟨S2x16x8192x8192, .f32⟩
  | 70 => ⟨S_, .f32⟩
  | 71 => ⟨S_, .f32⟩
  | 72 => ⟨S2x16x8192x8192, .i1⟩
  | 73 => ⟨S2x16x8192x8192, .f32⟩
  | 74 => ⟨S2x16x8192x8192, .f32⟩
  | 75 => ⟨S_, .f32⟩
  | 76 => ⟨S_, .f32⟩
  | 77 => ⟨S2x16x8192x8192, .f32⟩
  | 78 => ⟨S2x16x8192x8191, .f32⟩
  | 79 => ⟨S2x16x8192x1, .f32⟩
  | 80 => ⟨S_, .f32⟩
  | 81 => ⟨S2x16x8192x1, .f32⟩
  | 82 => ⟨S2x16x8192x8192, .f32⟩
  | 83 => ⟨S2x16x8192x8192, .f32⟩
  | 84 => ⟨S_, .f32⟩
  | 85 => ⟨S2x16x8192x8192, .f32⟩
  | 86 => ⟨S2x16x8192x8192, .f32⟩
  | 87 => ⟨S2x16x8192x8192, .f32⟩
  | 88 => ⟨S2x16x8192x8192, .f32⟩
  | 89 => ⟨S2x16x8192x8192, .i1⟩
  | 90 => ⟨S2x16x8192x8192, .f32⟩
  | 91 => ⟨S2x16x8192x8192, .f32⟩
  | 92 => ⟨S2x16x8192x8192, .f32⟩
  | 93 => ⟨S2x16x8192x8192, .f32⟩
  | 94 => ⟨S2x16x8192x8192, .f32⟩
  | 95 => ⟨S2x16x8192x8192, .f32⟩
  | 96 => ⟨S2x16x8192x8192, .f32⟩
  | 97 => ⟨S2x16x8192x8192, .f32⟩
  | 98 => ⟨S2x16x8192x8192, .f32⟩
  | 99 => ⟨S2x16x8192x8192, .f32⟩
  | 100 => ⟨S2x16x8192x8192, .f32⟩
  | 101 => ⟨S_, .f32⟩
  | 102 => ⟨S_, .f32⟩
  | 103 => ⟨S2x16x8192x8192, .i1⟩
  | 104 => ⟨S2x16x8192x8192, .f32⟩
  | 105 => ⟨S2x16x8192x8192, .f32⟩
  | 106 => ⟨S2x16x64x8192, .f32⟩
  | 107 => ⟨S2x8192x16x64, .f32⟩
  | 108 => ⟨S2x8192x1024, .f32⟩
  | 109 => ⟨S2x8192x1024, .f32⟩
  | 110 => ⟨S2x8192x1024, .f32⟩
  | 111 => ⟨S_, .f32⟩
  | 112 => ⟨S2x8192x1024, .f32⟩
  | 113 => ⟨S2x8192x1024, .f32⟩
  | 114 => ⟨S_, .f32⟩
  | 115 => ⟨S2x8192x1024, .f32⟩
  | 116 => ⟨S2x8192x1024, .f32⟩
  | 117 => ⟨S2x8192x1024, .f32⟩
  | 118 => ⟨S2x8192x1024, .f32⟩
  | 119 => ⟨S1024x1024, .f32⟩
  | 120 => ⟨S2x8192x1024, .f32⟩
  | 121 => ⟨S2x8192x1024, .f32⟩
  | 122 => ⟨S1x1024, .f32⟩
  | 123 => ⟨S1024, .f32⟩
  | 124 => ⟨S2x8192x1024, .f32⟩
  | 125 => ⟨S_, .f32⟩
  | 126 => ⟨S2x8192, .f32⟩
  | 127 => ⟨S2x8192x1, .f32⟩
  | _ => ⟨S2x8192x1024, .f32⟩

abbrev hbmTy0_1 (i : Nat) : BufTy := match i % 128 with
  | 0 => ⟨S_, .f32⟩
  | 1 => ⟨S2x8192x1, .f32⟩
  | 2 => ⟨S2x8192x1, .f32⟩
  | 3 => ⟨S_, .f32⟩
  | 4 => ⟨S2x8192x1, .f32⟩
  | 5 => ⟨S2x8192x1, .f32⟩
  | 6 => ⟨S2x8192x1, .f32⟩
  | 7 => ⟨S2x8192x1024, .f32⟩
  | 8 => ⟨S2x8192x1024, .f32⟩
  | 9 => ⟨S1x1x1024, .f32⟩
  | 10 => ⟨S2x8192x1024, .f32⟩
  | 11 => ⟨S2x8192x1024, .f32⟩
  | 12 => ⟨S1x1024x1024, .f32⟩
  | 13 => ⟨S1024x1024, .f32⟩
  | 14 => ⟨S2x8192x1024, .f32⟩
  | 15 => ⟨S2x8192x1024, .f32⟩
  | 16 => ⟨S2x8192x1024, .f32⟩
  | 17 => ⟨S_, .f32⟩
  | 18 => ⟨S2x8192x1024, .f32⟩
  | 19 => ⟨S2x8192x1024, .f32⟩
  | 20 => ⟨S_, .f32⟩
  | 21 => ⟨S2x8192x1024, .f32⟩
  | 22 => ⟨S2x8192x1024, .f32⟩
  | 23 => ⟨S1x2x8192x256, .f32⟩
  | 24 => ⟨S2x8192x256, .f32⟩
  | 25 => ⟨S1x256x1024, .f32⟩
  | 26 => ⟨S256x1024, .f32⟩
  | 27 => ⟨S2x8192x1024, .f32⟩
  | 28 => ⟨S2x8192x1024, .f32⟩
  | 29 => ⟨S2x8192x1024, .f32⟩
  | 30 => ⟨S2x8192x1024, .f32⟩
  | 31 => ⟨S_, .f32⟩
  | 32 => ⟨S2x8192, .f32⟩
  | 33 => ⟨S2x8192x1, .f32⟩
  | 34 => ⟨S_, .f32⟩
  | 35 => ⟨S2x8192x1, .f32⟩
  | 36 => ⟨S2x8192x1, .f32⟩
  | 37 => ⟨S_, .f32⟩
  | 38 => ⟨S2x8192x1, .f32⟩
  | 39 => ⟨S2x8192x1, .f32⟩
  | 40 => ⟨S2x8192x1, .f32⟩
  | 41 => ⟨S2x8192x1024, .f32⟩
  | 42 => ⟨S2x8192x1024, .f32⟩
  | 43 => ⟨S1x1x1024, .f32⟩
  | 44 => ⟨S2x8192x1024, .f32⟩
  | 45 => ⟨S2x8192x1024, .f32⟩
  | 46 => ⟨S2x8192x2048, .f32⟩
  | 47 => ⟨S2x8192x512, .f32⟩
  | 48 => ⟨S2x8192x512, .f32⟩
  | 49 => ⟨S2x8192x1024, .f32⟩
  | 50 => ⟨S2x8192x8x64, .f32⟩
  | 51 => ⟨S2x8192x8x64, .f32⟩
  | 52 => ⟨S2x8192x8x128, .f32⟩
  | 53 => ⟨S1x1024, .f32⟩
  | 54 => ⟨S1024, .f32⟩
  | 55 => ⟨S2x8192x1024, .f32⟩
  | 56 => ⟨S_, .f32⟩
  | 57 => ⟨S2x8192, .f32⟩
  | 58 => ⟨S2x8192x1, .f32⟩
  | 59 => ⟨S_, .f32⟩
  | 60 => ⟨S2x8192x1, .f32⟩
  | 61 => ⟨S2x8192x1, .f32⟩
  | 62 => ⟨S_, .f32⟩
  | 63 => ⟨S2x8192x1, .f32⟩
  | 64 => ⟨S2x8192x1, .f32⟩
  | 65 => ⟨S2x8192x1, .f32⟩
  | 66 => ⟨S2x8192x1024, .f32⟩
  | 67 => ⟨S2x8192x1024, .f32⟩
  | 68 => ⟨S1x1x1024, .f32⟩
  | 69 => ⟨S2x8192x1024, .f32⟩
  | 70 => ⟨S2x8192x1024, .f32⟩
  | 71 => ⟨S1024x2048, .f32⟩
  | 72 => ⟨S2x8192x2048, .f32⟩
  | 73 => ⟨S2x8192x512, .f32⟩
  | 74 => ⟨S2x8192x512, .f32⟩
  | 75 => ⟨S2x8192x1024, .f32⟩
  | 76 => ⟨S2x8192x8x64, .f32⟩
  | 77 => ⟨S2x8192x8x64, .f32⟩
  | 78 => ⟨S4x64, .f32⟩
  | 79 => ⟨S1x64, .f32⟩
  | 80 => ⟨S64, .f32⟩
  | 81 => ⟨S1x64, .f32⟩
  | 82 => ⟨S64, .f32⟩
  | 83 => ⟨S64, .f32⟩
  | 84 => ⟨S_, .f32⟩
  | 85 => ⟨S_, .f32⟩
  | 86 => ⟨S_, .f32⟩
  | 87 => ⟨S1x64, .f32⟩
  | 88 => ⟨S64, .f32⟩
  | 89 => ⟨S1x64, .f32⟩
  | 90 => ⟨S64, .f32⟩
  | 91 => ⟨S64, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S8192, .i32⟩
  | 99 => ⟨S8192x1, .i32⟩
  | 100 => ⟨S1x8192, .i32⟩
  | 101 => ⟨S8192x8192, .i32⟩
  | 102 => ⟨S8192x8192, .i32⟩
  | 103 => ⟨S8192x8192, .i32⟩
  | 104 => ⟨S_, .i32⟩
  | 105 => ⟨S8192x8192, .i32⟩
  | 106 => ⟨S8192x8192, .i1⟩
  | 107 => ⟨S_, .i32⟩
  | 108 => ⟨S8192x8192, .i32⟩
  | 109 => ⟨S8192x8192, .i32⟩
  | 110 => ⟨S_, .i32⟩
  | 111 => ⟨S8192x8192, .i32⟩
  | 112 => ⟨S8192x8192, .i32⟩
  | 113 => ⟨S8192x8192, .f32⟩
  | 114 => ⟨S_, .f32⟩
  | 115 => ⟨S8192x8192, .f32⟩
  | 116 => ⟨S8192x8192, .f32⟩
  | 117 => ⟨S8192x8192, .f32⟩
  | 118 => ⟨S_, .f32⟩
  | 119 => ⟨S8192x8192, .f32⟩
  | 120 => ⟨S8192x8192, .f32⟩
  | 121 => ⟨S_, .f32⟩
  | 122 => ⟨S8192x8192, .f32⟩
  | 123 => ⟨S8192x8192, .f32⟩
  | 124 => ⟨S8192x8192, .i32⟩
  | 125 => ⟨S_, .i32⟩
  | 126 => ⟨S8192x8192, .i32⟩
  | 127 => ⟨S8192x8192, .i32⟩
  | _ => ⟨S2x8192x1024, .f32⟩

abbrev hbmTy0_2 (i : Nat) : BufTy := match i % 128 with
  | 0 => ⟨S_, .i32⟩
  | 1 => ⟨S8192x8192, .i32⟩
  | 2 => ⟨S8192x8192, .i32⟩
  | 3 => ⟨S_, .i32⟩
  | 4 => ⟨S8192x8192, .i32⟩
  | 5 => ⟨S8192x8192, .i1⟩
  | 6 => ⟨S8192x8192, .i32⟩
  | 7 => ⟨S_, .i32⟩
  | 8 => ⟨S8192x8192, .i32⟩
  | 9 => ⟨S8192x8192, .i1⟩
  | 10 => ⟨S_, .i32⟩
  | 11 => ⟨S8192x8192, .i32⟩
  | 12 => ⟨S8192x8192, .i32⟩
  | 13 => ⟨S8192x8192, .i32⟩
  | 14 => ⟨S8192x8192x1, .i32⟩
  | 15 => ⟨S8192x8192x8, .f32⟩
  | 16 => ⟨S8x8192x8192, .f32⟩
  | 17 => ⟨S2x8x8192x8192, .f32⟩
  | 18 => ⟨S_, .f32⟩
  | 19 => ⟨S2x8x8192x8192, .f32⟩
  | 20 => ⟨S2x8x8192x8192, .f32⟩
  | 21 => ⟨S1x8x8192x8192, .f32⟩
  | 22 => ⟨S2x8x8192x8192, .f32⟩
  | 23 => ⟨S2x8x8192x8192, .f32⟩
  | 24 => ⟨S2x8x8192x8192, .f32⟩
  | 25 => ⟨S_, .f32⟩
  | 26 => ⟨S2x8x8192x8192, .f32⟩
  | 27 => ⟨S2x8x8192x8192, .f32⟩
  | 28 => ⟨S1x8x8192x8192, .f32⟩
  | 29 => ⟨S2x8x8192x8192, .f32⟩
  | 30 => ⟨S2x8x8192x8192, .f32⟩
  | 31 => ⟨S_, .f32⟩
  | 32 => ⟨S_, .f32⟩
  | 33 => ⟨S2x8x8192x8192, .i1⟩
  | 34 => ⟨S2x8x8192x8192, .f32⟩
  | 35 => ⟨S2x8x8192x8192, .f32⟩
  | 36 => ⟨S_, .f32⟩
  | 37 => ⟨S2x8x8192, .f32⟩
  | 38 => ⟨S_, .f32⟩
  | 39 => ⟨S2x8x8192, .f32⟩
  | 40 => ⟨S2x8x8192, .f32⟩
  | 41 => ⟨S2x8x8192x1, .f32⟩
  | 42 => ⟨S2x8x8192x8192, .f32⟩
  | 43 => ⟨S2x8x8192x8192, .f32⟩
  | 44 => ⟨S2x8x8192x8192, .f32⟩
  | 45 => ⟨S_, .f32⟩
  | 46 => ⟨S2x8x8192, .f32⟩
  | 47 => ⟨S2x8x8192x1, .f32⟩
  | 48 => ⟨S2x8x8192x8192, .f32⟩
  | 49 => ⟨S2x8x8192x8192, .f32⟩
  | 50 => ⟨S_, .f32⟩
  | 51 => ⟨S_, .f32⟩
  | 52 => ⟨S2x8x8192x8192, .i1⟩
  | 53 => ⟨S2x8x8192x8192, .f32⟩
  | 54 => ⟨S2x8x8192x8192, .f32⟩
  | 55 => ⟨S_, .f32⟩
  | 56 => ⟨S2x8x8192, .f32⟩
  | 57 => ⟨S_, .f32⟩
  | 58 => ⟨S2x8x8192, .f32⟩
  | 59 => ⟨S2x8x8192, .f32⟩
  | 60 => ⟨S2x8x8192x1, .f32⟩
  | 61 => ⟨S2x8x8192x8192, .f32⟩
  | 62 => ⟨S2x8x8192x8192, .f32⟩
  | 63 => ⟨S2x8x8192x8192, .f32⟩
  | 64 => ⟨S_, .f32⟩
  | 65 => ⟨S2x8x8192, .f32⟩
  | 66 => ⟨S2x8x8192x1, .f32⟩
  | 67 => ⟨S2x8x8192x8192, .f32⟩
  | 68 => ⟨S2x8x8192x8192, .f32⟩
  | 69 => ⟨S2x8x8192x8192, .f32⟩
  | 70 => ⟨S2x8x8192x8192, .f32⟩
  | 71 => ⟨S2x8x8192x8192, .f32⟩
  | 72 => ⟨S2x8x128x8192, .f32⟩
  | 73 => ⟨S2x8192x8x128, .f32⟩
  | 74 => ⟨S128, .f32⟩
  | 75 => ⟨S2x8192x8x128, .f32⟩
  | 76 => ⟨S_, .f32⟩
  | 77 => ⟨S2x8192x8, .f32⟩
  | 78 => ⟨S2x8192x8x1, .f32⟩
  | 79 => ⟨S_, .f32⟩
  | 80 => ⟨S2x8192x8x1, .f32⟩
  | 81 => ⟨S2x8192x8x1, .f32⟩
  | 82 => ⟨S_, .f32⟩
  | 83 => ⟨S2x8192x8x1, .f32⟩
  | 84 => ⟨S2x8192x8x1, .f32⟩
  | 85 => ⟨S2x8192x8x1, .f32⟩
  | 86 => ⟨S2x8192x8x128, .f32⟩
  | 87 => ⟨S2x8192x8x128, .f32⟩
  | 88 => ⟨S1x1x1x128, .f32⟩
  | 89 => ⟨S2x8192x8x128, .f32⟩
  | 90 => ⟨S2x8192x8x128, .f32⟩
  | 91 => ⟨S_, .f32⟩
  | 92 => ⟨S2x8192x8x128, .f32⟩
  | 93 => ⟨S2x8192x8x128, .f32⟩
  | 94 => ⟨S2x8192x1024, .f32⟩
  | 95 => ⟨S2x8192x1024, .f32⟩
  | 96 => ⟨S2x8192x1024, .f32⟩
  | 97 => ⟨S_, .f32⟩
  | 98 => ⟨S2x8192x1024, .f32⟩
  | 99 => ⟨S2x8192x1024, .f32⟩
  | 100 => ⟨S_, .f32⟩
  | 101 => ⟨S2x8192x1024, .f32⟩
  | 102 => ⟨S2x8192x1024, .f32⟩
  | 103 => ⟨S2x8192x1024, .f32⟩
  | 104 => ⟨S2x8192x1024, .f32⟩
  | 105 => ⟨S1024x1024, .f32⟩
  | 106 => ⟨S2x8192x1024, .f32⟩
  | 107 => ⟨S2x8192x1024, .f32⟩
  | 108 => ⟨S1x1024, .f32⟩
  | 109 => ⟨S1024, .f32⟩
  | 110 => ⟨S2x8192x1024, .f32⟩
  | 111 => ⟨S_, .f32⟩
  | 112 => ⟨S2x8192, .f32⟩
  | 113 => ⟨S2x8192x1, .f32⟩
  | 114 => ⟨S_, .f32⟩
  | 115 => ⟨S2x8192x1, .f32⟩
  | 116 => ⟨S2x8192x1, .f32⟩
  | 117 => ⟨S_, .f32⟩
  | 118 => ⟨S2x8192x1, .f32⟩
  | 119 => ⟨S2x8192x1, .f32⟩
  | 120 => ⟨S2x8192x1, .f32⟩
  | 121 => ⟨S2x8192x1024, .f32⟩
  | 122 => ⟨S2x8192x1024, .f32⟩
  | 123 => ⟨S1x1x1024, .f32⟩
  | 124 => ⟨S2x8192x1024, .f32⟩
  | 125 => ⟨S2x8192x1024, .f32⟩
  | 126 => ⟨S1x1024x1024, .f32⟩
  | 127 => ⟨S1024x1024, .f32⟩
  | _ => ⟨S2x8192x1024, .f32⟩

abbrev hbmTy0_3 (i : Nat) : BufTy := match i % 128 with
  | 0 => ⟨S2x8192x1024, .f32⟩
  | 1 => ⟨S2x8192x1024, .f32⟩
  | 2 => ⟨S2x8192x1024, .f32⟩
  | 3 => ⟨S_, .f32⟩
  | 4 => ⟨S2x8192x1024, .f32⟩
  | 5 => ⟨S2x8192x1024, .f32⟩
  | 6 => ⟨S_, .f32⟩
  | 7 => ⟨S2x8192x1024, .f32⟩
  | 8 => ⟨S2x8192x1024, .f32⟩
  | 9 => ⟨S1x2x8192x256, .f32⟩
  | 10 => ⟨S2x8192x256, .f32⟩
  | 11 => ⟨S1x256x1024, .f32⟩
  | 12 => ⟨S256x1024, .f32⟩
  | 13 => ⟨S2x8192x1024, .f32⟩
  | 14 => ⟨S2x8192x1024, .f32⟩
  | 15 => ⟨S2x8192x1024, .f32⟩
  | 16 => ⟨S2x8192x1024, .f32⟩
  | 17 => ⟨S_, .f32⟩
  | 18 => ⟨S2x8192, .f32⟩
  | 19 => ⟨S2x8192x1, .f32⟩
  | 20 => ⟨S_, .f32⟩
  | 21 => ⟨S2x8192x1, .f32⟩
  | 22 => ⟨S2x8192x1, .f32⟩
  | 23 => ⟨S_, .f32⟩
  | 24 => ⟨S2x8192x1, .f32⟩
  | 25 => ⟨S2x8192x1, .f32⟩
  | 26 => ⟨S2x8192x1, .f32⟩
  | 27 => ⟨S2x8192x1024, .f32⟩
  | 28 => ⟨S2x8192x1024, .f32⟩
  | 29 => ⟨S1x1x1024, .f32⟩
  | 30 => ⟨S2x8192x1024, .f32⟩
  | 31 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | 3 => hbmTy0_3 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call0_v0 : Ref sig .tc := ⟨.hbm, 54, rfl⟩
abbrev main_call0_call0_cst : Ref sig .tc := ⟨.hbm, 55, rfl⟩
abbrev main_call0_call0_v0 : Ref sig .tc := ⟨.hbm, 56, rfl⟩
abbrev main_call0_call0_v1 : Ref sig .tc := ⟨.hbm, 57, rfl⟩
abbrev main_call0_call0_v2 : Ref sig .tc := ⟨.hbm, 58, rfl⟩
abbrev main_call0_call0_v3 : Ref sig .tc := ⟨.hbm, 59, rfl⟩
abbrev main_call0_call0_v4 : Ref sig .tc := ⟨.hbm, 60, rfl⟩
abbrev main_call0_call0_v5 : Ref sig .tc := ⟨.hbm, 61, rfl⟩
abbrev main_call0_call0_v6 : Ref sig .tc := ⟨.hbm, 62, rfl⟩
abbrev main_call0_call0_v7 : Ref sig .tc := ⟨.hbm, 63, rfl⟩
abbrev main_call0_call0_v8 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_v1 : Ref sig .tc := ⟨.hbm, 68, rfl⟩
abbrev main_v34 : Ref sig .tc := ⟨.hbm, 69, rfl⟩
abbrev main_cst_3 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v35 : Ref sig .tc := ⟨.hbm, 74, rfl⟩
abbrev main_call2_cst : Ref sig .tc := ⟨.hbm, 75, rfl⟩
abbrev main_call2_v0 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_4 : Ref sig .tc := ⟨.hbm, 80, rfl⟩
abbrev main_v39 : Ref sig .tc := ⟨.hbm, 81, rfl⟩
abbrev main_v40 : Ref sig .tc := ⟨.hbm, 82, rfl⟩
abbrev main_call3_v0 : Ref sig .tc := ⟨.hbm, 83, rfl⟩
abbrev main_call3_call0_cst : Ref sig .tc := ⟨.hbm, 84, rfl⟩
abbrev main_call3_call0_v0 : Ref sig .tc := ⟨.hbm, 85, rfl⟩
abbrev main_call3_call0_v1 : Ref sig .tc := ⟨.hbm, 86, rfl⟩
abbrev main_call3_call0_v2 : Ref sig .tc := ⟨.hbm, 87, rfl⟩
abbrev main_call3_call0_v3 : Ref sig .tc := ⟨.hbm, 88, rfl⟩
abbrev main_call3_call0_v4 : Ref sig .tc := ⟨.hbm, 89, rfl⟩
abbrev main_call3_call0_v5 : Ref sig .tc := ⟨.hbm, 90, rfl⟩
abbrev main_call3_call0_v6 : Ref sig .tc := ⟨.hbm, 91, rfl⟩
abbrev main_call3_call0_v7 : Ref sig .tc := ⟨.hbm, 92, rfl⟩
abbrev main_call3_call0_v8 : Ref sig .tc := ⟨.hbm, 93, rfl⟩
abbrev main_call3_call0_v9 : Ref sig .tc := ⟨.hbm, 94, rfl⟩
abbrev main_call3_call0_v10 : Ref sig .tc := ⟨.hbm, 95, rfl⟩
abbrev main_call3_call0_v11 : Ref sig .tc := ⟨.hbm, 96, rfl⟩
abbrev main_call3_v1 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_cst_5 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_call5_v0 : Ref sig .tc := ⟨.hbm, 109, rfl⟩
abbrev main_call5_v1 : Ref sig .tc := ⟨.hbm, 110, rfl⟩
abbrev main_call5_cst : Ref sig .tc := ⟨.hbm, 111, rfl⟩
abbrev main_call5_v2 : Ref sig .tc := ⟨.hbm, 112, rfl⟩
abbrev main_call5_v3 : Ref sig .tc := ⟨.hbm, 113, rfl⟩
abbrev main_call5_cst_0 : Ref sig .tc := ⟨.hbm, 114, rfl⟩
abbrev main_call5_v4 : Ref sig .tc := ⟨.hbm, 115, rfl⟩
abbrev main_call5_v5 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_6 : Ref sig .tc := ⟨.hbm, 125, rfl⟩
abbrev main_v56 : Ref sig .tc := ⟨.hbm, 126, rfl⟩
abbrev main_v57 : Ref sig .tc := ⟨.hbm, 127, rfl⟩
abbrev main_cst_7 : Ref sig .tc := ⟨.hbm, 128, rfl⟩
abbrev main_v58 : Ref sig .tc := ⟨.hbm, 129, rfl⟩
abbrev main_v59 : Ref sig .tc := ⟨.hbm, 130, rfl⟩
abbrev main_cst_8 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_cst_9 : Ref sig .tc := ⟨.hbm, 145, rfl⟩
abbrev main_v73 : Ref sig .tc := ⟨.hbm, 146, rfl⟩
abbrev main_v74 : Ref sig .tc := ⟨.hbm, 147, rfl⟩
abbrev main_cst_10 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_cst_11 : Ref sig .tc := ⟨.hbm, 159, rfl⟩
abbrev main_v85 : Ref sig .tc := ⟨.hbm, 160, rfl⟩
abbrev main_v86 : Ref sig .tc := ⟨.hbm, 161, rfl⟩
abbrev main_cst_12 : Ref sig .tc := ⟨.hbm, 162, rfl⟩
abbrev main_v87 : Ref sig .tc := ⟨.hbm, 163, rfl⟩
abbrev main_v88 : Ref sig .tc := ⟨.hbm, 164, rfl⟩
abbrev main_cst_13 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_cst_14 : Ref sig .tc := ⟨.hbm, 184, rfl⟩
abbrev main_v107 : Ref sig .tc := ⟨.hbm, 185, rfl⟩
abbrev main_v108 : Ref sig .tc := ⟨.hbm, 186, rfl⟩
abbrev main_cst_15 : Ref sig .tc := ⟨.hbm, 187, rfl⟩
abbrev main_v109 : Ref sig .tc := ⟨.hbm, 188, rfl⟩
abbrev main_v110 : Ref sig .tc := ⟨.hbm, 189, rfl⟩
abbrev main_cst_16 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_cst_17 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_cst_18 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_cst_19 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_c : Ref sig .tc := ⟨.hbm, 232, rfl⟩
abbrev main_v149 : Ref sig .tc := ⟨.hbm, 233, rfl⟩
abbrev main_v150 : Ref sig .tc := ⟨.hbm, 234, rfl⟩
abbrev main_c_20 : Ref sig .tc := ⟨.hbm, 235, rfl⟩
abbrev main_v151 : Ref sig .tc := ⟨.hbm, 236, rfl⟩
abbrev main_v152 : Ref sig .tc := ⟨.hbm, 237, rfl⟩
abbrev main_c_21 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_cst_22 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_cst_23 : Ref sig .tc := ⟨.hbm, 246, rfl⟩
abbrev main_v159 : Ref sig .tc := ⟨.hbm, 247, rfl⟩
abbrev main_v160 : Ref sig .tc := ⟨.hbm, 248, rfl⟩
abbrev main_cst_24 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_c_25 : Ref sig .tc := ⟨.hbm, 253, rfl⟩
abbrev main_v164 : Ref sig .tc := ⟨.hbm, 254, rfl⟩
abbrev main_v165 : Ref sig .tc := ⟨.hbm, 255, rfl⟩
abbrev main_c_26 : Ref sig .tc := ⟨.hbm, 256, rfl⟩
abbrev main_v166 : Ref sig .tc := ⟨.hbm, 257, rfl⟩
abbrev main_v167 : Ref sig .tc := ⟨.hbm, 258, rfl⟩
abbrev main_c_27 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_c_28 : Ref sig .tc := ⟨.hbm, 263, rfl⟩
abbrev main_v171 : Ref sig .tc := ⟨.hbm, 264, rfl⟩
abbrev main_v172 : Ref sig .tc := ⟨.hbm, 265, rfl⟩
abbrev main_c_29 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_cst_30 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_cst_31 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_v190 : Ref sig .tc := ⟨.hbm, 286, rfl⟩
abbrev main_cst_32 : Ref sig .tc := ⟨.hbm, 287, rfl⟩
abbrev main_call7_v0 : Ref sig .tc := ⟨.hbm, 288, rfl⟩
abbrev main_call7_v1 : Ref sig .tc := ⟨.hbm, 289, rfl⟩
abbrev main_call7_v2 : Ref sig .tc := ⟨.hbm, 290, rfl⟩
abbrev main_v191 : Ref sig .tc := ⟨.hbm, 291, rfl⟩
abbrev main_cst_33 : Ref sig .tc := ⟨.hbm, 292, rfl⟩
abbrev main_v192 : Ref sig .tc := ⟨.hbm, 293, rfl⟩
abbrev main_cst_34 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_cst_35 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_cst_36 : Ref sig .tc := ⟨.hbm, 306, rfl⟩
abbrev main_call8_v0 : Ref sig .tc := ⟨.hbm, 307, rfl⟩
abbrev main_call8_v1 : Ref sig .tc := ⟨.hbm, 308, rfl⟩
abbrev main_call8_v2 : Ref sig .tc := ⟨.hbm, 309, rfl⟩
abbrev main_v203 : Ref sig .tc := ⟨.hbm, 310, rfl⟩
abbrev main_cst_37 : Ref sig .tc := ⟨.hbm, 311, rfl⟩
abbrev main_v204 : Ref sig .tc := ⟨.hbm, 312, rfl⟩
abbrev main_cst_38 : Ref sig .tc := ⟨.hbm, 313, rfl⟩
abbrev main_v205 : Ref sig .tc := ⟨.hbm, 314, rfl⟩
abbrev main_v206 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_v210 : Ref sig .tc := ⟨.hbm, 319, rfl⟩
abbrev main_cst_39 : Ref sig .tc := ⟨.hbm, 320, rfl⟩
abbrev main_v211 : Ref sig .tc := ⟨.hbm, 321, rfl⟩
abbrev main_v212 : Ref sig .tc := ⟨.hbm, 322, rfl⟩
abbrev main_v213 : Ref sig .tc := ⟨.hbm, 323, rfl⟩
abbrev main_v214 : Ref sig .tc := ⟨.hbm, 324, rfl⟩
abbrev main_v215 : Ref sig .tc := ⟨.hbm, 325, rfl⟩
abbrev main_v216 : Ref sig .tc := ⟨.hbm, 326, rfl⟩
abbrev main_v217 : Ref sig .tc := ⟨.hbm, 327, rfl⟩
abbrev main_v218 : Ref sig .tc := ⟨.hbm, 328, rfl⟩
abbrev main_v219 : Ref sig .tc := ⟨.hbm, 329, rfl⟩
abbrev main_v220 : Ref sig .tc := ⟨.hbm, 330, rfl⟩
abbrev main_v221 : Ref sig .tc := ⟨.hbm, 331, rfl⟩
abbrev main_cst_40 : Ref sig .tc := ⟨.hbm, 332, rfl⟩
abbrev main_v222 : Ref sig .tc := ⟨.hbm, 333, rfl⟩
abbrev main_v223 : Ref sig .tc := ⟨.hbm, 334, rfl⟩
abbrev main_cst_41 : Ref sig .tc := ⟨.hbm, 335, rfl⟩
abbrev main_v224 : Ref sig .tc := ⟨.hbm, 336, rfl⟩
abbrev main_v225 : Ref sig .tc := ⟨.hbm, 337, rfl⟩
abbrev main_cst_42 : Ref sig .tc := ⟨.hbm, 338, rfl⟩
abbrev main_v226 : Ref sig .tc := ⟨.hbm, 339, rfl⟩
abbrev main_v227 : Ref sig .tc := ⟨.hbm, 340, rfl⟩
abbrev main_v228 : Ref sig .tc := ⟨.hbm, 341, rfl⟩
abbrev main_v229 : Ref sig .tc := ⟨.hbm, 342, rfl⟩
abbrev main_v230 : Ref sig .tc := ⟨.hbm, 343, rfl⟩
abbrev main_v231 : Ref sig .tc := ⟨.hbm, 344, rfl⟩
abbrev main_v232 : Ref sig .tc := ⟨.hbm, 345, rfl⟩
abbrev main_v233 : Ref sig .tc := ⟨.hbm, 346, rfl⟩
abbrev main_cst_43 : Ref sig .tc := ⟨.hbm, 347, rfl⟩
abbrev main_v234 : Ref sig .tc := ⟨.hbm, 348, rfl⟩
abbrev main_v235 : Ref sig .tc := ⟨.hbm, 349, rfl⟩
abbrev main_v236 : Ref sig .tc := ⟨.hbm, 350, rfl⟩
abbrev main_call9_v0 : Ref sig .tc := ⟨.hbm, 351, rfl⟩
abbrev main_call9_v1 : Ref sig .tc := ⟨.hbm, 352, rfl⟩
abbrev main_call9_cst : Ref sig .tc := ⟨.hbm, 353, rfl⟩
abbrev main_call9_v2 : Ref sig .tc := ⟨.hbm, 354, rfl⟩
abbrev main_call9_v3 : Ref sig .tc := ⟨.hbm, 355, rfl⟩
abbrev main_call9_cst_0 : Ref sig .tc := ⟨.hbm, 356, rfl⟩
abbrev main_call9_v4 : Ref sig .tc := ⟨.hbm, 357, rfl⟩
abbrev main_call9_v5 : Ref sig .tc := ⟨.hbm, 358, rfl⟩
abbrev main_v237 : Ref sig .tc := ⟨.hbm, 359, rfl⟩
abbrev main_v238 : Ref sig .tc := ⟨.hbm, 360, rfl⟩
abbrev main_v239 : Ref sig .tc := ⟨.hbm, 361, rfl⟩
abbrev main_v240 : Ref sig .tc := ⟨.hbm, 362, rfl⟩
abbrev main_v241 : Ref sig .tc := ⟨.hbm, 363, rfl⟩
abbrev main_v242 : Ref sig .tc := ⟨.hbm, 364, rfl⟩
abbrev main_v243 : Ref sig .tc := ⟨.hbm, 365, rfl⟩
abbrev main_v244 : Ref sig .tc := ⟨.hbm, 366, rfl⟩
abbrev main_cst_44 : Ref sig .tc := ⟨.hbm, 367, rfl⟩
abbrev main_v245 : Ref sig .tc := ⟨.hbm, 368, rfl⟩
abbrev main_v246 : Ref sig .tc := ⟨.hbm, 369, rfl⟩
abbrev main_cst_45 : Ref sig .tc := ⟨.hbm, 370, rfl⟩
abbrev main_v247 : Ref sig .tc := ⟨.hbm, 371, rfl⟩
abbrev main_v248 : Ref sig .tc := ⟨.hbm, 372, rfl⟩
abbrev main_cst_46 : Ref sig .tc := ⟨.hbm, 373, rfl⟩
abbrev main_v249 : Ref sig .tc := ⟨.hbm, 374, rfl⟩
abbrev main_v250 : Ref sig .tc := ⟨.hbm, 375, rfl⟩
abbrev main_v251 : Ref sig .tc := ⟨.hbm, 376, rfl⟩
abbrev main_v252 : Ref sig .tc := ⟨.hbm, 377, rfl⟩
abbrev main_v253 : Ref sig .tc := ⟨.hbm, 378, rfl⟩
abbrev main_v254 : Ref sig .tc := ⟨.hbm, 379, rfl⟩
abbrev main_v255 : Ref sig .tc := ⟨.hbm, 380, rfl⟩
abbrev main_v256 : Ref sig .tc := ⟨.hbm, 381, rfl⟩
abbrev main_v257 : Ref sig .tc := ⟨.hbm, 382, rfl⟩
abbrev main_v258 : Ref sig .tc := ⟨.hbm, 383, rfl⟩
abbrev main_v259 : Ref sig .tc := ⟨.hbm, 384, rfl⟩
abbrev main_v260 : Ref sig .tc := ⟨.hbm, 385, rfl⟩
abbrev main_v261 : Ref sig .tc := ⟨.hbm, 386, rfl⟩
abbrev main_cst_47 : Ref sig .tc := ⟨.hbm, 387, rfl⟩
abbrev main_v262 : Ref sig .tc := ⟨.hbm, 388, rfl⟩
abbrev main_v263 : Ref sig .tc := ⟨.hbm, 389, rfl⟩
abbrev main_cst_48 : Ref sig .tc := ⟨.hbm, 390, rfl⟩
abbrev main_v264 : Ref sig .tc := ⟨.hbm, 391, rfl⟩
abbrev main_v265 : Ref sig .tc := ⟨.hbm, 392, rfl⟩
abbrev main_v266 : Ref sig .tc := ⟨.hbm, 393, rfl⟩
abbrev main_v267 : Ref sig .tc := ⟨.hbm, 394, rfl⟩
abbrev main_v268 : Ref sig .tc := ⟨.hbm, 395, rfl⟩
abbrev main_v269 : Ref sig .tc := ⟨.hbm, 396, rfl⟩
abbrev main_v270 : Ref sig .tc := ⟨.hbm, 397, rfl⟩
abbrev main_v271 : Ref sig .tc := ⟨.hbm, 398, rfl⟩
abbrev main_v272 : Ref sig .tc := ⟨.hbm, 399, rfl⟩
abbrev main_v273 : Ref sig .tc := ⟨.hbm, 400, rfl⟩
abbrev main_cst_49 : Ref sig .tc := ⟨.hbm, 401, rfl⟩
abbrev main_v274 : Ref sig .tc := ⟨.hbm, 402, rfl⟩
abbrev main_v275 : Ref sig .tc := ⟨.hbm, 403, rfl⟩
abbrev main_cst_50 : Ref sig .tc := ⟨.hbm, 404, rfl⟩
abbrev main_v276 : Ref sig .tc := ⟨.hbm, 405, rfl⟩
abbrev main_v277 : Ref sig .tc := ⟨.hbm, 406, rfl⟩
abbrev main_cst_51 : Ref sig .tc := ⟨.hbm, 407, rfl⟩
abbrev main_v278 : Ref sig .tc := ⟨.hbm, 408, rfl⟩
abbrev main_v279 : Ref sig .tc := ⟨.hbm, 409, rfl⟩
abbrev main_v280 : Ref sig .tc := ⟨.hbm, 410, rfl⟩
abbrev main_v281 : Ref sig .tc := ⟨.hbm, 411, rfl⟩
abbrev main_v282 : Ref sig .tc := ⟨.hbm, 412, rfl⟩
abbrev main_v283 : Ref sig .tc := ⟨.hbm, 413, rfl⟩
abbrev main_v284 : Ref sig .tc := ⟨.hbm, 414, rfl⟩
abbrev main_v285 : Ref sig .tc := ⟨.hbm, 415, rfl⟩

abbrev nD : Nat := 1
abbrev τ : Topo := Topo.v7x

variable {F : FTy → Type} [FloatOps F]
-- ==== Proof.MidRegionI.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_mid` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any
    proof data whose array is the region's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any
    proof data whose array is the region's and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any
    proof data whose array is the region's and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any
    proof data whose array is the region's and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any
    proof data whose array is the region's and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any
    proof data whose array is the region's and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for any
    proof data whose array is the region's and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for any
    proof data whose array is the region's and whose body leaves the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staging buffer holds its block at every point, fetched there or not, for any
    proof data whose array is the region's and whose body leaves the block in place. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
/-- Input window 9's current staging buffer holds its block at every point, fetched there or not, for any
    proof data whose array is the region's and whose body leaves the block in place. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
/-- Input window 10's current staging buffer holds its block at every point, fetched there or not, for any
    proof data whose array is the region's and whose body leaves the block in place. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
/-- Input window 11's current staging buffer holds its block at every point, fetched there or not, for any
    proof data whose array is the region's and whose body leaves the block in place. -/
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
/-- Input window 12's current staging buffer holds its block at every point, fetched there or not, for any
    proof data whose array is the region's and whose body leaves the block in place. -/
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
/-- Input window 13's current staging buffer holds its block at every point, fetched there or not, for any
    proof data whose array is the region's and whose body leaves the block in place. -/
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S256x1024 := Rect.unit (s := S256x1024) ![0, 0] S256x1024.size inb_S256x1024_S256x1024_0_0
abbrev r3_1 : Rect S1024x1024 := Rect.unit (s := S1024x1024) ![0, 0] S1024x1024.size inb_S1024x1024_S1024x1024_0_0
abbrev r3_2 : Rect S256x256 := Rect.unit (s := S256x256) ![0, 0] S256x256.size inb_S256x256_S256x256_0_0
abbrev r3_3 : Rect S1x1024 := Rect.unit (s := S1x1024) ![0, 0] S1x1024.size inb_S1x1024_S1x1024_0_0
abbrev r3_4 : Rect S1x1024x256 := Rect.unit (s := S1x1024x256) ![0, 0, 0] S1x1024x256.size inb_S1x1024x256_S1x1024x256_0_0_0

/-! ## What the body leaves in each output window's buffer -/

/-! ### Values of the body that several stores share, over the input windows' blocks -/

def k3_pay14 (x0 : Vec F S256x1024 .f32) (x1 : Vec F S256x1024 .f32) (x2 : Vec F S256x1024 .f32) (x3 : Vec F S256x256 .f32) (x4 : Vec F S1x1024 .f32) (x5 : Vec F S1x1024 .f32) (x6 : Vec F S1x1024 .f32) (x7 : Vec F S1024x1024 .bf16) (x8 : Vec F S1024x1024 .bf16) (x9 : Vec F S256x1024 .bf16) (x10 : Vec F S1024x1024 .bf16) (x11 : Vec F S1024x1024 .bf16) (x12 : Vec F S1024x1024 .bf16) (x13 : Vec F S1024x1024 .bf16) : FVec F S256x1024 .f32 :=
  k3_pay4 (View.ld x1 r3_0) (View.ld x2 r3_0) (View.ld x0 r3_0) (View.ld x7 r3_1) -- `v13`
def k3_pay15 (x0 : Vec F S256x1024 .f32) (x1 : Vec F S256x1024 .f32) (x2 : Vec F S256x1024 .f32) (x3 : Vec F S256x256 .f32) (x4 : Vec F S1x1024 .f32) (x5 : Vec F S1x1024 .f32) (x6 : Vec F S1x1024 .f32) (x7 : Vec F S1024x1024 .bf16) (x8 : Vec F S1024x1024 .bf16) (x9 : Vec F S256x1024 .bf16) (x10 : Vec F S1024x1024 .bf16) (x11 : Vec F S1024x1024 .bf16) (x12 : Vec F S1024x1024 .bf16) (x13 : Vec F S1024x1024 .bf16) : FVec F S256x1024 .bf16 :=
  k3_pay5 (View.ld x9 r3_0) -- `v21`
def k3_pay16 (x0 : Vec F S256x1024 .f32) (x1 : Vec F S256x1024 .f32) (x2 : Vec F S256x1024 .f32) (x3 : Vec F S256x256 .f32) (x4 : Vec F S1x1024 .f32) (x5 : Vec F S1x1024 .f32) (x6 : Vec F S1x1024 .f32) (x7 : Vec F S1024x1024 .bf16) (x8 : Vec F S1024x1024 .bf16) (x9 : Vec F S256x1024 .bf16) (x10 : Vec F S1024x1024 .bf16) (x11 : Vec F S1024x1024 .bf16) (x12 : Vec F S1024x1024 .bf16) (x13 : Vec F S1024x1024 .bf16) : FVec F S256x1024 .f32 :=
  k3_pay6 (View.ld x1 r3_0) (View.ld x2 r3_0) (View.ld x0 r3_0) (View.ld x7 r3_1) (View.ld x4 r3_3) (View.ld x8 r3_1) -- `v36`
def k3_pay17 (x0 : Vec F S256x1024 .f32) (x1 : Vec F S256x1024 .f32) (x2 : Vec F S256x1024 .f32) (x3 : Vec F S256x256 .f32) (x4 : Vec F S1x1024 .f32) (x5 : Vec F S1x1024 .f32) (x6 : Vec F S1x1024 .f32) (x7 : Vec F S1024x1024 .bf16) (x8 : Vec F S1024x1024 .bf16) (x9 : Vec F S256x1024 .bf16) (x10 : Vec F S1024x1024 .bf16) (x11 : Vec F S1024x1024 .bf16) (x12 : Vec F S1024x1024 .bf16) (x13 : Vec F S1024x1024 .bf16) : FVec F S256x256 .bf16 :=
  k3_pay7 (View.ld x3 r3_2) -- `v37`
def k3_pay18 (x0 : Vec F S256x1024 .f32) (x1 : Vec F S256x1024 .f32) (x2 : Vec F S256x1024 .f32) (x3 : Vec F S256x256 .f32) (x4 : Vec F S1x1024 .f32) (x5 : Vec F S1x1024 .f32) (x6 : Vec F S1x1024 .f32) (x7 : Vec F S1024x1024 .bf16) (x8 : Vec F S1024x1024 .bf16) (x9 : Vec F S256x1024 .bf16) (x10 : Vec F S1024x1024 .bf16) (x11 : Vec F S1024x1024 .bf16) (x12 : Vec F S1024x1024 .bf16) (x13 : Vec F S1024x1024 .bf16) : FVec F S256x1024 .f32 :=
  k3_pay8 (k3_pay14 x0 x1 x2 x3 x4 x5 x6 x7 x8 x9 x10 x11 x12 x13) (k3_pay15 x0 x1 x2 x3 x4 x5 x6 x7 x8 x9 x10 x11 x12 x13) (k3_pay16 x0 x1 x2 x3 x4 x5 x6 x7 x8 x9 x10 x11 x12 x13) (k3_pay17 x0 x1 x2 x3 x4 x5 x6 x7 x8 x9 x10 x11 x12 x13) -- `v40`
def k3_pay19 (x0 : Vec F S256x1024 .f32) (x1 : Vec F S256x1024 .f32) (x2 : Vec F S256x1024 .f32) (x3 : Vec F S256x256 .f32) (x4 : Vec F S1x1024 .f32) (x5 : Vec F S1x1024 .f32) (x6 : Vec F S1x1024 .f32) (x7 : Vec F S1024x1024 .bf16) (x8 : Vec F S1024x1024 .bf16) (x9 : Vec F S256x1024 .bf16) (x10 : Vec F S1024x1024 .bf16) (x11 : Vec F S1024x1024 .bf16) (x12 : Vec F S1024x1024 .bf16) (x13 : Vec F S1024x1024 .bf16) : FVec F S1x1024 .f32 :=
  k3_pay12 (View.ld x6 r3_3) -- `v70`
def k3_pay20 (x0 : Vec F S256x1024 .f32) (x1 : Vec F S256x1024 .f32) (x2 : Vec F S256x1024 .f32) (x3 : Vec F S256x256 .f32) (x4 : Vec F S1x1024 .f32) (x5 : Vec F S1x1024 .f32) (x6 : Vec F S1x1024 .f32) (x7 : Vec F S1024x1024 .bf16) (x8 : Vec F S1024x1024 .bf16) (x9 : Vec F S256x1024 .bf16) (x10 : Vec F S1024x1024 .bf16) (x11 : Vec F S1024x1024 .bf16) (x12 : Vec F S1024x1024 .bf16) (x13 : Vec F S1024x1024 .bf16) : FVec F S256 .f32 :=
  k3_pay13 (k3_pay14 x0 x1 x2 x3 x4 x5 x6 x7 x8 x9 x10 x11 x12 x13) (k3_pay15 x0 x1 x2 x3 x4 x5 x6 x7 x8 x9 x10 x11 x12 x13) (k3_pay16 x0 x1 x2 x3 x4 x5 x6 x7 x8 x9 x10 x11 x12 x13) (k3_pay17 x0 x1 x2 x3 x4 x5 x6 x7 x8 x9 x10 x11 x12 x13) -- `v72`

/-- Window 14's staging buffer after the body, from the input windows' blocks: what its one store writes. -/
def out3_14 (x0 : Vec F S256x1024 .f32) (x1 : Vec F S256x1024 .f32) (x2 : Vec F S256x1024 .f32) (x3 : Vec F S256x256 .f32) (x4 : Vec F S1x1024 .f32) (x5 : Vec F S1x1024 .f32) (x6 : Vec F S1x1024 .f32) (x7 : Vec F S1024x1024 .bf16) (x8 : Vec F S1024x1024 .bf16) (x9 : Vec F S256x1024 .bf16) (x10 : Vec F S1024x1024 .bf16) (x11 : Vec F S1024x1024 .bf16) (x12 : Vec F S1024x1024 .bf16) (x13 : Vec F S1024x1024 .bf16) : Vec F S256x1024 .f32 :=
  View.canon [⟨r3_0, k3_pay8 (k3_pay14 x0 x1 x2 x3 x4 x5 x6 x7 x8 x9 x10 x11 x12 x13) (k3_pay15 x0 x1 x2 x3 x4 x5 x6 x7 x8 x9 x10 x11 x12 x13) (k3_pay16 x0 x1 x2 x3 x4 x5 x6 x7 x8 x9 x10 x11 x12 x13) (k3_pay17 x0 x1 x2 x3 x4 x5 x6 x7 x8 x9 x10 x11 x12 x13)⟩]

/-- Its stores tile the buffer, so they cover it. -/
theorem cover3_14 (p0 : Vec F S256x1024 .f32) (y : S256x1024.Idx) :
    ∃ pc ∈ ([⟨r3_0, p0⟩] : List (View.Piece (Elt F) S256x1024 .f32)), y ∈ pc.1.set :=
  View.cover_of_tiled [⟨r3_0, p0⟩] S256x1024.size (by rfl) y

/-- Window 15's staging buffer after the body, from the input windows' blocks: what its one store writes. -/
def out3_15 (x0 : Vec F S256x1024 .f32) (x1 : Vec F S256x1024 .f32) (x2 : Vec F S256x1024 .f32) (x3 : Vec F S256x256 .f32) (x4 : Vec F S1x1024 .f32) (x5 : Vec F S1x1024 .f32) (x6 : Vec F S1x1024 .f32) (x7 : Vec F S1024x1024 .bf16) (x8 : Vec F S1024x1024 .bf16) (x9 : Vec F S256x1024 .bf16) (x10 : Vec F S1024x1024 .bf16) (x11 : Vec F S1024x1024 .bf16) (x12 : Vec F S1024x1024 .bf16) (x13 : Vec F S1024x1024 .bf16) : Vec F S256x1024 .bf16 :=
  View.canon [⟨r3_0, k3_pay10 (k3_pay14 x0 x1 x2 x3 x4 x5 x6 x7 x8 x9 x10 x11 x12 x13) (k3_pay15 x0 x1 x2 x3 x4 x5 x6 x7 x8 x9 x10 x11 x12 x13) (k3_pay16 x0 x1 x2 x3 x4 x5 x6 x7 x8 x9 x10 x11 x12 x13) (k3_pay17 x0 x1 x2 x3 x4 x5 x6 x7 x8 x9 x10 x11 x12 x13) (View.ld x5 r3_3) (View.ld x10 r3_1)⟩]

/-- Its stores tile the buffer, so they cover it. -/
theorem cover3_15 (p0 : Vec F S256x1024 .bf16) (y : S256x1024.Idx) :
    ∃ pc ∈ ([⟨r3_0, p0⟩] : List (View.Piece (Elt F) S256x1024 .bf16)), y ∈ pc.1.set :=
  View.cover_of_tiled [⟨r3_0, p0⟩] S256x1024.size (by rfl) y

/-- Window 16's staging buffer after the body, from the input windows' blocks: what its one store writes. -/
def out3_16 (x0 : Vec F S256x1024 .f32) (x1 : Vec F S256x1024 .f32) (x2 : Vec F S256x1024 .f32) (x3 : Vec F S256x256 .f32) (x4 : Vec F S1x1024 .f32) (x5 : Vec F S1x1024 .f32) (x6 : Vec F S1x1024 .f32) (x7 : Vec F S1024x1024 .bf16) (x8 : Vec F S1024x1024 .bf16) (x9 : Vec F S256x1024 .bf16) (x10 : Vec F S1024x1024 .bf16) (x11 : Vec F S1024x1024 .bf16) (x12 : Vec F S1024x1024 .bf16) (x13 : Vec F S1024x1024 .bf16) : Vec F S1x1024x256 .bf16 :=
  View.canon [⟨r3_4, k3_pay11 (k3_pay14 x0 x1 x2 x3 x4 x5 x6 x7 x8 x9 x10 x11 x12 x13) (k3_pay15 x0 x1 x2 x3 x4 x5 x6 x7 x8 x9 x10 x11 x12 x13) (k3_pay16 x0 x1 x2 x3 x4 x5 x6 x7 x8 x9 x10 x11 x12 x13) (k3_pay17 x0 x1 x2 x3 x4 x5 x6 x7 x8 x9 x10 x11 x12 x13) (View.ld x5 r3_3) (View.ld x11 r3_1)⟩]

/-- Its stores tile the buffer, so they cover it. -/
theorem cover3_16 (p0 : Vec F S1x1024x256 .bf16) (y : S1x1024x256.Idx) :
    ∃ pc ∈ ([⟨r3_4, p0⟩] : List (View.Piece (Elt F) S1x1024x256 .bf16)), y ∈ pc.1.set :=
  View.cover_of_tiled [⟨r3_4, p0⟩] S1x1024x256.size (by rfl) y

/-- Window 17's staging buffer after the body, from the input windows' blocks: what its one store writes. -/
def out3_17 (x0 : Vec F S256x1024 .f32) (x1 : Vec F S256x1024 .f32) (x2 : Vec F S256x1024 .f32) (x3 : Vec F S256x256 .f32) (x4 : Vec F S1x1024 .f32) (x5 : Vec F S1x1024 .f32) (x6 : Vec F S1x1024 .f32) (x7 : Vec F S1024x1024 .bf16) (x8 : Vec F S1024x1024 .bf16) (x9 : Vec F S256x1024 .bf16) (x10 : Vec F S1024x1024 .bf16) (x11 : Vec F S1024x1024 .bf16) (x12 : Vec F S1024x1024 .bf16) (x13 : Vec F S1024x1024 .bf16) : Vec F S1x1024x256 .bf16 :=
  View.canon [⟨r3_4, k3_pay2 (k3_pay18 x0 x1 x2 x3 x4 x5 x6 x7 x8 x9 x10 x11 x12 x13) (k3_pay19 x0 x1 x2 x3 x4 x5 x6 x7 x8 x9 x10 x11 x12 x13) (k3_pay20 x0 x1 x2 x3 x4 x5 x6 x7 x8 x9 x10 x11 x12 x13) (View.ld x12 r3_1)⟩]

/-- Its stores tile the buffer, so they cover it. -/
theorem cover3_17 (p0 : Vec F S1x1024x256 .bf16) (y : S1x1024x256.Idx) :
    ∃ pc ∈ ([⟨r3_4, p0⟩] : List (View.Piece (Elt F) S1x1024x256 .bf16)), y ∈ pc.1.set :=
  View.cover_of_tiled [⟨r3_4, p0⟩] S1x1024x256.size (by rfl) y

/-- Window 18's staging buffer after the body, from the input windows' blocks: what its one store writes. -/
def out3_18 (x0 : Vec F S256x1024 .f32) (x1 : Vec F S256x1024 .f32) (x2 : Vec F S256x1024 .f32) (x3 : Vec F S256x256 .f32) (x4 : Vec F S1x1024 .f32) (x5 : Vec F S1x1024 .f32) (x6 : Vec F S1x1024 .f32) (x7 : Vec F S1024x1024 .bf16) (x8 : Vec F S1024x1024 .bf16) (x9 : Vec F S256x1024 .bf16) (x10 : Vec F S1024x1024 .bf16) (x11 : Vec F S1024x1024 .bf16) (x12 : Vec F S1024x1024 .bf16) (x13 : Vec F S1024x1024 .bf16) : Vec F S256x1024 .f32 :=
  View.canon [⟨r3_0, k3_pay3 (k3_pay18 x0 x1 x2 x3 x4 x5 x6 x7 x8 x9 x10 x11 x12 x13) (k3_pay19 x0 x1 x2 x3 x4 x5 x6 x7 x8 x9 x10 x11 x12 x13) (k3_pay20 x0 x1 x2 x3 x4 x5 x6 x7 x8 x9 x10 x11 x12 x13) (View.ld x13 r3_1)⟩]

/-- Its stores tile the buffer, so they cover it. -/
theorem cover3_18 (p0 : Vec F S256x1024 .f32) (y : S256x1024.Idx) :
    ∃ pc ∈ ([⟨r3_0, p0⟩] : List (View.Piece (Elt F) S256x1024 .f32)), y ∈ pc.1.set :=
  View.cover_of_tiled [⟨r3_0, p0⟩] S256x1024.size (by rfl) y

/-! ## The body's triple -/

set_option maxHeartbeats 1000000 in
/-- The kernel body on whole staging memrefs, the inputs' at read contents `xW` and the outputs' at anything, runs to
    the continuation holding the inputs' as they were and each output's at `out3_W` of the inputs'. -/
theorem sound_kernel3 (c : Dev nD) (E : Set ℕ) (i : grid3.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x256 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S256x1024 .f32) (harg19 : arg19.IsWhole)
    (x0 : Vec F S256x1024 .f32) (x1 : Vec F S256x1024 .f32) (x2 : Vec F S256x1024 .f32) (x3 : Vec F S256x256 .f32) (x4 : Vec F S1x1024 .f32) (x5 : Vec F S1x1024 .f32) (x6 : Vec F S1x1024 .f32) (x7 : Vec F S1024x1024 .bf16) (x8 : Vec F S1024x1024 .bf16) (x9 : Vec F S256x1024 .bf16) (x10 : Vec F S1024x1024 .bf16) (x11 : Vec F S1024x1024 .bf16) (x12 : Vec F S1024x1024 .bf16) (x13 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out3_14 x0 x1 x2 x3 x4 x5 x6 x7 x8 x9 x10 x11 x12 x13) ∗ owns (c : Thread nD τ) arg16 fullShare (out3_15 x0 x1 x2 x3 x4 x5 x6 x7 x8 x9 x10 x11 x12 x13) ∗ owns (c : Thread nD τ) arg17 fullShare (out3_16 x0 x1 x2 x3 x4 x5 x6 x7 x8 x9 x10 x11 x12 x13) ∗ owns (c : Thread nD τ) arg18 fullShare (out3_17 x0 x1 x2 x3 x4 x5 x6 x7 x8 x9 x10 x11 x12 x13) ∗ owns (c : Thread nD τ) arg19 fullShare (out3_18 x0 x1 x2 x3 x4 x5 x6 x7 x8 x9 x10 x11 x12 x13)) -∗ K ⟨⟩))
      ⊢ wp frame (wpE (defs₀ (F := F)) Variants.none c none) E (cc3_mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc3_mid_eq_skeleton]; unfold cc3_mid_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover3_14 _)).trans ?_
    rfl
  isplitl [H15]
  · iexists _; isplitr
    swap; · iexact H15
    ipureintro
    refine (View.read_writes_eq_canon _ _ _ (cover3_15 _)).trans ?_
    rfl
  isplitl [H16]
  · iexists _; isplitr
    swap; · iexact H16
    ipureintro
    refine (View.read_writes_eq_canon _ _ _ (cover3_16 _)).trans ?_
    rfl
  isplitl [H17]
  · iexists _; isplitr
    swap; · iexact H17
    ipureintro
    refine (View.read_writes_eq_canon _ _ _ (cover3_17 _)).trans ?_
    rfl
  iexists _; isplitr
  swap; · iexact H18
  ipureintro
  refine (View.read_writes_eq_canon _ _ _ (cover3_18 _)).trans ?_
  rfl

/-! ## The pipeline's proof data -/

/-- The proof data of pipeline 3 on core `c`: the arrays as the region finds them (`V`); after the body at
    point `t` each input's buffer at its block and each output's at `out3_W` of the input blocks; the invariant is
    the scoped rest and the generator register, untouched; nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)
    | ⟨15, _⟩ => out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)
    | ⟨16, _⟩ => out3_16 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)
    | ⟨17, _⟩ => out3_17 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)
    | ⟨18, _⟩ => out3_18 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)
    | ⟨_ + 19, h⟩ => absurd h (Nat.not_lt.2 (Nat.le_add_left _ _))
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) := by dsimp only [dat3]
theorem after3_15 (c : Dev nD) (t : Fin cfg3.N) : (dat3 V c).after 15 t = out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) := by dsimp only [dat3]
theorem after3_16 (c : Dev nD) (t : Fin cfg3.N) : (dat3 V c).after 16 t = out3_16 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) := by dsimp only [dat3]
theorem after3_17 (c : Dev nD) (t : Fin cfg3.N) : (dat3 V c).after 17 t = out3_17 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) := by dsimp only [dat3]
theorem after3_18 (c : Dev nD) (t : Fin cfg3.N) : (dat3 V c).after 18 t = out3_18 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17, after3_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel3 c Set.univ (grid3.coords t) _ _ _ _ _ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

set_option maxHeartbeats 1000000 in
/-- The obligation of the body, at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.LaunchI.lean ====
module

public import proofs.«01_k».proof.Proof.MidRegionI
public import proofs.«01_k».proof.Proof.Gen.KernelIdeal.Frame.Region0
public import proofs.«01_k».proof.Proof.Gen.KernelIdeal.Frame.Region1
public import proofs.«01_k».proof.Proof.Gen.KernelIdeal.Frame.Region2
public import proofs.«01_k».proof.Proof.Gen.KernelIdeal.Frame.Region4
public import proofs.«01_k».proof.Proof.Gen.KernelIdeal.Frame.Region5
public import proofs.«01_k».proof.Proof.Gen.KernelIdeal.Frame.Hosts0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's output arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (region 2's entry). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's output arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's output arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's. -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`). -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3` (region 3's entry). -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- The same read at the TensorCore's references (what region 3's proof data take). -/
abbrev V6 : (c : Dev nD) → (b : Ref sig .tc) → Buf (Elt F) ((c : Thread nD τ).loc b) := fun c b => W6 m ρ c b
/-- At region 3's exit: its arrays at what the pipeline leaves (the inputs as entered, each output's write-backs
    folded: `Dat.arrAt … N`), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- A reference that is none of region 3's output arrays keeps its entry contents across it: an input window's
    array is never written back (`Dat.arrAt_in`, `A_eq3`); any other buffer is left as is. -/
theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((dat3 (V6 m ρ) c).arrAt_in w (h w rfl) _).trans (A_eq3 (V6 m ρ) c w))
  · exact W7_of_ne m ρ c r fun w e => hw ⟨w, e⟩
/-- Every argument among region 3's arrays is an input window's. -/
theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn3 a ha)).trans (W6_args m ρ c a ha)
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves (`hF3`) and every other buffer what it
    held at entry (`hrest3`). -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After `hostOps4` (region 4's entry). -/
abbrev W8 : Dev nD → Valuation τ sig (Elt F) := fun c => StableHlo.after hostOps4 (W7 m ρ c)
/-- A reference `hostOps4` does not write keeps its contents across it. -/
theorem W8_of (c : Dev nD) (r : Ref sig .tc) (h : r ∉ hostOps4_W) : W8 m ρ c (Proc.devRef .tc r) = W7 m ρ c (Proc.devRef .tc r) :=
  StableHlo.after_of_writes_sub hostOps4 _ hostOps4_writes h
theorem W8_args (c : Dev nD) : ∀ a ∈ argRefs, W8 m ρ c (Proc.devRef .tc a) = m ((c : Thread nD τ).loc a) :=
  fun a ha => (W8_of m ρ c a (hostOps4_args a ha)).trans (W7_args m ρ c a ha)
/-- The same read at the TensorCore's references (what region 4's proof data take). -/
abbrev V8 : (c : Dev nD) → (b : Ref sig .tc) → Buf (Elt F) ((c : Thread nD τ).loc b) := fun c b => W8 m ρ c b
/-- At region 4's exit: its arrays at what the pipeline leaves (the inputs as entered, each output's write-backs
    folded: `Dat.arrAt … N`), every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- A reference that is none of region 4's output arrays keeps its entry contents across it: an input window's
    array is never written back (`Dat.arrAt_in`, `A_eq4`); any other buffer is left as is. -/
theorem W9_of (c : Dev nD) (r : Ref sig .tc) (h : ∀ w : Fin cfg4.W, Pipeline.arrRef spec4 w = r → (cfg4.win w).isOut = false) :
    W9 m ρ c (Proc.devRef .tc r) = W8 m ρ c (Proc.devRef .tc r) := by
  by_cases hw : ∃ w : Fin cfg4.W, Pipeline.arrRef spec4 w = r
  · obtain ⟨w, rfl⟩ := hw
    exact (W9_arr m ρ c w).trans (((dat4 (V8 m ρ) c).arrAt_in w (h w rfl) _).trans (A_eq4 (V8 m ρ) c w))
  · exact W9_of_ne m ρ c r fun w e => hw ⟨w, e⟩
/-- Every argument among region 4's arrays is an input window's. -/
theorem argsIn4 : ∀ a ∈ argRefs, ∀ w : Fin cfg4.W, Pipeline.arrRef spec4 w = a → (cfg4.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn4 a ha)).trans (W8_args m ρ c a ha)
/-- The same read at the TensorCore's references (region 4's exit contents). -/
abbrev V9 : (c : Dev nD) → (b : Ref sig .tc) → Buf (Elt F) ((c : Thread nD τ).loc b) := fun c b => W9 m ρ c b
/-- At region 4's exit each of its arrays holds what the pipeline leaves (`hF4`) and every other buffer what it
    held at entry (`hrest4`). -/
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- After `hostOps5` (region 5's entry). -/
abbrev W10 : Dev nD → Valuation τ sig (Elt F) := fun c => StableHlo.after hostOps5 (W9 m ρ c)
/-- A reference `hostOps5` does not write keeps its contents across it. -/
theorem W10_of (c : Dev nD) (r : Ref sig .tc) (h : r ∉ hostOps5_W) : W10 m ρ c (Proc.devRef .tc r) = W9 m ρ c (Proc.devRef .tc r) :=
  StableHlo.after_of_writes_sub hostOps5 _ hostOps5_writes h
theorem W10_args (c : Dev nD) : ∀ a ∈ argRefs, W10 m ρ c (Proc.devRef .tc a) = m ((c : Thread nD τ).loc a) :=
  fun a ha => (W10_of m ρ c a (hostOps5_args a ha)).trans (W9_args m ρ c a ha)
/-- The same read at the TensorCore's references (what region 5's proof data take). -/
abbrev V10 : (c : Dev nD) → (b : Ref sig .tc) → Buf (Elt F) ((c : Thread nD τ).loc b) := fun c b => W10 m ρ c b
/-- At region 5's exit: its arrays at what the pipeline leaves (the inputs as entered, each output's write-backs
    folded: `Dat.arrAt … N`), every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- A reference that is none of region 5's output arrays keeps its entry contents across it: an input window's
    array is never written back (`Dat.arrAt_in`, `A_eq5`); any other buffer is left as is. -/
theorem W11_of (c : Dev nD) (r : Ref sig .tc) (h : ∀ w : Fin cfg5.W, Pipeline.arrRef spec5 w = r → (cfg5.win w).isOut = false) :
    W11 m ρ c (Proc.devRef .tc r) = W10 m ρ c (Proc.devRef .tc r) := by
  by_cases hw : ∃ w : Fin cfg5.W, Pipeline.arrRef spec5 w = r
  · obtain ⟨w, rfl⟩ := hw
    exact (W11_arr m ρ c w).trans (((dat5 (V10 m ρ) c).arrAt_in w (h w rfl) _).trans (A_eq5 (V10 m ρ) c w))
  · exact W11_of_ne m ρ c r fun w e => hw ⟨w, e⟩
/-- Every argument among region 5's arrays is an input window's. -/
theorem argsIn5 : ∀ a ∈ argRefs, ∀ w : Fin cfg5.W, Pipeline.arrRef spec5 w = a → (cfg5.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn5 a ha)).trans (W10_args m ρ c a ha)
/-- The same read at the TensorCore's references (region 5's exit contents). -/
abbrev V11 : (c : Dev nD) → (b : Ref sig .tc) → Buf (Elt F) ((c : Thread nD τ).loc b) := fun c b => W11 m ρ c b
/-- At region 5's exit each of its arrays holds what the pipeline leaves (`hF5`) and every other buffer what it
    held at entry (`hrest5`). -/
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

/-- After `hostOps6`. -/
abbrev W12 : Dev nD → Valuation τ sig (Elt F) := fun c => StableHlo.after hostOps6 (W11 m ρ c)
/-- A reference `hostOps6` does not write keeps its contents across it. -/
theorem W12_of (c : Dev nD) (r : Ref sig .tc) (h : r ∉ hostOps6_W) : W12 m ρ c (Proc.devRef .tc r) = W11 m ρ c (Proc.devRef .tc r) :=
  StableHlo.after_of_writes_sub hostOps6 _ hostOps6_writes h
theorem W12_args (c : Dev nD) : ∀ a ∈ argRefs, W12 m ρ c (Proc.devRef .tc a) = m ((c : Thread nD τ).loc a) :=
  fun a ha => (W12_of m ρ c a (hostOps6_args a ha)).trans (W11_args m ρ c a ha)

/-! ### The arguments end as launched: no host stretch writes one and no region may change one (a region reads it
    through an input window or bypasses it) -/

theorem W12_main_arg0 (c : Dev nD) : W12 m ρ c (Proc.devRef .tc main_arg0) = m ((c : Thread nD τ).loc main_arg0) :=
  W12_args m ρ c main_arg0 (by decide)
theorem W12_main_arg1 (c : Dev nD) : W12 m ρ c (Proc.devRef .tc main_arg1) = m ((c : Thread nD τ).loc main_arg1) :=
  W12_args m ρ c main_arg1 (by decide)
theorem W12_main_arg2 (c : Dev nD) : W12 m ρ c (Proc.devRef .tc main_arg2) = m ((c : Thread nD τ).loc main_arg2) :=
  W12_args m ρ c main_arg2 (by decide)
theorem W12_main_arg3 (c : Dev nD) : W12 m ρ c (Proc.devRef .tc main_arg3) = m ((c : Thread nD τ).loc main_arg3) :=
  W12_args m ρ c main_arg3 (by decide)
theorem W12_main_arg4 (c : Dev nD) : W12 m ρ c (Proc.devRef .tc main_arg4) = m ((c : Thread nD τ).loc main_arg4) :=
  W12_args m ρ c main_arg4 (by decide)
theorem W12_main_arg5 (c : Dev nD) : W12 m ρ c (Proc.devRef .tc main_arg5) = m ((c : Thread nD τ).loc main_arg5) :=
  W12_args m ρ c main_arg5 (by decide)
theorem W12_main_arg6 (c : Dev nD) : W12 m ρ c (Proc.devRef .tc main_arg6) = m ((c : Thread nD τ).loc main_arg6) :=
  W12_args m ρ c main_arg6 (by decide)
theorem W12_main_arg7 (c : Dev nD) : W12 m ρ c (Proc.devRef .tc main_arg7) = m ((c : Thread nD τ).loc main_arg7) :=
  W12_args m ρ c main_arg7 (by decide)
theorem W12_main_arg8 (c : Dev nD) : W12 m ρ c (Proc.devRef .tc main_arg8) = m ((c : Thread nD τ).loc main_arg8) :=
  W12_args m ρ c main_arg8 (by decide)
theorem W12_main_arg9 (c : Dev nD) : W12 m ρ c (Proc.devRef .tc main_arg9) = m ((c : Thread nD τ).loc main_arg9) :=
  W12_args m ρ c main_arg9 (by decide)
theorem W12_main_arg10 (c : Dev nD) : W12 m ρ c (Proc.devRef .tc main_arg10) = m ((c : Thread nD τ).loc main_arg10) :=
  W12_args m ρ c main_arg10 (by decide)
theorem W12_main_arg11 (c : Dev nD) : W12 m ρ c (Proc.devRef .tc main_arg11) = m ((c : Thread nD τ).loc main_arg11) :=
  W12_args m ρ c main_arg11 (by decide)
theorem W12_main_arg12 (c : Dev nD) : W12 m ρ c (Proc.devRef .tc main_arg12) = m ((c : Thread nD τ).loc main_arg12) :=
  W12_args m ρ c main_arg12 (by decide)
theorem W12_main_arg13 (c : Dev nD) : W12 m ρ c (Proc.devRef .tc main_arg13) = m ((c : Thread nD τ).loc main_arg13) :=
  W12_args m ρ c main_arg13 (by decide)
theorem W12_main_arg14 (c : Dev nD) : W12 m ρ c (Proc.devRef .tc main_arg14) = m ((c : Thread nD τ).loc main_arg14) :=
  W12_args m ρ c main_arg14 (by decide)
theorem W12_main_arg15 (c : Dev nD) : W12 m ρ c (Proc.devRef .tc main_arg15) = m ((c : Thread nD τ).loc main_arg15) :=
  W12_args m ρ c main_arg15 (by decide)
/-! ## The proof data family and the thread state -/

/-- The prefetched tables' admissible contents: no pipeline has a table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V8 m ρ) c
  | ⟨5, _⟩ => fun c => dat5 (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes, which is nothing: every unscoped
    buffer at the last boundary's contents `W12`, the generator register at some state. -/
abbrev Tₙ (c : Dev nD) : sProp 𝕄 := iprop(StableHlo.held (c : Thread nD τ) (Pipeline.ucRefs τ sig) (W12 m ρ c) ∗ ∃ r, prngReg c r)

set_option backward.isDefEq.respectTransparency.types false in
/-- REGION 0 (custom_call 0) over the thread state: entered from every unscoped buffer at `W1`, left at `W2`
    (what the next segment is entered from). Its arrays are taken from the
    buffers and put back at the exit contents; the generator register goes in and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W3`, left at `W4`
    (what the next segment is entered from). Its arrays are taken from the
    buffers and put back at the exit contents; the generator register goes in and comes out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W4`, left at `W5`
    (what the next segment is entered from). Its arrays are taken from the
    buffers and put back at the exit contents; the generator register goes in and comes out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (custom_call 3) over the thread state: entered from every unscoped buffer at `W6`, left at `W7`
    (what the next segment is entered from). Its arrays are taken from the
    buffers and put back at the exit contents; the generator register goes in and comes out; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) (A_eq3 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (custom_call 4) over the thread state: entered from every unscoped buffer at `W8`, left at `W9`
    (what the next segment is entered from). Its arrays are taken from the
    buffers and put back at the exit contents; the generator register goes in and comes out; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) (A_eq4 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 (custom_call 5) over the thread state: entered from every unscoped buffer at `W10`, left at `W11`
    (what the next segment is entered from). Its arrays are taken from the
    buffers and put back at the exit contents; the generator register goes in and comes out; nothing is owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) (A_eq5 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 12 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)) ]
/-- The main function is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every fair execution of the program ends, nothing faulting, with every buffer outside the kernels' scopes at the
    contents the segments compute, and with every semaphore counter at zero. -/
theorem run : θ_run defs (onTc (τ := τ) (main (F := F))) ⟨m, fun _ => 0, ρ⟩ (fun r => (∀ c : Dev nD,
      ∀ b ∈ Pipeline.ucRefs τ sig, r.2.mem (c, b) = W12 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨fun c => h c, funext fun g => hz g (.inr (no_unscoped g.2))⟩)

/-- The argument arrays end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun s h => ⟨fun c =>
    ⟨(h.1 c _ (mem_uc main_arg0 (by decide))).trans (W12_main_arg0 m ρ c),
     (h.1 c _ (mem_uc main_arg1 (by decide))).trans (W12_main_arg1 m ρ c),
     (h.1 c _ (mem_uc main_arg2 (by decide))).trans (W12_main_arg2 m ρ c),
     (h.1 c _ (mem_uc main_arg3 (by decide))).trans (W12_main_arg3 m ρ c),
     (h.1 c _ (mem_uc main_arg4 (by decide))).trans (W12_main_arg4 m ρ c),
     (h.1 c _ (mem_uc main_arg5 (by decide))).trans (W12_main_arg5 m ρ c),
     (h.1 c _ (mem_uc main_arg6 (by decide))).trans (W12_main_arg6 m ρ c),
     (h.1 c _ (mem_uc main_arg7 (by decide))).trans (W12_main_arg7 m ρ c),
     (h.1 c _ (mem_uc main_arg8 (by decide))).trans (W12_main_arg8 m ρ c),
     (h.1 c _ (mem_uc main_arg9 (by decide))).trans (W12_main_arg9 m ρ c),
     (h.1 c _ (mem_uc main_arg10 (by decide))).trans (W12_main_arg10 m ρ c),
     (h.1 c _ (mem_uc main_arg11 (by decide))).trans (W12_main_arg11 m ρ c),
     (h.1 c _ (mem_uc main_arg12 (by decide))).trans (W12_main_arg12 m ρ c),
     (h.1 c _ (mem_uc main_arg13 (by decide))).trans (W12_main_arg13 m ρ c),
     (h.1 c _ (mem_uc main_arg14 (by decide))).trans (W12_main_arg14 m ρ c),
     (h.1 c _ (mem_uc main_arg15 (by decide))).trans (W12_main_arg15 m ρ c)⟩, h.2⟩) (run m ρ)

end Cert.KernelIdeal.Gen

end
-- ==== Proof.StickMath.lean ====
module
public import Idealize.ShloMosaic.PureOps.Ideal
public import Idealize.ShloMosaic.PureOps.Ideal.Laws
public import Mathlib.Data.EReal.Operations
public import Mathlib.Algebra.BigOperators.Intervals
@[expose] public section
noncomputable section
open Idealize.ShloMosaic Finset

/-! The mathematics of stick-breaking attention over the extended reals, for one query and one
output column: the scores `z s` and values `v s` of the keys are plain functions on `ℕ`. -/

namespace Stick

theorem exp_bot : Ideal.exp ⊥ = 0 := rfl
theorem exp_top : Ideal.exp ⊤ = ⊤ := rfl
theorem exp_coe (r : ℝ) : Ideal.exp (r : EReal) = (Real.exp r : EReal) := rfl
theorem log_coe {r : ℝ} (h : 0 < r) : Ideal.log (r : EReal) = (Real.log r : EReal) :=
  if_neg (not_le.mpr h)
theorem log_one : Ideal.log 1 = 0 := by
  rw [← EReal.coe_one, log_coe one_pos, Real.log_one, EReal.coe_zero]

/-- `log (1 + exp (-|x|))`, the bounded part of softplus. -/
def soft (x : EReal) : EReal := Ideal.log (1 + Ideal.exp (0 - max x (-x)))

/-- Softplus: `log (1 + exp x)`. -/
def sp (x : EReal) : EReal := max x 0 + soft x

/-- The logarithm of the sigmoid: `-softplus (-x)`. -/
def ls (x : EReal) : EReal := min x 0 - soft x

/-- The bounded part of softplus is a nonnegative real number at every score, infinite ones included. -/
theorem soft_real (x : EReal) : ∃ r : ℝ, 0 ≤ r ∧ soft x = (r : EReal) := by
  induction x with
  | bot => exact ⟨0, le_rfl, by simp [soft, exp_bot, log_one]⟩
  | top => exact ⟨0, le_rfl, by simp [soft, exp_bot, log_one]⟩
  | coe x =>
    refine ⟨Real.log (1 + Real.exp (-|x|)), Real.log_nonneg (by linarith [Real.exp_pos (-|x|)]), ?_⟩
    have h : (0 : EReal) - max (x : EReal) (-(x : EReal)) = ((-|x| : ℝ) : EReal) := by
      rw [← EReal.coe_neg, zero_sub, EReal.coe_neg, abs_eq_max_neg]
      exact congrArg Neg.neg (EReal.coe_strictMono.monotone.map_max (a := x) (b := -x)).symm
    have h2 : (1 : EReal) + ((Real.exp (-|x|) : ℝ) : EReal) = ((1 + Real.exp (-|x|) : ℝ) : EReal) := by
      rw [EReal.coe_add]; rfl
    rw [soft, h, exp_coe, h2, log_coe (by linarith [Real.exp_pos (-|x|)])]

theorem sp_nonneg (x : EReal) : 0 ≤ sp x := by
  obtain ⟨r, hr, h⟩ := soft_real x
  rw [sp, h]
  exact add_nonneg (le_max_right _ _) (by exact_mod_cast hr)

theorem ls_nonpos (x : EReal) : ls x ≤ 0 := by
  obtain ⟨r, hr, h⟩ := soft_real x
  rw [ls, h, sub_eq_add_neg]
  exact add_nonpos (min_le_right _ _) (by
    rw [← EReal.coe_neg]; exact_mod_cast neg_nonpos.mpr hr)

theorem soft_neg (x : EReal) : soft (-x) = soft x := by
  rw [soft, soft, neg_neg, max_comm]

/-- The log-sigmoid is the negated softplus of the negated score. -/
theorem neg_sp_neg (x : EReal) : -(sp (-x)) = ls x := by
  obtain ⟨r, hr, h⟩ := soft_real x
  rw [sp, ls, soft_neg, h, EReal.neg_add (by simp) (by simp), EReal.neg_max_neg_zero x]
where
  EReal.neg_max_neg_zero (x : EReal) : -(max (-x) 0) = min x 0 := by
    rcases le_total x 0 with hx | hx
    · rw [max_eq_left (by simpa using EReal.neg_le_neg_iff.mpr hx), neg_neg, min_eq_left hx]
    · rw [max_eq_right (by simpa using EReal.neg_le_neg_iff.mpr hx), neg_zero, min_eq_right hx]

theorem exp_nonneg (x : EReal) : 0 ≤ Ideal.exp x := by
  induction x with
  | bot => simp [exp_bot]
  | top => simp [exp_top]
  | coe x => rw [exp_coe]; exact_mod_cast (Real.exp_pos x).le

theorem exp_ne_top {x : EReal} (hx : x ≤ 0) : Ideal.exp x ≠ ⊤ := by
  induction x with
  | bot => simp [exp_bot]
  | top => simp at hx
  | coe x => simp [exp_coe]

/-- The exponential of a difference of a nonpositive and a nonnegative number is a product. -/
theorem exp_sub {a b : EReal} (ha : a ≤ 0) (hb : 0 ≤ b) :
    Ideal.exp (a - b) = Ideal.exp a * Ideal.exp (0 - b) := by
  induction a with
  | bot => simp [exp_bot]
  | top => simp at ha
  | coe a =>
    induction b with
    | bot => simp at hb
    | top => simp [exp_bot]
    | coe b =>
      rw [zero_sub, ← EReal.coe_sub, ← EReal.coe_neg, exp_coe, exp_coe, exp_coe, sub_eq_add_neg, Real.exp_add, EReal.coe_mul]

theorem sub_nonpos {b : EReal} (hb : 0 ≤ b) : (0 : EReal) - b ≤ 0 := by
  rw [zero_sub]; simpa using EReal.neg_le_neg_iff.mpr hb

/-- Two nonnegative numbers subtracted one after the other under the exponential. -/
theorem exp_sub_sub {a b c : EReal} (ha : a ≤ 0) (hb : 0 ≤ b) (hc : 0 ≤ c) :
    Ideal.exp (a - b) * Ideal.exp (0 - c) = Ideal.exp (a - (b + c)) := by
  have hbot := EReal.bot_lt_zero
  rw [exp_sub ha hb, mul_assoc, ← exp_sub (sub_nonpos hb) hc, exp_sub ha (add_nonneg hb hc),
    zero_sub, zero_sub, EReal.neg_add (Or.inl (hbot.trans_le hb).ne') (Or.inr (hbot.trans_le hc).ne')]

/-- A finite nonnegative factor distributes over a sum of extended reals. -/
theorem sum_mul {ι : Type*} (s : Finset ι) (f : ι → EReal) {e : EReal} (h0 : 0 ≤ e) (h1 : e ≠ ⊤) :
    (∑ i ∈ s, f i) * e = ∑ i ∈ s, f i * e := by
  classical
  induction s using Finset.induction_on with
  | empty => simp
  | insert a s ha ih =>
    rw [sum_insert ha, sum_insert ha, EReal.right_distrib_of_nonneg_of_ne_top h0 h1, ih]

/-- The negation of a sum of nonnegative terms is the sum of the negations. -/
theorem neg_sum {ι : Type*} (s : Finset ι) (f : ι → EReal) (h : ∀ i ∈ s, 0 ≤ f i) :
    ∑ i ∈ s, -(f i) = -(∑ i ∈ s, f i) := by
  classical
  induction s using Finset.induction_on with
  | empty => simp
  | insert a s ha ih =>
    have h0 : 0 ≤ f a := h a (mem_insert_self _ _)
    have hs : ∀ i ∈ s, 0 ≤ f i := fun i hi => h i (mem_insert_of_mem hi)
    have hb : (⊥ : EReal) < 0 := EReal.bot_lt_zero
    rw [sum_insert ha, sum_insert ha, ih hs, EReal.neg_add (Or.inl (hb.trans_le h0).ne')
      (Or.inr (hb.trans_le (sum_nonneg hs)).ne'), sub_eq_add_neg]

/-- How much of the stick's logarithm the keys strictly between `s` and the query `t` take. -/
def tail (z : ℕ → EReal) (t s : ℕ) : EReal := ∑ u ∈ Ico (s + 1) t, sp (z u)

/-- The attention output of query `t` from the keys `j ≤ s < t`. -/
def stick (z v : ℕ → EReal) (t j : ℕ) : EReal :=
  ∑ s ∈ Ico j t, v s * Ideal.exp (ls (z s) - tail z t s)

/-- The softplus of the scores summed over the keys `j ≤ u < t`. -/
def run (z : ℕ → EReal) (t j : ℕ) : EReal := ∑ u ∈ Ico j t, sp (z u)

theorem run_nonneg (z : ℕ → EReal) (t j : ℕ) : 0 ≤ run z t j := sum_nonneg fun _ _ => sp_nonneg _

/-- Summing a tile's entries strictly after `x` is summing over an interval of keys. -/
theorem tile_after (f : ℕ → EReal) (n j x : ℕ) :
    (∑ y : Fin n, if x < (y : ℕ) then f (j + y) else 0) = ∑ u ∈ Ico (j + x + 1) (j + n), f u := by
  rw [← Finset.sum_range (fun y => if x < y then f (j + y) else 0), ← sum_filter]
  have : (range n).filter (fun y => x < y) = Ico (x + 1) n := by
    ext y; simp only [mem_filter, mem_range, mem_Ico]; omega
  rw [this, show j + x + 1 = x + 1 + j by omega, show j + n = n + j by omega,
    ← Finset.sum_Ico_add' f (x + 1) n j]
  exact sum_congr rfl fun y _ => by rw [Nat.add_comm]

theorem tile_all (f : ℕ → EReal) (n j : ℕ) :
    (∑ y : Fin n, f (j + y)) = ∑ u ∈ Ico j (j + n), f u := by
  rw [← Finset.sum_range (fun y => f (j + y)), Finset.sum_Ico_eq_sum_range]
  simp

/-- One further tile of `n` keys, all before the query, adds its softplus sum. -/
theorem run_step (z : ℕ → EReal) {t j n : ℕ} (hn : 0 < n) (h : j + n ≤ t) :
    run z t (j + n) + (∑ y : Fin n, if 0 < (y : ℕ) then sp (z (j + y)) else 0) + sp (z j) = run z t j := by
  rw [tile_after (fun u => sp (z u)) n j 0, run, run, ← sum_Ico_consecutive _ (show j ≤ j + n by omega) h,
    sum_eq_sum_Ico_succ_bot (show j < j + n by omega), Nat.add_zero]
  rw [add_comm (sp (z j)), add_comm (∑ u ∈ Ico (j + n) t, sp (z u)), add_assoc, add_assoc,
    add_comm (sp (z j))]

/-- One further tile of `n` keys, all before the query, adds its weighted values. -/
theorem stick_step (z v : ℕ → EReal) {t j n : ℕ} (h : j + n ≤ t) :
    stick z v t (j + n) + (∑ x : Fin n, v (j + x) * Ideal.exp (ls (z (j + x)) -
      ∑ y : Fin n, if (x : ℕ) < (y : ℕ) then sp (z (j + y)) else 0)) * Ideal.exp (0 - run z t (j + n))
      = stick z v t j := by
  have hr := run_nonneg z t (j + n)
  have h0 := sub_nonpos hr
  rw [sum_mul _ _ (exp_nonneg _) (exp_ne_top h0)]
  have hx : ∀ x : Fin n, v (j + x) * Ideal.exp (ls (z (j + x)) -
      ∑ y : Fin n, if (x : ℕ) < (y : ℕ) then sp (z (j + y)) else 0) * Ideal.exp (0 - run z t (j + n))
      = v (j + x) * Ideal.exp (ls (z (j + x)) - tail z t (j + x)) := fun x => by
    have hx' : j + x + 1 ≤ j + n := by omega
    rw [tile_after (fun u => sp (z u)) n j x, mul_assoc,
      exp_sub_sub (ls_nonpos _) (sum_nonneg fun _ _ => sp_nonneg _) hr, run, tail,
      sum_Ico_consecutive _ hx' h]
  rw [sum_congr rfl fun x _ => hx x, tile_all (fun s => v s * Ideal.exp (ls (z s) - tail z t s)) n j, stick,
    add_comm, sum_Ico_consecutive _ (by omega) h, stick]

/-- A sum over the first `q` of `n` entries of a tile. -/
theorem tile_first (f : ℕ → EReal) (n j q : ℕ) (hq : q ≤ n) :
    (∑ y : Fin n, if (y : ℕ) < q then f (j + y) else 0) = ∑ u ∈ Ico j (j + q), f u := by
  rw [← Finset.sum_range (fun y => if y < q then f (j + y) else 0), ← sum_filter]
  have : (range n).filter (fun y => y < q) = range q := by
    ext y; simp only [mem_filter, mem_range]; omega
  rw [this, Finset.sum_range, tile_all]

/-- The diagonal tile starts the softplus sum: only the keys before the query count. -/
theorem run_diag (z : ℕ → EReal) {j n q : ℕ} (hq : q < n) :
    (∑ y : Fin n, if (y : ℕ) < q then (if 0 < (y : ℕ) then sp (z (j + y)) else 0) else 0)
      + (if 0 < q then sp (z j) else 0) = run z (j + q) j := by
  have h1 : (∑ y : Fin n, if (y : ℕ) < q then (if 0 < (y : ℕ) then sp (z (j + y)) else 0) else 0)
      = ∑ u ∈ Ico (j + 1) (j + q), sp (z u) := by
    rw [← tile_after_first (fun u => sp (z u)) n j 0 q hq.le]
  rw [h1, run]
  rcases Nat.eq_zero_or_pos q with rfl | hq0
  · simp
  · rw [if_pos hq0, sum_eq_sum_Ico_succ_bot (show j < j + q by omega), add_comm]
where
  tile_after_first (f : ℕ → EReal) (n j x q : ℕ) (hq : q ≤ n) :
      (∑ y : Fin n, if (y : ℕ) < q then (if x < (y : ℕ) then f (j + y) else 0) else 0)
        = ∑ u ∈ Ico (j + x + 1) (j + q), f u := by
    rw [← tile_after f q j x, ← Finset.sum_range (fun y => if x < y then f (j + y) else 0),
      ← Finset.sum_range (fun y => if y < q then (if x < y then f (j + y) else 0) else 0)]
    rw [← Finset.sum_subset (Finset.range_mono hq)]
    · refine sum_congr rfl fun y hy => ?_
      rw [if_pos (mem_range.mp hy)]
    · intro y _ hy
      rw [mem_range] at hy
      rw [if_neg hy]

/-- The diagonal tile starts the output: the keys from the query on get weight zero. -/
theorem stick_diag (z v : ℕ → EReal) {j n q : ℕ} (hq : q < n) :
    (∑ x : Fin n, if (x : ℕ) < q then v (j + x) * Ideal.exp (ls (z (j + x)) -
      ∑ y : Fin n, if (y : ℕ) < q then (if (x : ℕ) < (y : ℕ) then sp (z (j + y)) else 0) else 0) else 0)
        * Ideal.exp 0 = stick z v (j + q) j := by
  have he : Ideal.exp 0 = 1 := by
    rw [← EReal.coe_zero, exp_coe]; simp
  rw [he, mul_one, stick, ← tile_first _ n j q hq.le]
  refine sum_congr rfl fun x _ => ?_
  rw [run_diag.tile_after_first (fun u => sp (z u)) n j x q hq.le]
  rfl

end Stick
end
-- ==== Proof.SoftMath.lean ====
module
public import Idealize.ShloMosaic.PureOps.Ideal
public import proofs.«01_k».proof.Proof.StickMath
@[expose] public section
noncomputable section
open Idealize.ShloMosaic

/-! The mathematics of a softmax taken tile by tile: a running maximum, a running sum of weights and a running
sum of weighted values, all of them real numbers from the first tile on. -/

namespace Soft

open Finset

/-- The exponential of a real number. -/
theorem exp_real (x : ℝ) : Ideal.exp (x : EReal) = ((Real.exp x : ℝ) : EReal) := rfl

/-- The sum of real numbers, taken among the extended reals, is their real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- `s` is a score whose weight, before any shift, is `e`: a real score `σ` with `e = exp σ`, or `-∞` with `e = 0`. -/
def Score (s : EReal) (e : ℝ) : Prop := (∃ σ : ℝ, s = (σ : EReal) ∧ e = Real.exp σ) ∨ (s = ⊥ ∧ e = 0)

theorem Score.real (σ : ℝ) : Score (σ : EReal) (Real.exp σ) := Or.inl ⟨σ, rfl, rfl⟩
theorem Score.bot : Score ⊥ 0 := Or.inr ⟨rfl, rfl⟩

theorem Score.ne_top {s : EReal} {e : ℝ} (h : Score s e) : s ≠ ⊤ := by
  rcases h with ⟨σ, rfl, _⟩ | ⟨rfl, _⟩
  · exact EReal.coe_ne_top σ
  · exact bot_ne_top

theorem Score.nonneg {s : EReal} {e : ℝ} (h : Score s e) : 0 ≤ e := by
  rcases h with ⟨σ, _, rfl⟩ | ⟨_, rfl⟩
  · exact (Real.exp_pos σ).le
  · exact le_rfl

/-- The shifted weight of a score. -/
theorem Score.shift {s : EReal} {e : ℝ} (h : Score s e) (M : ℝ) :
    Ideal.exp (s - (M : EReal)) = ((e * Real.exp (-M) : ℝ) : EReal) := by
  rcases h with ⟨σ, rfl, rfl⟩ | ⟨rfl, rfl⟩
  · rw [← EReal.coe_sub, exp_real, sub_eq_add_neg, Real.exp_add]
  · rw [zero_mul, EReal.bot_sub]; rfl

/-- The maximum of a real number, or `-∞` if one of the scores is real, with finitely many scores is real. -/
theorem max_real (m a : EReal) (ha : a ≠ ⊤) (hm : m ≠ ⊤) (h : m ≠ ⊥ ∨ a ≠ ⊥) : ∃ M : ℝ, max m a = (M : EReal) := by
  have h1 : max m a ≠ ⊤ := by
    rcases max_choice m a with h | h <;> rw [h] <;> assumption
  have h2 : max m a ≠ ⊥ := by
    intro hb
    rcases h with h | h
    · exact h (le_bot_iff.mp (hb ▸ le_max_left m a))
    · exact h (le_bot_iff.mp (hb ▸ le_max_right m a))
  exact ⟨(max m a).toReal, (EReal.coe_toReal h1 h2).symm⟩

/-- The state of one query's softmax: the maximum so far, the sum of the weights and the sums of the weighted
values, shifted by the maximum. The weights of the keys so far sum to `L`, the weighted values to `A`. -/
def St (m l acc : EReal) (L A : ℝ) : Prop :=
  (m = ⊥ ∧ l = 0 ∧ acc = 0 ∧ L = 0 ∧ A = 0) ∨
    ∃ M : ℝ, m = (M : EReal) ∧ l = ((L * Real.exp (-M) : ℝ) : EReal) ∧ acc = ((A * Real.exp (-M) : ℝ) : EReal)

/-- Before any tile. -/
theorem St.init : St ⊥ 0 0 0 0 := Or.inl ⟨rfl, rfl, rfl, rfl, rfl⟩

theorem St.ne_top {m l acc : EReal} {L A : ℝ} (h : St m l acc L A) : m ≠ ⊤ := by
  rcases h with ⟨rfl, _⟩ | ⟨M, rfl, _⟩
  · exact bot_ne_top
  · exact EReal.coe_ne_top M

/-- **One tile.** From a state, with the scores `s x`, the weights `e x` and the values `v x` of one tile, the next state,
the new maximum being any extended real `a` that is real together with the old maximum. -/
theorem St.step {n : ℕ} {m l acc : EReal} {L A : ℝ} (h : St m l acc L A) (s : Fin n → EReal) (e v : Fin n → ℝ)
    (hs : ∀ x, Score (s x) (e x)) (w : Fin n → EReal) (hw : ∀ x, w x = (v x : EReal)) (mx : EReal) (hmx : ∃ M : ℝ, mx = (M : EReal)) :
    St mx (l * Ideal.exp (m - mx) + ∑ x, Ideal.exp (s x - mx)) (acc * Ideal.exp (m - mx) + ∑ x, w x * Ideal.exp (s x - mx))
      (L + ∑ x, e x) (A + ∑ x, v x * e x) := by
  obtain ⟨M, rfl⟩ := hmx
  refine Or.inr ⟨M, rfl, ?_, ?_⟩
  · rw [sum_congr rfl fun x _ => (hs x).shift M, coe_sum, ← sum_mul]
    rcases h with ⟨rfl, rfl, rfl, rfl, rfl⟩ | ⟨N, rfl, rfl, rfl⟩
    · rw [zero_mul, zero_add, zero_add]
    · rw [← EReal.coe_sub, exp_real, ← EReal.coe_mul, ← EReal.coe_add, mul_assoc, ← Real.exp_add, add_mul]
      congr 4; ring
  · have hv : ∀ x ∈ (univ : Finset (Fin n)), w x * Ideal.exp (s x - (M : EReal)) = (((v x * e x) * Real.exp (-M) : ℝ) : EReal) := fun x _ => by
      rw [hw, (hs x).shift M, ← EReal.coe_mul, mul_assoc]
    rw [sum_congr rfl hv, coe_sum, ← sum_mul]
    rcases h with ⟨rfl, rfl, rfl, rfl, rfl⟩ | ⟨N, rfl, rfl, rfl⟩
    · rw [zero_mul, zero_add, zero_add]
    · rw [← EReal.coe_sub, exp_real, ← EReal.coe_mul, ← EReal.coe_add, mul_assoc, ← Real.exp_add, add_mul]
      congr 4; ring

/-- At the end the quotient is the weighted mean. -/
theorem St.quot {m l acc : EReal} {L A : ℝ} (h : St m l acc L A) (hL : 0 < L) :
    acc * Ideal.div 1 l = ((A / L : ℝ) : EReal) := by
  rcases h with ⟨_, _, _, rfl, _⟩ | ⟨M, rfl, rfl, rfl⟩
  · exact absurd hL (lt_irrefl _)
  · have hM := Real.exp_pos (-M)
    have hne : L * Real.exp (-M) ≠ 0 := (mul_pos hL hM).ne'
    have : Ideal.div 1 ((L * Real.exp (-M) : ℝ) : EReal) = ((1 / (L * Real.exp (-M)) : ℝ) : EReal) := by
      rw [Ideal.div_coe hne, one_mul]
    rw [this, ← EReal.coe_mul]
    congr 1
    field_simp

end Soft
end
-- ==== Proof.DiffTile.lean ====
module
public import proofs.«01_k».proof.Proof.Gen.KernelIdeal.Skeleton
public import proofs.«01_k».proof.Proof.SoftMath
public import Idealize.ShloMosaic.Lib.Pointwise
public import Idealize.ShloMosaic.Lib.WordCmp
@[expose] public section
set_option maxRecDepth 16384
noncomputable section
open Idealize.ShloMosaic Idealize.ShloMosaic.TcCoe Idealize.SL.Sem

/-! One tile of keys of the differential attention kernel, read at one query: a tile takes a state of the running
softmax (`Soft.St`) to the next one. -/

namespace Cert.KernelIdeal.Value
open Cert.KernelIdeal Cert.KernelIdeal.Gen

/-- The scores of a tile of keys against the block's queries. -/
def scoreT (qh : FVec Ideal S128x256 .bf16) (kb : Vec Ideal S256x128 .bf16) : FVec Ideal S256x256 .f32 := k4_pay34 qh kb

/-- The scores with a tile of the bias added. -/
def biasT (qh : FVec Ideal S128x256 .bf16) (b : Vec Ideal S1x1x256x256 .f32) (kb : Vec Ideal S256x128 .bf16) :
    FVec Ideal S256x256 .f32 := k4_pay5 qh b kb

/-- The running maximum after a tile with the scores `s`. -/
def nextM (s : FVec Ideal S256x256 .f32) (m : FVec Ideal S1x256 .f32) : FVec Ideal S1x256 .f32 :=
  maximumf m (shapeCast S1x256 (multiReduction .maximumf [0] S256 s 0xFF800000#32 reduces_S256x256_S256 (.inl rfl) rfl)
    shapeCasts_S256_S1x256)

/-- The running sum of the weights after a tile with the scores `s`. -/
def nextL (s : FVec Ideal S256x256 .f32) (m l : FVec Ideal S1x256 .f32) : FVec Ideal S1x256 .f32 :=
  addf (mulf l (exp (subf m (nextM s m)))) (shapeCast S1x256 (multiReduction .add [0] S256
    (exp (subf s (broadcastTo S256x256 (nextM s m) broadcasts_S1x256_S256x256)))
    0x00000000#32 reduces_S256x256_S256 (.inl rfl) rfl) shapeCasts_S256_S1x256)

/-- The running sums of the weighted values after a tile with the scores `s` and the values `vb`. -/
def nextA (s : FVec Ideal S256x256 .f32) (m : FVec Ideal S1x256 .f32) (a : FVec Ideal S128x256 .f32)
    (vb : Vec Ideal S1x128x256 .bf16) : FVec Ideal S128x256 .f32 :=
  addf (mulf a (broadcastTo S128x256 (exp (subf m (nextM s m))) broadcasts_S1x256_S128x256))
    (matmul dot_S128x256_S256x256_S128x256_1_0_0_1_n_n none (k4_pay4 vb)
      (truncf .bf16 (exp (subf s (broadcastTo S256x256 (nextM s m) broadcasts_S1x256_S256x256))) bitsLt_bf16_f32)
      (constant S128x256 .f32 0x00000000#32))

variable (s : FVec Ideal S256x256 .f32) (m l : FVec Ideal S1x256 .f32) (a : FVec Ideal S128x256 .f32)
  (vb : Vec Ideal S1x128x256 .bf16) (q : Fin 256)

/-- The next maximum is the larger of the old one and some score, and no score is above it. -/
theorem nextM_at : ∃ b : EReal, nextM s m (ix2 0 q) = max (m (ix2 0 q)) b ∧ (∀ x, s (ix2 x q) ≤ b)
    ∧ ((∀ x, s (ix2 x q) ≠ ⊤) → b ≠ ⊤) := by
  pointwise [nextM]
  refine ⟨_, rfl, fun x => (Finset.le_fold_max _).mpr (Or.inr ⟨x, Finset.mem_univ _, le_rfl⟩), fun h => ?_⟩
  refine ((Finset.fold_max_lt _).mpr ⟨?_, fun x _ => lt_top_iff_ne_top.mpr (h x)⟩).ne
  have : Ideal.ofBits FTy.f32 0xFF800000#32 = ⊥ := by simp [Ideal.ofBits, Ideal.ieee]
  rw [this]
  exact bot_lt_top

theorem nextL_at : nextL s m l (ix2 0 q) = l (ix2 0 q) * Ideal.exp (m (ix2 0 q) - nextM s m (ix2 0 q))
    + ∑ x : Fin 256, Ideal.exp (s (ix2 x q) - nextM s m (ix2 0 q)) := by
  unfold nextL
  generalize nextM s m = mx
  pointwise

theorem nextA_at (d : Fin 128) : nextA s m a vb (ix2 d q) = a (ix2 d q) * Ideal.exp (m (ix2 0 q) - nextM s m (ix2 0 q))
    + ∑ x : Fin 256, vb (ix3 0 d x) * Ideal.exp (s (ix2 x q) - nextM s m (ix2 0 q)) := by
  unfold nextA
  generalize nextM s m = mx
  pointwise [k4_pay4]

/-- **One tile at one query.** -/
theorem tile_st {L : ℝ} {A : Fin 128 → ℝ} (h : ∀ d, Soft.St (m (ix2 0 q)) (l (ix2 0 q)) (a (ix2 d q)) L (A d))
    (e : Fin 256 → ℝ) (hs : ∀ x, Soft.Score (s (ix2 x q)) (e x)) (v : Fin 128 → Fin 256 → ℝ)
    (hv : ∀ d x, vb (ix3 0 d x) = ((v d x : ℝ) : EReal)) (hb : ∃ x, s (ix2 x q) ≠ ⊥) (d : Fin 128) :
    Soft.St (nextM s m (ix2 0 q)) (nextL s m l (ix2 0 q)) (nextA s m a vb (ix2 d q))
      (L + ∑ x, e x) (A d + ∑ x, v d x * e x) := by
  rw [nextL_at, nextA_at]
  refine (h d).step (fun x => s (ix2 x q)) e (v d) hs (fun x => vb (ix3 0 d x)) (hv d) _ ?_
  obtain ⟨b, e1, h1, h2⟩ := nextM_at s m q
  obtain ⟨x, hx⟩ := hb
  rw [e1]
  exact Soft.max_real _ _ (h2 fun x => (hs x).ne_top) (h 0).ne_top (Or.inr fun hb => hx (le_bot_iff.mp (hb ▸ h1 x)))

/-- A selection by whether a row is one of the first 64. -/
theorem slt64 {α : Type} (r : Fin 128) (x y : α) :
    Scalar.select (IntOp.cmpi .slt (BitVec.ofNat 32 r) 64#32) x y = if (r : ℕ) < 64 then x else y := by
  rw [WordCmp.cmpi_slt_ofNat (by omega) (by omega), Scalar.select]
  by_cases h : (r : ℕ) < 64 <;> simp [h]

theorem sge64 {α : Type} (r : Fin 128) (x y : α) :
    Scalar.select (IntOp.cmpi .sge (BitVec.ofNat 32 r) 64#32) x y = if 64 ≤ (r : ℕ) then x else y := by
  rw [WordCmp.cmpi_sge_ofNat (by omega) (by omega), Scalar.select]
  by_cases h : 64 ≤ (r : ℕ) <;> simp [h]

/-- The kernel's scores against the first map's queries: the mask keeps the first 64 rows. -/
theorem scoreT_0 (v0 : Vec Ideal S1x128x256 .bf16) (kb : Vec Ideal S256x128 .bf16) (x : Fin 256) :
    scoreT (k4_pay62 v0) kb (ix2 x q) = ∑ y : Fin 64, kb (ix2 x ⟨0 + y, by omega⟩) * v0 (ix3 0 ⟨0 + y, by omega⟩ q) := by
  pointwise [scoreT, k4_pay34, k4_pay32, k4_pay62, k4_pay61, k4_pay60]
  simp only [slt64, Nat.zero_add]
  rw [Fin.sum_univ_two_halves 64 64 rfl]
  rw [Finset.sum_congr rfl fun k _ => if_pos k.isLt,
    Finset.sum_eq_zero (f := fun k : Fin 64 => _) fun k _ => if_neg (by simp), add_zero]

theorem scoreT_1 (v0 : Vec Ideal S1x128x256 .bf16) (kb : Vec Ideal S256x128 .bf16) (x : Fin 256) :
    scoreT (k4_pay63 v0) kb (ix2 x q) = ∑ y : Fin 64, kb (ix2 x ⟨64 + y, by omega⟩) * v0 (ix3 0 ⟨64 + y, by omega⟩ q) := by
  pointwise [scoreT, k4_pay34, k4_pay32, k4_pay63, k4_pay61, k4_pay60]
  simp only [sge64]
  rw [Fin.sum_univ_two_halves 64 64 rfl]
  rw [Finset.sum_eq_zero (f := fun k : Fin 64 => ite _ _ _) fun k _ => if_neg (not_le.mpr k.isLt), zero_add]
  exact Finset.sum_congr rfl fun k _ => if_pos (Nat.le_add_right 64 k)

theorem biasT_at (qh : FVec Ideal S128x256 .bf16) (b : Vec Ideal S1x1x256x256 .f32) (kb : Vec Ideal S256x128 .bf16) (x : Fin 256) :
    biasT qh b kb (ix2 x q) = scoreT qh kb (ix2 x q) + b (ix4 0 0 x q) := by
  pointwise [biasT, scoreT, k4_pay5, k4_pay34, k4_pay32, k4_pay3, k4_pay2]

/-- What the kernel makes of the two maps' weighted means `a` and `b` of one query: their difference, `b` times `lam`,
normalised over the 128 columns. -/
def finish (lam : EReal) (a b g : Fin 128 → EReal) (d : Fin 128) : EReal :=
  (a d - lam * b d) * Ideal.rsqrt (Ideal.div (∑ k, (a k - lam * b k) * (a k - lam * b k)) (Ideal.ofBits .f32 0x43000000#32)
    + Ideal.ofBits .f32 0x358637BD#32) * g d * Ideal.ofBits .f32 0x3F24FD5C#32

theorem pay1_at (l1 l2 : FVec Ideal S1x256 .f32) (a1 a2 : FVec Ideal S128x256 .f32) (lam : Elt Ideal .f32)
    (g : Vec Ideal S128x1 .f32) (d : Fin 128) :
    k4_pay1 l1 a1 l2 a2 lam g (ix2 q d) = finish lam (fun k => a1 (ix2 k q) * Ideal.div 1 (l1 (ix2 0 q)))
      (fun k => a2 (ix2 k q) * Ideal.div 1 (l2 (ix2 0 q))) (fun k => g (ix2 k 0)) d := by
  pointwise [k4_pay1, finish]
end Cert.KernelIdeal.Value
end
-- ==== Proof.SbTile.lean ====
module
public import proofs.«01_k».proof.Proof.Gen.KernelIdeal.Frame.Region2
public import proofs.«01_k».proof.Proof.StickMath
public import Idealize.ShloMosaic.Lib.Pointwise
public import Idealize.ShloMosaic.Lib.WordCmp
@[expose] public section
set_option maxRecDepth 16384
noncomputable section
open Idealize.ShloMosaic Idealize.ShloMosaic.TcCoe Idealize.SL.Sem

/-! One tile of keys of the stick-breaking attention kernel, read at an index: what a tile adds to
the output and to the running softplus sum of one head, in terms of `Stick.stick` and `Stick.run`. -/

namespace Cert.KernelIdeal.Value
open Cert.KernelIdeal Cert.KernelIdeal.Gen

/-- Selections by a comparison of two coordinates, or of a coordinate and a small constant. -/
theorem sel_lt {α : Type} {a b : ℕ} (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb, Scalar.select]
  by_cases h : a < b <;> simp [h]

theorem sel_gt {α : Type} {a b : ℕ} (ha : a < 2 ^ 31) (hb : b < 2 ^ 31) (x y : α) :
    Scalar.select (IntOp.cmpi .sgt (BitVec.ofNat 32 a) (BitVec.ofNat 32 b)) x y = if b < a then x else y := by
  rw [WordCmp.cmpi_sgt_ofNat ha hb, Scalar.select]
  by_cases h : b < a <;> simp [h]

theorem sel_ge {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat ha hb, Scalar.select]
  by_cases h : b ≤ a <;> simp [h]

theorem sel_slt {α : Type} (a b : Fin 256) (x y : α) :
    Scalar.select (IntOp.cmpi .slt (BitVec.ofNat 32 a) (BitVec.ofNat 32 b)) x y = if (a : ℕ) < b then x else y :=
  sel_lt (by omega) (by omega) x y

theorem sel_sgt {α : Type} (a b : Fin 256) (x y : α) :
    Scalar.select (IntOp.cmpi .sgt (BitVec.ofNat 32 a) (BitVec.ofNat 32 b)) x y = if (b : ℕ) < a then x else y :=
  sel_gt (by omega) (by omega) x y

theorem sel_sgt0 {α : Type} (a : Fin 256) (x y : α) :
    Scalar.select (IntOp.cmpi .sgt (BitVec.ofNat 32 a) 0#32) x y = if 0 < (a : ℕ) then x else y :=
  sel_gt (by omega) (by omega) x y

theorem sel_slt0 {α : Type} (a : Fin 256) (x y : α) :
    Scalar.select (IntOp.cmpi .slt 0#32 (BitVec.ofNat 32 a)) x y = if 0 < (a : ℕ) then x else y :=
  sel_lt (by omega) (by omega) x y

theorem sel_slt64 {α : Type} (a : Fin 128) (x y : α) :
    Scalar.select (IntOp.cmpi .slt (BitVec.ofNat 32 a) 64#32) x y = if (a : ℕ) < 64 then x else y :=
  sel_lt (by omega) (by omega) x y

theorem sel_sge64 {α : Type} (a : Fin 128) (x y : α) :
    Scalar.select (IntOp.cmpi .sge (BitVec.ofNat 32 a) 64#32) x y = if 64 ≤ (a : ℕ) then x else y :=
  sel_ge (by omega) (by omega) x y

variable (qh : FVec Ideal S128x256 .bf16) (a : FVec Ideal S64x256 .f32) (r : FVec Ideal S1x256 .f32)
  (kb : Vec Ideal S256x128 .bf16) (vb : Vec Ideal S1x64x256 .bf16)

/-- A tile of earlier keys takes the output over the keys from `j + 256` on to the one from `j` on. -/
theorem tile_acc (z v : ℕ → EReal) (t j : ℕ) (d : Fin 64) (q : Fin 256) (ht : j + 256 ≤ t)
    (hz : ∀ x : Fin 256, ∑ y : Fin 128, kb (ix2 x y) * qh (ix2 y q) = z (j + x))
    (hv : ∀ x : Fin 256, vb (ix3 0 d x) = v (j + x))
    (ha : a (ix2 d q) = Stick.stick z v t (j + 256)) (hr : r (ix2 0 q) = Stick.run z t (j + 256)) :
    k2_pay19 qh k2_pay36 a r kb vb (ix2 d q) = Stick.stick z v t j := by
  rw [← Stick.stick_step z v ht, ← ha, ← hr]
  pointwise [k2_pay19, k2_pay18, k2_pay17, k2_pay16, k2_pay15, k2_pay14, k2_pay36]
  simp only [hz, hv, sel_sgt, sel_sgt0]
  rfl

/-- A tile of earlier keys takes the softplus sum from `j + 256` on to the one from `j` on. -/
theorem tile_run (z : ℕ → EReal) (t j : ℕ) (q : Fin 256) (ht : j + 256 ≤ t)
    (hz : ∀ x : Fin 256, ∑ y : Fin 128, kb (ix2 x y) * qh (ix2 y q) = z (j + x))
    (hr : r (ix2 0 q) = Stick.run z t (j + 256)) :
    k2_pay20 qh k2_pay36 r kb (ix2 0 q) = Stick.run z t j := by
  rw [← Stick.run_step z (by norm_num) ht, ← hr]
  have h0 := hz 0
  pointwise [k2_pay20, k2_pay18, k2_pay17, k2_pay16, k2_pay15, k2_pay14, k2_pay36]
  simp only [hz, sel_sgt, sel_sgt0]
  rfl

/-- The diagonal tile's output: the keys from the tile's first one up to the query. -/
theorem diag_acc (z v : ℕ → EReal) (j : ℕ) (d : Fin 64) (q : Fin 256)
    (hz : ∀ x : Fin 256, ∑ y : Fin 128, kb (ix2 x y) * qh (ix2 y q) = z (j + x))
    (hv : ∀ x : Fin 256, vb (ix3 0 d x) = v (j + x)) :
    k2_pay1 k2_pay37 k2_pay40 k2_pay41 (k2_pay54 qh k2_pay36 k2_pay37 kb) vb (ix2 d q)
      = Stick.stick z v (j + q) j := by
  rw [← Stick.stick_diag z v q.isLt]
  pointwise [k2_pay1, k2_pay37, k2_pay40, k2_pay41, k2_pay54, k2_pay53, k2_pay52, k2_pay51, k2_pay50, k2_pay36]
  simp only [hz, hv, sel_sgt, sel_sgt0,
    sel_slt, sel_slt0]
  rfl

/-- The diagonal tile's softplus sum. -/
theorem diag_run (z : ℕ → EReal) (j : ℕ) (q : Fin 256)
    (hz : ∀ x : Fin 256, ∑ y : Fin 128, kb (ix2 x y) * qh (ix2 y q) = z (j + x)) :
    k2_pay2 k2_pay41 (k2_pay52 qh k2_pay37 kb) (k2_pay53 qh k2_pay36 k2_pay37 kb) (ix2 0 q)
      = Stick.run z (j + q) j := by
  rw [← Stick.run_diag z q.isLt]
  pointwise [k2_pay2, k2_pay37, k2_pay41, k2_pay53, k2_pay52, k2_pay51, k2_pay50, k2_pay36]
  simp only [hz, sel_sgt, sel_sgt0,
    sel_slt, sel_slt0]
  rfl
theorem pay42_eq : k2_pay42 kb = kb := shapeCast_self _ _
theorem pay48_eq (v0 : Vec Ideal S1x128x256 .bf16) : k2_pay48 k2_pay36 k2_pay37 k2_pay38 k2_pay39 (k2_pay43 v0 kb)
    (k2_pay44 v0 kb) (k2_pay45 v0 kb) (Scalar.ofBits .f32 0#32) vb
    = k2_pay1 k2_pay37 k2_pay40 k2_pay41 (k2_pay54 (k2_pay34 v0) k2_pay36 k2_pay37 kb) vb := by
  rw [← congrArg (fun kb => k2_pay1 k2_pay37 k2_pay40 k2_pay41 (k2_pay54 (k2_pay34 v0) k2_pay36 k2_pay37 kb) vb) (pay42_eq kb)]
  rfl
theorem pay49_eq (v0 : Vec Ideal S1x128x256 .bf16) : k2_pay49 k2_pay36 k2_pay37 k2_pay39 (k2_pay45 v0 kb)
    = k2_pay2 k2_pay41 (k2_pay52 (k2_pay34 v0) k2_pay37 kb) (k2_pay53 (k2_pay34 v0) k2_pay36 k2_pay37 kb) := by
  rw [← congrArg (fun kb => k2_pay2 k2_pay41 (k2_pay52 (k2_pay34 v0) k2_pay37 kb) (k2_pay53 (k2_pay34 v0) k2_pay36 k2_pay37 kb))
    (pay42_eq kb)]
  rfl

/-- The score of a key against the first head's query: the mask keeps the first 64 rows. -/
theorem score0 (v0 : Vec Ideal S1x128x256 .bf16) (x q : Fin 256) :
    ∑ y : Fin 128, kb (ix2 x y) * k2_pay34 v0 (ix2 y q)
      = ∑ y : Fin 64, kb (ix2 x ⟨y, by omega⟩) * v0 (ix3 0 ⟨y, by omega⟩ q) := by
  pointwise [k2_pay34, k2_pay33, k2_pay32]
  simp only [sel_slt64]
  rw [Fin.sum_univ_two_halves 64 64 rfl]
  rw [Finset.sum_congr rfl fun k _ => if_pos k.isLt,
    Finset.sum_eq_zero (f := fun k : Fin 64 => _) fun k _ => if_neg (by simp), add_zero]

/-- The score of a key against the second head's query: the mask keeps the last 64 rows. -/
theorem score1 (v0 : Vec Ideal S1x128x256 .bf16) (x q : Fin 256) :
    ∑ y : Fin 128, kb (ix2 x y) * k2_pay35 v0 (ix2 y q)
      = ∑ y : Fin 64, kb (ix2 x ⟨64 + y, by omega⟩) * v0 (ix3 0 ⟨64 + y, by omega⟩ q) := by
  pointwise [k2_pay35, k2_pay33, k2_pay32]
  simp only [sel_sge64]
  rw [Fin.sum_univ_two_halves 64 64 rfl]
  rw [Finset.sum_eq_zero (f := fun k : Fin 64 => ite _ _ _) fun k _ => if_neg (not_le.mpr k.isLt), zero_add]
  exact Finset.sum_congr rfl fun k _ => if_pos (Nat.le_add_right 64 k)
end Cert.KernelIdeal.Value
end
-- ==== Proof.SbBlock.lean ====
module
public import proofs.«01_k».proof.Proof.SbTile
public import Idealize.ShloMosaic.Lib.Tactic
@[expose] public section
set_option maxRecDepth 16384
noncomputable section
open Idealize.ShloMosaic Idealize.ShloMosaic.TcCoe Idealize.SL.Sem

/-! What one grid point of the stick-breaking attention kernel writes: the attention output of its
256 queries over all earlier keys, for the two heads of its column pair. -/

namespace Cert.KernelIdeal.Value
open Cert.KernelIdeal Cert.KernelIdeal.Gen

theorem hz2 : (![0, 0] : Fin 2 → Nat) = fun _ => 0 := funext fun a => by fin_cases a <;> rfl

/-! ### The offsets and trip counts in closed form -/

theorem ofNat_sub : ∀ a : Fin 32, ∀ k : Fin 32, k.val < a.val →
    (Scalar.indexCast (Scalar.subi (Scalar.subi (BitVec.ofNat 32 a.val) 1#32) (Scf.iv 0#32 1#32 k.val))).toNat
      = a.val - 1 - k.val ∧
    (Scalar.indexCast (Scalar.muli (Scalar.subi (Scalar.subi (BitVec.ofNat 32 a.val) 1#32)
      (Scf.iv 0#32 1#32 k.val)) 256#32)).toNat = 256 * (a.val - 1 - k.val) := by decide +kernel

theorem ofNat_self : ∀ a : Fin 32,
    (Scalar.indexCast (BitVec.ofNat 32 a.val)).toNat = a.val ∧
    (Scalar.indexCast (Scalar.muli (BitVec.ofNat 32 a.val) 256#32)).toNat = 256 * a.val := by decide +kernel

theorem trips1 : ∀ a : Fin 32, Scf.trips 0#32
    (Scalar.addi 0#32 (Scalar.muli (Scalar.divsi (Scalar.subi (BitVec.ofNat 32 a.val) 0#32) 1#32) 1#32)) 1#32
      = a.val := by decide +kernel

theorem trips2 : ∀ a : Fin 32, Scf.trips
    (Scalar.addi 0#32 (Scalar.muli (Scalar.divsi (Scalar.subi (BitVec.ofNat 32 a.val) 0#32) 1#32) 1#32))
    (Scalar.addi 0#32 (Scalar.subi (BitVec.ofNat 32 a.val) 0#32)) 1#32 = 0 := by decide +kernel

theorem loop_trips (i : grid2.Coords) : (k2_t1_loop i).trips = (i 2).val := trips1 (i 2)

theorem k2_off4_eq (i : grid2.Coords) (k : Fin (k2_t1_loop i).trips) :
    k2_off4 i k = ![256 * ((i 2).val - 1 - k.val), 0] := by
  have hk : k.val < (i 2).val := k.isLt.trans_eq (loop_trips i)
  have := (ofNat_sub (i 2) ⟨k.val, hk.trans (i 2).isLt⟩ hk).2
  exact congrArg (fun n => ![n, 0]) this

theorem k2_off5_eq (i : grid2.Coords) (k : Fin (k2_t1_loop i).trips) :
    k2_off5 i k = ![(i 2).val - 1 - k.val, 0, 0] := by
  have hk : k.val < (i 2).val := k.isLt.trans_eq (loop_trips i)
  have := (ofNat_sub (i 2) ⟨k.val, hk.trans (i 2).isLt⟩ hk).1
  exact congrArg (fun n => ![n, 0, 0]) this

theorem k2_off6_eq (i : grid2.Coords) (k : Fin (k2_t1_loop i).trips) :
    k2_off6 i k = ![(i 2).val - 1 - k.val, 64, 0] := by
  have hk : k.val < (i 2).val := k.isLt.trans_eq (loop_trips i)
  have := (ofNat_sub (i 2) ⟨k.val, hk.trans (i 2).isLt⟩ hk).1
  exact congrArg (fun n => ![n, 64, 0]) this

/-! ### Scores and values of the loaded blocks as functions of the key's number -/

/-- The score of key `s` against query `q` of the block, over the 64 columns from `o` on. -/
def zB (o : ℕ) (ho : o + 64 ≤ 128) (x0 : Vec Ideal S1x128x256 .bf16) (x1 : Vec Ideal S8192x128 .bf16) (q : Fin 256)
    (s : ℕ) : EReal :=
  if h : s < 8192 then ∑ y : Fin 64, x1 (ix2 ⟨s, h⟩ ⟨o + y, by omega⟩) * x0 (ix3 0 ⟨o + y, by omega⟩ q) else 0

/-- The value of key `s` in column `d` of the block's pair of heads. -/
def vB (x2 : Vec Ideal S32x128x256 .bf16) (d : Fin 128) (s : ℕ) : EReal :=
  if h : s < 8192 then x2 (ix3 ⟨s / 256, by omega⟩ d ⟨s % 256, by omega⟩) else 0

/-- A tile of keys loaded at a key offset. -/
theorem ld_keys (x1 : Vec Ideal S8192x128 .bf16) (off : Fin 2 → Nat) (n : ℕ) (hn : n + 256 ≤ 8192) (h : off = ![n, 0])
    (inb) (x : Fin 256) (y : Fin 128) :
    View.ld x1 (Rect.unit (s := S8192x128) off ![256, 128] inb) (ix2 x y) = x1 (ix2 ⟨n + x, by omega⟩ y) := by
  subst h
  pointwise

/-- A tile of values loaded at a tile's number and a row offset. -/
theorem ld_vals (x2 : Vec Ideal S32x128x256 .bf16) (off : Fin 3 → Nat) (n o : ℕ) (hn : n < 32) (ho : o + 64 ≤ 128)
    (h : off = ![n, o, 0]) (inb) (d : Fin 64) (x : Fin 256) :
    View.ld x2 (Rect.unit (s := S32x128x256) off ![1, 64, 256] inb) (ix3 0 d x)
      = x2 (ix3 ⟨n, hn⟩ ⟨o + d, by omega⟩ x) := by
  subst h
  pointwise

theorem ld_vals_vB (x2 : Vec Ideal S32x128x256 .bf16) (off : Fin 3 → Nat) (n o : ℕ) (hn : n < 32) (ho : o + 64 ≤ 128)
    (h : off = ![n, o, 0]) (inb) (d : Fin 64) (x : Fin 256) :
    View.ld x2 (Rect.unit (s := S32x128x256) off ![1, 64, 256] inb) (ix3 0 d x)
      = vB x2 ⟨o + d, by omega⟩ (256 * n + x) := by
  rw [ld_vals x2 off n o hn ho h, vB, dif_pos (by omega)]
  congr 2 <;> apply Fin.ext <;> simp <;> omega

theorem score0_zB (x0 : Vec Ideal S1x128x256 .bf16) (x1 : Vec Ideal S8192x128 .bf16) (off : Fin 2 → Nat) (n : ℕ) (hn : n < 32)
    (h : off = ![256 * n, 0]) (inb) (x q : Fin 256) :
    ∑ y : Fin 128, View.ld x1 (Rect.unit (s := S8192x128) off ![256, 128] inb) (ix2 x y) * k2_pay34 x0 (ix2 y q)
      = zB 0 (by norm_num) x0 x1 q (256 * n + x) := by
  rw [score0, zB, dif_pos (by omega)]
  refine Finset.sum_congr rfl fun y _ => ?_
  rw [ld_keys x1 off _ (by omega) h]
  simp only [Nat.zero_add]

theorem score1_zB (x0 : Vec Ideal S1x128x256 .bf16) (x1 : Vec Ideal S8192x128 .bf16) (off : Fin 2 → Nat) (n : ℕ) (hn : n < 32)
    (h : off = ![256 * n, 0]) (inb) (x q : Fin 256) :
    ∑ y : Fin 128, View.ld x1 (Rect.unit (s := S8192x128) off ![256, 128] inb) (ix2 x y) * k2_pay35 x0 (ix2 y q)
      = zB 64 (by norm_num) x0 x1 q (256 * n + x) := by
  rw [score1, zB, dif_pos (by omega)]
  refine Finset.sum_congr rfl fun y _ => ?_
  rw [ld_keys x1 off _ (by omega) h]

/-- What the loop carries when the tiles from number `n` on are done, for query block `i`: for both
heads the output and the softplus sum over the keys from `256 n` up to the query. -/
def Carried (x0 : Vec Ideal S1x128x256 .bf16) (x1 : Vec Ideal S8192x128 .bf16) (x2 : Vec Ideal S32x128x256 .bf16) (i n : ℕ)
    (st : FVec Ideal S64x256 .f32 × FVec Ideal S1x256 .f32 × FVec Ideal S64x256 .f32 × FVec Ideal S1x256 .f32) : Prop :=
  ∀ q : Fin 256,
    (∀ d : Fin 64, st.1 (ix2 d q) = Stick.stick (zB 0 (by norm_num) x0 x1 q) (vB x2 ⟨0 + d, by omega⟩) (256 * i + q) (256 * n)
      ∧ st.2.2.1 (ix2 d q) = Stick.stick (zB 64 (by norm_num) x0 x1 q) (vB x2 ⟨64 + d, by omega⟩) (256 * i + q) (256 * n))
    ∧ st.2.1 (ix2 0 q) = Stick.run (zB 0 (by norm_num) x0 x1 q) (256 * i + q) (256 * n)
    ∧ st.2.2.2 (ix2 0 q) = Stick.run (zB 64 (by norm_num) x0 x1 q) (256 * i + q) (256 * n)

section
variable (c : Dev nD) (i : grid2.Coords) (arg3 : Memref sig .tc .vmem S1x128x256 .bf16) (harg3 : arg3.IsWhole)
  (arg4 : Memref sig .tc .vmem S8192x128 .bf16) (harg4 : arg4.IsWhole) (arg5 : Memref sig .tc .vmem S32x128x256 .bf16)
  (harg5 : arg5.IsWhole) (arg6 : Memref sig .tc .vmem S256x128 .f32) (harg6 : arg6.IsWhole)
  (x0 : Vec Ideal S1x128x256 .bf16) (x1 : Vec Ideal S8192x128 .bf16) (x2 : Vec Ideal S32x128x256 .bf16)

/-- A trip of the loop as the two heads' steps on the tile it loads. -/
theorem trip_eq (arg2 : BitVec 32) (q6 q9 : FVec Ideal S128x256 .bf16) (p : FVec Ideal S256x256 .bf16) (k : Fin (k2_t1_loop i).trips)
    (st : FVec Ideal S64x256 .f32 × FVec Ideal S1x256 .f32 × FVec Ideal S64x256 .f32 × FVec Ideal S1x256 .f32) :
    tripR_k2_t1 .none c none i arg3 harg3 arg4 harg4 arg5 harg5 arg6 harg6 arg2 q6 q9 p (harg4.unread x1) (harg5.unread x2) k st
      = (k2_pay19 q6 p st.1 st.2.1 (View.ld x1 (Rect.unit (s := S8192x128) (k2_off4 i k) ![256, 128] (k2_off4_inb i k)))
            (View.ld x2 (Rect.unit (s := S32x128x256) (k2_off5 i k) ![1, 64, 256] (k2_off5_inb i k))),
          k2_pay20 q6 p st.2.1 (View.ld x1 (Rect.unit (s := S8192x128) (k2_off4 i k) ![256, 128] (k2_off4_inb i k))),
          k2_pay19 q9 p st.2.2.1 st.2.2.2 (View.ld x1 (Rect.unit (s := S8192x128) (k2_off4 i k) ![256, 128] (k2_off4_inb i k)))
            (View.ld x2 (Rect.unit (s := S32x128x256) (k2_off6 i k) ![1, 64, 256] (k2_off6_inb i k))),
          k2_pay20 q9 p st.2.2.2 (View.ld x1 (Rect.unit (s := S8192x128) (k2_off4 i k) ![256, 128] (k2_off4_inb i k)))) := by
  unfold tripR_k2_t1 trip_k2_t1
  dsimp only
  sl_unfold_words
  simp only [View.readAt_eq_ld, harg4.read_unread, harg5.read_unread]
  rfl

/-- One trip of the loop takes the carried values one tile further down. -/
theorem trip_carried (arg2 : BitVec 32) (k : Fin (k2_t1_loop i).trips)
    (st : FVec Ideal S64x256 .f32 × FVec Ideal S1x256 .f32 × FVec Ideal S64x256 .f32 × FVec Ideal S1x256 .f32)
    (h : Carried x0 x1 x2 (i 2).val ((i 2).val - k.val) st) :
    Carried x0 x1 x2 (i 2).val ((i 2).val - (k.val + 1))
      (tripR_k2_t1 .none c none i arg3 harg3 arg4 harg4 arg5 harg5 arg6 harg6 arg2 (k2_pay34 x0) (k2_pay35 x0) k2_pay36
        (harg4.unread x1) (harg5.unread x2) k st) := by
  have hk : k.val < (i 2).val := k.isLt.trans_eq (loop_trips i)
  have hi : (i 2).val < 32 := (i 2).isLt
  have hn : 256 * ((i 2).val - k.val) = 256 * ((i 2).val - (k.val + 1)) + 256 := by omega
  have hm : (i 2).val - 1 - k.val = (i 2).val - (k.val + 1) := by omega
  rw [trip_eq]
  intro q
  obtain ⟨h1, h2, h3⟩ := h q
  rw [hn] at h1 h2 h3
  have ho4 := k2_off4_eq i k
  have ho5 := k2_off5_eq i k
  have ho6 := k2_off6_eq i k
  rw [hm] at ho4 ho5 ho6
  refine ⟨fun d => ⟨?_, ?_⟩, ?_, ?_⟩
  · exact tile_acc _ _ _ _ _ _ _ _ _ d q (by omega)
      (fun x => score0_zB x0 x1 _ _ (by omega) ho4 _ x q)
      (fun x => ld_vals_vB x2 _ _ 0 (by omega) (by norm_num) ho5 _ d x) (h1 d).1 h2
  · exact tile_acc _ _ _ _ _ _ _ _ _ d q (by omega)
      (fun x => score1_zB x0 x1 _ _ (by omega) ho4 _ x q)
      (fun x => ld_vals_vB x2 _ _ 64 (by omega) (by norm_num) ho6 _ d x) (h1 d).2 h3
  · exact tile_run _ _ _ _ _ _ q (by omega) (fun x => score0_zB x0 x1 _ _ (by omega) ho4 _ x q) h2
  · exact tile_run _ _ _ _ _ _ q (by omega)
      (fun x => score1_zB x0 x1 _ _ (by omega) ho4 _ x q) h3

/-- The loop's values after `k` trips. -/
theorem loop_carried (arg2 : BitVec 32)
    (init : FVec Ideal S64x256 .f32 × FVec Ideal S1x256 .f32 × FVec Ideal S64x256 .f32 × FVec Ideal S1x256 .f32)
    (h0 : Carried x0 x1 x2 (i 2).val (i 2).val init) : ∀ k : ℕ, k ≤ (i 2).val →
    Carried x0 x1 x2 (i 2).val ((i 2).val - k)
      (st_k2_t1 .none c none i arg3 harg3 arg4 harg4 arg5 harg5 arg6 harg6 arg2 (k2_pay34 x0) (k2_pay35 x0) k2_pay36
        (harg4.unread x1) (harg5.unread x2) init k)
  | 0, _ => by rw [st_k2_t1_zero]; exact h0
  | k + 1, hk => by
    have hk' : k < (k2_t1_loop i).trips := (Nat.lt_of_succ_le hk).trans_eq (loop_trips i).symm
    rw [st_k2_t1_succ (k := ⟨k, hk'⟩)]
    exact trip_carried c i _ _ _ _ _ _ _ _ x0 x1 x2 arg2 ⟨k, hk'⟩ _ (loop_carried arg2 init h0 k (by omega))

/-- The block a grid point leaves: at query `q` and column `e` of its pair of heads, the attention
output over all keys before the query. -/
def outB (i : ℕ) : Vec Ideal S256x128 .f32 := fun j =>
  if (j 1).val < 64 then Stick.stick (zB 0 (by norm_num) x0 x1 (j 0)) (vB x2 (j 1)) (256 * i + (j 0).val) 0
  else Stick.stick (zB 64 (by norm_num) x0 x1 (j 0)) (vB x2 (j 1)) (256 * i + (j 0).val) 0

/-- The two heads' outputs side by side, turned to rows of queries, are the block. -/
theorem join_heads (i : ℕ)
    (st : FVec Ideal S64x256 .f32 × FVec Ideal S1x256 .f32 × FVec Ideal S64x256 .f32 × FVec Ideal S1x256 .f32)
    (h : Carried x0 x1 x2 i (i - i) st) : k2_pay13 st.1 st.2.2.1 = outB x0 x1 x2 i := by
  rw [Nat.sub_self] at h
  funext j
  idx_vars j
  obtain ⟨h1, -⟩ := h j0
  pointwise [k2_pay13, outB]
  by_cases hj : (j1 : ℕ) < 64
  · rw [dif_pos hj, if_pos hj, (h1 _).1]
    simp only [Nat.zero_add, Nat.mul_zero]
  · rw [dif_neg hj, if_neg hj, (h1 _).2]
    simp only [Nat.mul_zero, show 64 + ((j1 : ℕ) - 64) = j1 by omega]

/-- What a grid point stores: the attention output of its queries. -/
theorem out_A : out2_A_3 c i arg3 harg3 arg4 harg4 arg5 harg5 arg6 harg6 x0 x1 x2 = outB x0 x1 x2 (i 2).val := by
  have hi : (i 2).val < 32 := (i 2).isLt
  unfold out2_A_3
  rw [View.read_writes_eq_canon _ _ _ (cover2_A_3 c i arg3 harg3 arg4 harg4 arg5 harg5 arg6 harg6 x0 x1 x2)]
  unfold kernelRun2_A
  dsimp only
  sl_unfold_words
  rw [View.canon_unit_zero (S := S256x128) hz2]
  simp only [View.readAt_eq_ld, harg3.read_unread, harg4.read_unread, harg5.read_unread]
  rw [trips1 (i 2), trips2 (i 2)]
  simp only [View.ld_unit_zero (S := S1x128x256) (show (![0, 0, 0] : Fin 3 → Nat) = fun _ => 0 from by
    funext a; fin_cases a <;> rfl)]
  simp only [st_k2_t2_zero, pay42_eq]
  refine join_heads _ _ _ _ _ (loop_carried c i _ _ _ _ _ _ _ _ x0 x1 x2 _ _ (fun q => ?_) (i 2).val le_rfl)
  have ho1 := congrArg (fun n => ![n, 0]) (ofNat_self (i 2)).2
  have ho2 := congrArg (fun n => ![n, 0, 0]) (ofNat_self (i 2)).1
  have ho3 := congrArg (fun n => ![n, 64, 0]) (ofNat_self (i 2)).1
  refine ⟨fun d => ⟨?_, ?_⟩, ?_, ?_⟩
  · exact (congrFun (pay48_eq _ _ _) _).trans (diag_acc _ _ _ _ _ _ d q
      (fun x => score0_zB x0 x1 _ _ hi ho1 _ x q)
      (fun x => ld_vals_vB x2 _ _ 0 hi (by norm_num) ho2 _ d x))
  · exact diag_acc _ _ _ _ _ _ d q (fun x => score1_zB x0 x1 _ _ hi ho1 _ x q)
      (fun x => ld_vals_vB x2 _ _ 64 hi (by norm_num) ho3 _ d x)
  · exact (congrFun (pay49_eq _ _) _).trans (diag_run _ _ _ _ q (fun x => score0_zB x0 x1 _ _ hi ho1 _ x q))
  · exact diag_run _ _ _ _ q (fun x => score1_zB x0 x1 _ _ hi ho1 _ x q)
end
end Cert.KernelIdeal.Value
end
-- ==== Proof.DiffBlock.lean ====
module
public import proofs.«01_k».proof.Proof.DiffTile
public import proofs.«01_k».proof.Proof.SbBlock
public import proofs.«01_k».proof.Proof.Gen.KernelIdeal.Frame.Region4
public import Idealize.ShloMosaic.Lib.Tactic
@[expose] public section
set_option maxRecDepth 16384
noncomputable section
open Idealize.ShloMosaic Idealize.ShloMosaic.TcCoe Idealize.SL.Sem

/-! What one grid point of the differential attention kernel writes: for each of its 256 queries the difference of the
two softmaxes' means over all keys up to the query, normalised. -/

namespace Soft

/-- The bias the kernel adds for key `u`: the first tile's for a key of query block `i`, the second one's for the block
before, none further back. -/
def near (b0 b1 : ℕ → ℝ) (i u : ℕ) : ℝ := if u / 256 = i then b0 (u % 256) else if u / 256 + 1 = i then b1 (u % 256) else 0

/-- The weight of key `u` for query `t` with the scores `z` and the bias `b`: keys after the query have none. -/
def weight (z b : ℕ → ℝ) (t u : ℕ) : ℝ := if u ≤ t then Real.exp (z u + b u) else 0

/-- A sum over the keys from tile `n` on is the tile's sum and the sum from the next tile on. -/
theorem sum_tile (f : ℕ → ℝ) (n N : ℕ) (h : 256 * (n + 1) ≤ N) :
    ∑ u ∈ Finset.Ico (256 * n) N, f u = ∑ u ∈ Finset.Ico (256 * (n + 1)) N, f u + ∑ x : Fin 256, f (256 * n + x) := by
  rw [← Finset.sum_Ico_consecutive f (show 256 * n ≤ 256 * (n + 1) by omega) h, add_comm]
  congr 1
  rw [Finset.sum_Ico_eq_sum_range, show 256 * (n + 1) - 256 * n = 256 by omega, Finset.sum_range]

end Soft

namespace Cert.KernelIdeal.Value
open Cert.KernelIdeal Cert.KernelIdeal.Gen

/-! ### The offsets and trip counts in closed form -/

theorem d_far : ∀ a : Fin 32, ∀ k : Fin 32, k.val + 1 < a.val →
    (Scalar.indexCast (Scalar.subi (Scalar.subi (BitVec.ofNat 32 a.val) 2#32) (Scf.iv 0#32 1#32 k.val))).toNat
      = a.val - 2 - k.val ∧
    (Scalar.indexCast (Scalar.muli (Scalar.subi (Scalar.subi (BitVec.ofNat 32 a.val) 2#32)
      (Scf.iv 0#32 1#32 k.val)) 256#32)).toNat = 256 * (a.val - 2 - k.val) := by decide +kernel

theorem d_one : ∀ a : Fin 32, 0 < a.val →
    (Scalar.indexCast (Scalar.subi (BitVec.ofNat 32 a.val) 1#32)).toNat = a.val - 1 ∧
    (Scalar.indexCast (Scalar.muli (Scalar.subi (BitVec.ofNat 32 a.val) 1#32) 256#32)).toNat = 256 * (a.val - 1) := by
  decide +kernel

theorem d_trips_raw : ∀ a : Fin 32, Scf.trips 0#32 (Scalar.addi 0#32 (Scalar.muli (Scalar.divsi (Scalar.subi (Scalar.minsi
      (BitVec.ofNat 32 a.val) 1#32) 0#32) 1#32) 1#32)) 1#32 = min a.val 1
      ∧ Scf.trips (Scalar.addi 0#32 (Scalar.muli (Scalar.divsi (Scalar.subi (Scalar.minsi
      (BitVec.ofNat 32 a.val) 1#32) 0#32) 1#32) 1#32)) (Scalar.addi 0#32 (Scalar.subi (Scalar.minsi
      (BitVec.ofNat 32 a.val) 1#32) 0#32)) 1#32 = 0
      ∧ Scf.trips 0#32 (Scalar.addi 0#32 (Scalar.muli (Scalar.divsi (Scalar.subi (Scalar.subi (BitVec.ofNat 32 a.val)
      (Scalar.minsi (BitVec.ofNat 32 a.val) 1#32)) 0#32) 1#32) 1#32)) 1#32 = a.val - 1
      ∧ Scf.trips (Scalar.addi 0#32 (Scalar.muli (Scalar.divsi (Scalar.subi (Scalar.subi (BitVec.ofNat 32 a.val)
      (Scalar.minsi (BitVec.ofNat 32 a.val) 1#32)) 0#32) 1#32) 1#32)) (Scalar.addi 0#32 (Scalar.subi (Scalar.subi
      (BitVec.ofNat 32 a.val) (Scalar.minsi (BitVec.ofNat 32 a.val) 1#32)) 0#32)) 1#32 = 0 := by decide +kernel

theorem d_trips (i : grid4.Coords) : (k4_t1_loop i).trips = min (i 2).val 1 ∧ (k4_t2_loop i).trips = 0
    ∧ (k4_t3_loop i).trips = (i 2).val - 1 ∧ (k4_t4_loop i).trips = 0 :=
  d_trips_raw (i 2)

/-- A state carried by the loops: for both maps the maximum, the sum and the weighted sums. -/
abbrev State := FVec Ideal S1x256 .f32 × FVec Ideal S1x256 .f32 × FVec Ideal S128x256 .f32 × FVec Ideal S1x256 .f32
  × FVec Ideal S1x256 .f32 × FVec Ideal S128x256 .f32

/-- The real numbers a query's run is about: both maps' scores, the values, and the two tiles of the bias. -/
structure Reals (x1 : Vec Ideal S1x128x256 .bf16) (x2 : Vec Ideal S8192x128 .bf16) (x3 : Vec Ideal S32x128x256 .bf16)
    (x4 : Vec Ideal S1x2x256x256 .f32) (q : Fin 256) (z1 z2 : ℕ → ℝ) (v : Fin 128 → ℕ → ℝ) (b0 b1 : ℕ → ℝ) : Prop where
  z1 : ∀ s, zB 0 (by norm_num) x1 x2 q s = ((z1 s : ℝ) : EReal)
  z2 : ∀ s, zB 64 (by norm_num) x1 x2 q s = ((z2 s : ℝ) : EReal)
  v : ∀ d s, vB x3 d s = ((v d s : ℝ) : EReal)
  b0 : ∀ x : Fin 256, x4 (ix4 0 0 x q) = if x.val ≤ q.val then ((b0 x : ℝ) : EReal) else ⊥
  b1 : ∀ x : Fin 256, x4 (ix4 0 1 x q) = ((b1 x : ℝ) : EReal)

/-- What is carried when the tiles from number `n` on are done, for query `q` of block `i`. -/
def Held (z1 z2 : ℕ → ℝ) (v : Fin 128 → ℕ → ℝ) (b0 b1 : ℕ → ℝ) (q : Fin 256) (i n : ℕ) (st : State) : Prop :=
  ∀ d : Fin 128,
    Soft.St (st.1 (ix2 0 q)) (st.2.1 (ix2 0 q)) (st.2.2.1 (ix2 d q))
      (∑ u ∈ Finset.Ico (256 * n) (256 * (i + 1)), Soft.weight z1 (Soft.near b0 b1 i) (256 * i + q) u)
      (∑ u ∈ Finset.Ico (256 * n) (256 * (i + 1)), v d u * Soft.weight z1 (Soft.near b0 b1 i) (256 * i + q) u)
    ∧ Soft.St (st.2.2.2.1 (ix2 0 q)) (st.2.2.2.2.1 (ix2 0 q)) (st.2.2.2.2.2 (ix2 d q))
      (∑ u ∈ Finset.Ico (256 * n) (256 * (i + 1)), Soft.weight z2 (Soft.near b0 b1 i) (256 * i + q) u)
      (∑ u ∈ Finset.Ico (256 * n) (256 * (i + 1)), v d u * Soft.weight z2 (Soft.near b0 b1 i) (256 * i + q) u)

variable {x1 : Vec Ideal S1x128x256 .bf16} {x2 : Vec Ideal S8192x128 .bf16} {x3 : Vec Ideal S32x128x256 .bf16}
  {x4 : Vec Ideal S1x2x256x256 .f32} {q : Fin 256} {z1 z2 : ℕ → ℝ} {v : Fin 128 → ℕ → ℝ} {b0 b1 : ℕ → ℝ}

/-- The next state after a tile whose scores are `s1` and `s2`. -/
def nextSt (s1 s2 : FVec Ideal S256x256 .f32) (vb : Vec Ideal S1x128x256 .bf16) (st : State) : State :=
  (nextM s1 st.1, nextL s1 st.1 st.2.1, nextA s1 st.1 st.2.2.1 vb,
    nextM s2 st.2.2.2.1, nextL s2 st.2.2.2.1 st.2.2.2.2.1, nextA s2 st.2.2.2.1 st.2.2.2.2.2 vb)

/-- One tile takes what is carried one tile further down. -/
theorem held_step {i n : ℕ} {st : State} (h : Held z1 z2 v b0 b1 q i (n + 1) st) (hn : n ≤ i) (s1 s2 : FVec Ideal S256x256 .f32)
    (vb : Vec Ideal S1x128x256 .bf16)
    (hs1 : ∀ x : Fin 256, Soft.Score (s1 (ix2 x q)) (Soft.weight z1 (Soft.near b0 b1 i) (256 * i + q) (256 * n + x)))
    (hs2 : ∀ x : Fin 256, Soft.Score (s2 (ix2 x q)) (Soft.weight z2 (Soft.near b0 b1 i) (256 * i + q) (256 * n + x)))
    (hv : ∀ d (x : Fin 256), vb (ix3 0 d x) = ((v d (256 * n + x) : ℝ) : EReal))
    (h1 : s1 (ix2 0 q) ≠ ⊥) (h2 : s2 (ix2 0 q) ≠ ⊥) :
    Held z1 z2 v b0 b1 q i n (nextSt s1 s2 vb st) := by
  have hN : 256 * (n + 1) ≤ 256 * (i + 1) := by omega
  intro d
  rw [Soft.sum_tile _ n _ hN, Soft.sum_tile _ n _ hN, Soft.sum_tile _ n _ hN, Soft.sum_tile _ n _ hN]
  exact ⟨tile_st s1 _ _ _ vb q (fun d => (h d).1) _ hs1 (fun d x => v d (256 * n + x)) hv ⟨0, h1⟩ d,
    tile_st s2 _ _ _ vb q (fun d => (h d).2) _ hs2 (fun d x => v d (256 * n + x)) hv ⟨0, h2⟩ d⟩

/-- A tile far from the query has no bias. -/
theorem score_far {z : ℕ → ℝ} {s : EReal} {i n : ℕ} (x : Fin 256) (hn : n + 2 ≤ i) (h : s = ((z (256 * n + x) : ℝ) : EReal)) :
    Soft.Score s (Soft.weight z (Soft.near b0 b1 i) (256 * i + q) (256 * n + x)) := by
  have e : Soft.near b0 b1 i (256 * n + x) = 0 := by
    rw [Soft.near, if_neg (by omega), if_neg (by omega)]
  rw [Soft.weight, if_pos (by omega), e, add_zero, h]
  exact Soft.Score.real _

/-- The tile before the query's has the second tile of the bias. -/
theorem score_near {z : ℕ → ℝ} {s : EReal} {i n : ℕ} (x : Fin 256) (hn : n + 1 = i)
    (h : s = ((z (256 * n + x) : ℝ) : EReal) + ((b1 x : ℝ) : EReal)) :
    Soft.Score s (Soft.weight z (Soft.near b0 b1 i) (256 * i + q) (256 * n + x)) := by
  have e : Soft.near b0 b1 i (256 * n + x) = b1 x := by
    rw [Soft.near, if_neg (by omega), if_pos (by omega), show (256 * n + x.val) % 256 = x.val by omega]
  rw [Soft.weight, if_pos (by omega), e, h, ← EReal.coe_add]
  exact Soft.Score.real _

/-- The query's own tile has the first tile of the bias, `-∞` after the query. -/
theorem score_diag {z : ℕ → ℝ} {s : EReal} {i : ℕ} (x : Fin 256)
    (h : s = ((z (256 * i + x) : ℝ) : EReal) + if x.val ≤ q.val then ((b0 x : ℝ) : EReal) else ⊥) :
    Soft.Score s (Soft.weight z (Soft.near b0 b1 i) (256 * i + q) (256 * i + x)) := by
  have e : Soft.near b0 b1 i (256 * i + x) = b0 x := by
    rw [Soft.near, if_pos (by omega), show (256 * i + x.val) % 256 = x.val by omega]
  rw [Soft.weight, e, h]
  by_cases hx : x.val ≤ q.val
  · rw [if_pos hx, if_pos (by omega), ← EReal.coe_add]
    exact Soft.Score.real _
  · rw [if_neg hx, if_neg (by omega), EReal.add_bot]
    exact Soft.Score.bot

/-- A tile's scores at the loaded keys. -/
theorem scoreT_0B (off : Fin 2 → Nat) (n : ℕ) (hn : n < 32) (h : off = ![256 * n, 0]) (inb) (x : Fin 256) :
    scoreT (k4_pay62 x1) (View.ld x2 (Rect.unit (s := S8192x128) off ![256, 128] inb)) (ix2 x q)
      = zB 0 (by norm_num) x1 x2 q (256 * n + x) := by
  rw [scoreT_0, zB, dif_pos (by omega)]
  refine Finset.sum_congr rfl fun y _ => ?_
  rw [ld_keys x2 off _ (by omega) h]

theorem scoreT_1B (off : Fin 2 → Nat) (n : ℕ) (hn : n < 32) (h : off = ![256 * n, 0]) (inb) (x : Fin 256) :
    scoreT (k4_pay63 x1) (View.ld x2 (Rect.unit (s := S8192x128) off ![256, 128] inb)) (ix2 x q)
      = zB 64 (by norm_num) x1 x2 q (256 * n + x) := by
  rw [scoreT_1, zB, dif_pos (by omega)]
  refine Finset.sum_congr rfl fun y _ => ?_
  rw [ld_keys x2 off _ (by omega) h]

/-- A tile of values loaded at a tile's number. -/
theorem ld_valsB (off : Fin 3 → Nat) (n : ℕ) (hn : n < 32) (h : off = ![n, 0, 0]) (inb) (d : Fin 128) (x : Fin 256) :
    View.ld x3 (Rect.unit (s := S32x128x256) off ![1, 128, 256] inb) (ix3 0 d x) = vB x3 d (256 * n + x) := by
  subst h
  rw [vB, dif_pos (by omega)]
  pointwise
  congr 2 <;> apply Fin.ext <;> simp <;> omega

/-- The two tiles of the bias. -/
theorem ld_bias0 (inb) (x : Fin 256) :
    View.ld x4 (Rect.unit (s := S1x2x256x256) ![0, 0, 0, 0] ![1, 1, 256, 256] inb) (ix4 0 0 x q) = x4 (ix4 0 0 x q) := by
  pointwise
theorem ld_bias1 (inb) (x : Fin 256) :
    View.ld x4 (Rect.unit (s := S1x2x256x256) ![0, 1, 0, 0] ![1, 1, 256, 256] inb) (ix4 0 0 x q) = x4 (ix4 0 1 x q) := by
  pointwise

section
variable (c : Dev nD) (i : grid4.Coords) (arg3 : Memref sig .tc .smem S1x1 .f32) (harg3 : arg3.IsWhole)
  (arg4 : Memref sig .tc .vmem S1x128x256 .bf16) (harg4 : arg4.IsWhole) (arg5 : Memref sig .tc .vmem S8192x128 .bf16)
  (harg5 : arg5.IsWhole) (arg6 : Memref sig .tc .vmem S32x128x256 .bf16) (harg6 : arg6.IsWhole)
  (arg7 : Memref sig .tc .vmem S1x2x256x256 .f32) (harg7 : arg7.IsWhole) (arg8 : Memref sig .tc .vmem S128x1 .f32)
  (harg8 : arg8.IsWhole) (arg9 : Memref sig .tc .vmem S256x128 .f32) (harg9 : arg9.IsWhole)
  (arg2 : BitVec 32) (v11 : FVec Ideal S1x256 .f32) (v12 : FVec Ideal S128x256 .f32) (v13 v14 : FVec Ideal S1x256 .f32)
  (v15 : FVec Ideal S128x256 .f32) (v17 : FVec Ideal S256x256 .f32) (v22 : FVec Ideal S256x128 .bf16)
  (v25 : FVec Ideal S128x256 .bf16) (v30 v32 : FVec Ideal S1x256 .f32) (v34 : FVec Ideal S256x256 .f32)

/-- The first loop's trip as a step on the tile it loads. -/
theorem trip1_eq (x2 : Vec Ideal S8192x128 .bf16) (x3 : Vec Ideal S32x128x256 .bf16) (x4 : Vec Ideal S1x2x256x256 .f32)
    (q6 q9 : FVec Ideal S128x256 .bf16) (k : Fin (k4_t1_loop i).trips) (st : State) :
    tripR_k4_t1 .none c none i arg3 harg3 arg4 harg4 arg5 harg5 arg6 harg6 arg7 harg7 arg8 harg8 arg9 harg9 arg2
        q6 q9 v11 v12 v13 v14 v15 v17 v22 v25 v30 v32 v34 (harg5.unread x2) (harg6.unread x3) (harg7.unread x4) k st
      = nextSt
          (biasT q6 (View.ld x4 (Rect.unit (s := S1x2x256x256) ![0, 1, 0, 0] ![1, 1, 256, 256] inb_S1x2x256x256_S1x1x256x256_0_1_0_0))
            (View.ld x2 (Rect.unit (s := S8192x128) (k4_off3 i) ![256, 128] (k4_off3_inb i k))))
          (biasT q9 (View.ld x4 (Rect.unit (s := S1x2x256x256) ![0, 1, 0, 0] ![1, 1, 256, 256] inb_S1x2x256x256_S1x1x256x256_0_1_0_0))
            (View.ld x2 (Rect.unit (s := S8192x128) (k4_off3 i) ![256, 128] (k4_off3_inb i k))))
          (View.ld x3 (Rect.unit (s := S32x128x256) (k4_off4 i) ![1, 128, 256] (k4_off4_inb i k))) st := by
  unfold tripR_k4_t1 trip_k4_t1
  dsimp only
  sl_unfold_words
  simp only [View.readAt_eq_ld, harg5.read_unread, harg6.read_unread, harg7.read_unread]
  rfl

/-- The second loop's trip as a step on the tile it loads. -/
theorem trip3_eq (x2 : Vec Ideal S8192x128 .bf16) (x3 : Vec Ideal S32x128x256 .bf16)
    (q6 q9 : FVec Ideal S128x256 .bf16) (k : Fin (k4_t3_loop i).trips) (st : State) :
    tripR_k4_t3 .none c none i arg3 harg3 arg4 harg4 arg5 harg5 arg6 harg6 arg7 harg7 arg8 harg8 arg9 harg9 arg2
        q6 q9 v11 v12 v13 v14 v15 v17 v22 v25 v30 v32 v34 (harg5.unread x2) (harg6.unread x3) k st
      = nextSt
          (scoreT q6 (View.ld x2 (Rect.unit (s := S8192x128) (k4_off7 i k) ![256, 128] (k4_off7_inb i k))))
          (scoreT q9 (View.ld x2 (Rect.unit (s := S8192x128) (k4_off7 i k) ![256, 128] (k4_off7_inb i k))))
          (View.ld x3 (Rect.unit (s := S32x128x256) (k4_off8 i k) ![1, 128, 256] (k4_off8_inb i k))) st := by
  unfold tripR_k4_t3 trip_k4_t3
  dsimp only
  sl_unfold_words
  simp only [View.readAt_eq_ld, harg5.read_unread, harg6.read_unread]
  rfl

/-- The trip of the loop over the tile before the query's. -/
theorem trip1_held (R : Reals x1 x2 x3 x4 q z1 z2 v b0 b1) (k : Fin (k4_t1_loop i).trips) (st : State)
    (h : Held z1 z2 v b0 b1 q (i 2).val (i 2).val st) :
    Held z1 z2 v b0 b1 q (i 2).val ((i 2).val - 1)
      (tripR_k4_t1 .none c none i arg3 harg3 arg4 harg4 arg5 harg5 arg6 harg6 arg7 harg7 arg8 harg8 arg9 harg9 arg2
        (k4_pay62 x1) (k4_pay63 x1) v11 v12 v13 v14 v15 v17 v22 v25 v30 v32 v34 (harg5.unread x2) (harg6.unread x3)
        (harg7.unread x4) k st) := by
  have hi : (i 2).val < 32 := (i 2).isLt
  have hk : 0 < (i 2).val := by
    have := k.isLt.trans_eq (d_trips i).1
    omega
  rw [trip1_eq]
  have ho := d_one (i 2) hk
  have ho3 : k4_off3 i = ![256 * ((i 2).val - 1), 0] := congrArg (fun n => ![n, 0]) ho.2
  have ho4 : k4_off4 i = ![(i 2).val - 1, 0, 0] := congrArg (fun n => ![n, 0, 0]) ho.1
  have hS : ∀ x, biasT (k4_pay62 x1) (View.ld x4 (Rect.unit (s := S1x2x256x256) ![0, 1, 0, 0] ![1, 1, 256, 256] inb_S1x2x256x256_S1x1x256x256_0_1_0_0))
      (View.ld x2 (Rect.unit (s := S8192x128) (k4_off3 i) ![256, 128] (k4_off3_inb i k))) (ix2 x q)
      = ((z1 (256 * ((i 2).val - 1) + x) : ℝ) : EReal) + ((b1 x : ℝ) : EReal) := fun x => by
    rw [biasT_at, scoreT_0B _ _ (by omega) ho3, R.z1, ld_bias1, R.b1]
  have hS2 : ∀ x, biasT (k4_pay63 x1) (View.ld x4 (Rect.unit (s := S1x2x256x256) ![0, 1, 0, 0] ![1, 1, 256, 256] inb_S1x2x256x256_S1x1x256x256_0_1_0_0))
      (View.ld x2 (Rect.unit (s := S8192x128) (k4_off3 i) ![256, 128] (k4_off3_inb i k))) (ix2 x q)
      = ((z2 (256 * ((i 2).val - 1) + x) : ℝ) : EReal) + ((b1 x : ℝ) : EReal) := fun x => by
    rw [biasT_at, scoreT_1B _ _ (by omega) ho3, R.z2, ld_bias1, R.b1]
  refine held_step (st := st) (by rwa [Nat.sub_add_cancel hk]) (by omega) (biasT (k4_pay62 x1) _ _) (biasT (k4_pay63 x1) _ _) _
    (fun x => score_near x (by omega) (hS x)) (fun x => score_near x (by omega) (hS2 x))
    (fun d x => by rw [ld_valsB _ _ (by omega) ho4, R.v]) ?_ ?_
  · rw [hS, ← EReal.coe_add]; exact EReal.coe_ne_bot _
  · rw [hS2, ← EReal.coe_add]; exact EReal.coe_ne_bot _

/-- A trip of the loop over the tiles further back. -/
theorem trip3_held (R : Reals x1 x2 x3 x4 q z1 z2 v b0 b1) (k : Fin (k4_t3_loop i).trips) (st : State)
    (h : Held z1 z2 v b0 b1 q (i 2).val ((i 2).val - 1 - k.val) st) :
    Held z1 z2 v b0 b1 q (i 2).val ((i 2).val - 1 - (k.val + 1))
      (tripR_k4_t3 .none c none i arg3 harg3 arg4 harg4 arg5 harg5 arg6 harg6 arg7 harg7 arg8 harg8 arg9 harg9 arg2
        (k4_pay62 x1) (k4_pay63 x1) v11 v12 v13 v14 v15 v17 v22 v25 v30 v32 v34 (harg5.unread x2) (harg6.unread x3) k st) := by
  have hi : (i 2).val < 32 := (i 2).isLt
  have hk : k.val + 1 < (i 2).val := by
    have := k.isLt.trans_eq (d_trips i).2.2.1
    omega
  rw [trip3_eq]
  have ho := d_far (i 2) ⟨k.val, by omega⟩ hk
  have em : (i 2).val - 2 - k.val = (i 2).val - 1 - (k.val + 1) := by omega
  simp only [em] at ho
  have ho7 : k4_off7 i k = ![256 * ((i 2).val - 1 - (k.val + 1)), 0] := congrArg (fun n => ![n, 0]) ho.2
  have ho8 : k4_off8 i k = ![(i 2).val - 1 - (k.val + 1), 0, 0] := congrArg (fun n => ![n, 0, 0]) ho.1
  have hS : ∀ x, scoreT (k4_pay62 x1)
      (View.ld x2 (Rect.unit (s := S8192x128) (k4_off7 i k) ![256, 128] (k4_off7_inb i k))) (ix2 x q)
      = ((z1 (256 * ((i 2).val - 1 - (k.val + 1)) + x) : ℝ) : EReal) := fun x => by
    rw [scoreT_0B _ _ (by omega) ho7, R.z1]
  have hS2 : ∀ x, scoreT (k4_pay63 x1)
      (View.ld x2 (Rect.unit (s := S8192x128) (k4_off7 i k) ![256, 128] (k4_off7_inb i k))) (ix2 x q)
      = ((z2 (256 * ((i 2).val - 1 - (k.val + 1)) + x) : ℝ) : EReal) := fun x => by
    rw [scoreT_1B _ _ (by omega) ho7, R.z2]
  refine held_step (st := st) (by rwa [show (i 2).val - 1 - (k.val + 1) + 1 = (i 2).val - 1 - k.val by omega]) (by omega)
    (scoreT (k4_pay62 x1) _) (scoreT (k4_pay63 x1) _) _
    (fun x => score_far x (by omega) (hS x)) (fun x => score_far x (by omega) (hS2 x))
    (fun d x => by rw [ld_valsB _ _ (by omega) ho8, R.v]) ?_ ?_
  · rw [hS]; exact EReal.coe_ne_bot _
  · rw [hS2]; exact EReal.coe_ne_bot _

/-- The second loop's state after `k` trips. -/
theorem loop3_held (R : Reals x1 x2 x3 x4 q z1 z2 v b0 b1) (init : State)
    (h0 : Held z1 z2 v b0 b1 q (i 2).val ((i 2).val - 1) init) : ∀ k : ℕ, k ≤ (i 2).val - 1 →
    Held z1 z2 v b0 b1 q (i 2).val ((i 2).val - 1 - k)
      (st_k4_t3 .none c none i arg3 harg3 arg4 harg4 arg5 harg5 arg6 harg6 arg7 harg7 arg8 harg8 arg9 harg9 arg2
        (k4_pay62 x1) (k4_pay63 x1) v11 v12 v13 v14 v15 v17 v22 v25 v30 v32 v34 (harg5.unread x2) (harg6.unread x3) init k)
  | 0, _ => by rw [st_k4_t3_zero]; exact h0
  | k + 1, hk => by
    have hk' : k < (k4_t3_loop i).trips := (Nat.lt_of_succ_le hk).trans_eq (d_trips i).2.2.1.symm
    rw [st_k4_t3_succ (k := ⟨k, hk'⟩)]
    exact trip3_held c i _ _ _ _ _ _ _ _ _ _ _ _ _ _ _ _ _ _ _ _ _ _ _ _ _ _ R ⟨k, hk'⟩ _ (loop3_held R init h0 k (by omega))

/-- The first loop's state after its trips. -/
theorem loop1_held (R : Reals x1 x2 x3 x4 q z1 z2 v b0 b1) (init : State)
    (h0 : Held z1 z2 v b0 b1 q (i 2).val (i 2).val init) :
    Held z1 z2 v b0 b1 q (i 2).val ((i 2).val - 1)
      (st_k4_t1 .none c none i arg3 harg3 arg4 harg4 arg5 harg5 arg6 harg6 arg7 harg7 arg8 harg8 arg9 harg9 arg2
        (k4_pay62 x1) (k4_pay63 x1) v11 v12 v13 v14 v15 v17 v22 v25 v30 v32 v34 (harg5.unread x2) (harg6.unread x3)
        (harg7.unread x4) init (min (i 2).val 1)) := by
  rcases Nat.eq_zero_or_pos (i 2).val with h | h
  · rw [h] at h0 ⊢
    rw [show min 0 1 = 0 from rfl, st_k4_t1_zero]
    exact h0
  · have e : min (i 2).val 1 = 0 + 1 := by omega
    have hk' : 0 < (k4_t1_loop i).trips := by rw [(d_trips i).1, e]; exact Nat.one_pos
    rw [e, st_k4_t1_succ (k := ⟨0, hk'⟩)]
    refine trip1_held c i _ _ _ _ _ _ _ _ _ _ _ _ _ _ _ _ _ _ _ _ _ _ _ _ _ _ R ⟨0, hk'⟩ _ ?_
    rw [st_k4_t1_zero]
    exact h0

/-- The carried state at the end gives what is stored. -/
theorem out_of_held (x0 : Elt Ideal .f32) (x5 : Vec Ideal S128x1 .f32) (i : ℕ) (d : Fin 128) (st : State)
    (h : Held z1 z2 v b0 b1 q i 0 st) :
    k4_pay1 st.2.1 st.2.2.1 st.2.2.2.2.1 st.2.2.2.2.2 x0 x5 (ix2 q d)
      = finish x0
        (fun d => (((∑ u ∈ Finset.Ico 0 (256 * (i + 1)), v d u * Soft.weight z1 (Soft.near b0 b1 i) (256 * i + q) u)
          / ∑ u ∈ Finset.Ico 0 (256 * (i + 1)), Soft.weight z1 (Soft.near b0 b1 i) (256 * i + q) u : ℝ) : EReal))
        (fun d => (((∑ u ∈ Finset.Ico 0 (256 * (i + 1)), v d u * Soft.weight z2 (Soft.near b0 b1 i) (256 * i + q) u)
          / ∑ u ∈ Finset.Ico 0 (256 * (i + 1)), Soft.weight z2 (Soft.near b0 b1 i) (256 * i + q) u : ℝ) : EReal))
        (fun k => x5 (ix2 k 0)) d := by
  have hp : ∀ z b : ℕ → ℝ, 0 < ∑ u ∈ Finset.Ico 0 (256 * (i + 1)), Soft.weight z b (256 * i + q) u := fun z b =>
    Finset.sum_pos' (fun u _ => by rw [Soft.weight]; split_ifs; exacts [(Real.exp_pos _).le, le_rfl])
      ⟨0, by simp, by rw [Soft.weight, if_pos (Nat.zero_le _)]; exact Real.exp_pos _⟩
  rw [pay1_at]
  congr 1 <;> funext k
  · exact (h k).1.quot (hp _ _)
  · exact (h k).2.quot (hp _ _)

/-- The query's own tile of keys, of values and of the bias. -/
abbrev keys0 (i : grid4.Coords) (x2 : Vec Ideal S8192x128 .bf16) : Vec Ideal S256x128 .bf16 :=
  View.ld x2 (Rect.unit (s := S8192x128) (k4_off1 i) ![256, 128] (k4_off1_inb i))
abbrev vals0 (i : grid4.Coords) (x3 : Vec Ideal S32x128x256 .bf16) : Vec Ideal S1x128x256 .bf16 :=
  View.ld x3 (Rect.unit (s := S32x128x256) (k4_off2 i) ![1, 128, 256] (k4_off2_inb i))
abbrev bias0 (x4 : Vec Ideal S1x2x256x256 .f32) : Vec Ideal S1x1x256x256 .f32 :=
  View.ld x4 (Rect.unit (s := S1x2x256x256) ![0, 0, 0, 0] ![1, 1, 256, 256] inb_S1x2x256x256_S1x1x256x256_0_0_0_0)

/-- What is carried into the first loop: the query's own tile done. -/
def first (i : grid4.Coords) (x1 : Vec Ideal S1x128x256 .bf16) (x2 : Vec Ideal S8192x128 .bf16) (x3 : Vec Ideal S32x128x256 .bf16)
    (x4 : Vec Ideal S1x2x256x256 .f32) : State :=
  nextSt (biasT (k4_pay62 x1) (bias0 x4) (keys0 i x2)) (biasT (k4_pay63 x1) (bias0 x4) (keys0 i x2)) (vals0 i x3)
    (k4_pay64, k4_pay65, k4_pay66, k4_pay67, k4_pay68, k4_pay69)

/-- What is carried into the first loop, the query's own tile done. -/
theorem first_held (R : Reals x1 x2 x3 x4 q z1 z2 v b0 b1) : Held z1 z2 v b0 b1 q (i 2).val (i 2).val (first i x1 x2 x3 x4) := by
  have hi : (i 2).val < 32 := (i 2).isLt
  have ho1 : k4_off1 i = ![256 * (i 2).val, 0] := congrArg (fun n => ![n, 0]) (ofNat_self (i 2)).2
  have ho2 : k4_off2 i = ![(i 2).val, 0, 0] := congrArg (fun n => ![n, 0, 0]) (ofNat_self (i 2)).1
  have hS : ∀ x, biasT (k4_pay62 x1) (bias0 x4) (keys0 i x2) (ix2 x q)
      = ((z1 (256 * (i 2).val + x) : ℝ) : EReal) + if x.val ≤ q.val then ((b0 x : ℝ) : EReal) else ⊥ := fun x => by
    rw [biasT_at, scoreT_0B _ _ hi ho1, R.z1, ← R.b0]; exact congrArg _ (ld_bias0 _ _)
  have hS2 : ∀ x, biasT (k4_pay63 x1) (bias0 x4) (keys0 i x2) (ix2 x q)
      = ((z2 (256 * (i 2).val + x) : ℝ) : EReal) + if x.val ≤ q.val then ((b0 x : ℝ) : EReal) else ⊥ := fun x => by
    rw [biasT_at, scoreT_1B _ _ hi ho1, R.z2, ← R.b0]; exact congrArg _ (ld_bias0 _ _)
  have hm : (Named.named (F := Ideal) (φ := .f32) κ "mask" 0xF149F2CA#32 : Ideal .f32) = (⊥ : EReal) := rfl
  refine held_step (n := (i 2).val) (fun d => ?_) le_rfl _ _ _ (fun x => score_diag x (hS x)) (fun x => score_diag x (hS2 x))
    (fun d x => (ld_valsB (k4_off2 i) _ hi ho2 (k4_off2_inb i) d x).trans (R.v _ _)) ?_ ?_
  · rw [Finset.Ico_self, Finset.sum_empty, Finset.sum_empty, Finset.sum_empty, Finset.sum_empty]
    have hz : (FloatOps.ofBits FTy.f32 0#32 : Ideal .f32) = (0 : EReal) := Ideal.ofBits_zero _
    exact ⟨Or.inl ⟨hm, hz, hz, rfl, rfl⟩, Or.inl ⟨hm, hz, hz, rfl, rfl⟩⟩
  · rw [hS, if_pos (show ((0 : Fin 256) : ℕ) ≤ q from Nat.zero_le _), ← EReal.coe_add]; exact EReal.coe_ne_bot _
  · rw [hS2, if_pos (show ((0 : Fin 256) : ℕ) ≤ q from Nat.zero_le _), ← EReal.coe_add]; exact EReal.coe_ne_bot _

/-- **What a grid point stores**, at query `q`. -/
theorem diff_out (R : Reals x1 x2 x3 x4 q z1 z2 v b0 b1) (x0 : Vec Ideal S1x1 .f32) (x5 : Vec Ideal S128x1 .f32) (d : Fin 128) :
    out4_A_6 c i arg3 harg3 arg4 harg4 arg5 harg5 arg6 harg6 arg7 harg7 arg8 harg8 arg9 harg9 x0 x1 x2 x3 x4 x5 (ix2 q d)
      = finish (x0 (ix2 0 0))
        (fun d => (((∑ u ∈ Finset.Ico 0 (256 * ((i 2).val + 1)), v d u * Soft.weight z1 (Soft.near b0 b1 (i 2).val) (256 * (i 2).val + q) u)
          / ∑ u ∈ Finset.Ico 0 (256 * ((i 2).val + 1)), Soft.weight z1 (Soft.near b0 b1 (i 2).val) (256 * (i 2).val + q) u : ℝ) : EReal))
        (fun d => (((∑ u ∈ Finset.Ico 0 (256 * ((i 2).val + 1)), v d u * Soft.weight z2 (Soft.near b0 b1 (i 2).val) (256 * (i 2).val + q) u)
          / ∑ u ∈ Finset.Ico 0 (256 * ((i 2).val + 1)), Soft.weight z2 (Soft.near b0 b1 (i 2).val) (256 * (i 2).val + q) u : ℝ) : EReal))
        (fun k => x5 (ix2 k 0)) d := by
  unfold out4_A_6
  rw [View.read_writes_eq_canon _ _ _ (cover4_A_6 c i arg3 harg3 arg4 harg4 arg5 harg5 arg6 harg6 arg7 harg7 arg8 harg8 arg9 harg9 x0 x1 x2 x3 x4 x5)]
  unfold kernelRun4_A
  dsimp only
  rw [View.canon_unit_zero (S := S256x128) hz2]
  have hz3 : (![0, 0, 0] : Fin 3 → Nat) = fun _ => 0 := by funext a; fin_cases a <;> rfl
  have e0 : kernelRun4_A.sl.r c arg4 harg4 x1 = k4_pay62 x1 := by
    unfold kernelRun4_A.sl.r
    rw [View.readAt_eq_ld, harg4.read_unread, View.ld_unit_zero (S := S1x128x256) hz3]
  have e1 : kernelRun4_A.sl.r_1 c arg4 harg4 x1 = k4_pay63 x1 := by
    unfold kernelRun4_A.sl.r_1
    rw [View.readAt_eq_ld, harg4.read_unread, View.ld_unit_zero (S := S1x128x256) hz3]
  have e12 : kernelRun4_A.sl.r_12 c arg3 harg3 x0 = x0 (ix2 0 0) := by
    unfold kernelRun4_A.sl.r_12
    rw [View.readAt_eq_ld, harg3.read_unread, View.ld_unit_zero (S := S1x1) hz2]
    exact congrArg x0 (by ext a; fin_cases a <;> rfl)
  rw [View.readAt_eq_ld, harg8.read_unread, View.ld_unit_zero (S := S128x1) hz2, e12]
  unfold kernelRun4_A.sl.r_8 kernelRun4_A.sl.r_9 kernelRun4_A.sl.r_10 kernelRun4_A.sl.r_11
  rw [e0, e1]
  have e2 : kernelRun4_A.sl.r_2 (F := Ideal) c arg7 harg7 x4 = k4_pay70 (bias0 x4) := by
    unfold kernelRun4_A.sl.r_2
    rw [View.readAt_eq_ld, harg7.read_unread]
  have e3 : kernelRun4_A.sl.r_3 (F := Ideal) c i arg5 harg5 x2 = k4_pay71 (keys0 i x2) := by
    unfold kernelRun4_A.sl.r_3
    rw [View.readAt_eq_ld, harg5.read_unread]
  have e4 : kernelRun4_A.sl.r_4 (F := Ideal) c i arg6 harg6 x3 = k4_pay72 (vals0 i x3) := by
    unfold kernelRun4_A.sl.r_4
    rw [View.readAt_eq_ld, harg6.read_unread]
  have e5 : kernelRun4_A.sl.r_5 (F := Ideal) c i arg4 harg4 arg5 harg5 arg7 harg7 x1 x2 x4 = k4_pay74 x1 (bias0 x4) (keys0 i x2) := by
    unfold kernelRun4_A.sl.r_5
    simp only [View.readAt_eq_ld, harg4.read_unread, harg5.read_unread, harg7.read_unread, View.ld_unit_zero (S := S1x128x256) hz3]
  have e6 : kernelRun4_A.sl.r_6 (F := Ideal) c i arg4 harg4 arg5 harg5 arg7 harg7 x1 x2 x4 = k4_pay75 x1 (bias0 x4) (keys0 i x2) := by
    unfold kernelRun4_A.sl.r_6
    simp only [View.readAt_eq_ld, harg4.read_unread, harg5.read_unread, harg7.read_unread, View.ld_unit_zero (S := S1x128x256) hz3]
  have e7 : kernelRun4_A.sl.r_7 (F := Ideal) c i arg4 harg4 arg5 harg5 arg7 harg7 x1 x2 x4 = k4_pay76 x1 (bias0 x4) (keys0 i x2) := by
    unfold kernelRun4_A.sl.r_7
    simp only [View.readAt_eq_ld, harg4.read_unread, harg5.read_unread, harg7.read_unread, View.ld_unit_zero (S := S1x128x256) hz3]
  rw [e2, e3, e4, e5, e6, e7]
  have hinit : (k4_pay74 x1 (bias0 x4) (keys0 i x2), k4_pay78 k4_pay65 (k4_pay75 x1 (bias0 x4) (keys0 i x2)) (k4_pay76 x1 (bias0 x4) (keys0 i x2)),
      k4_pay79 k4_pay66 (k4_pay72 (vals0 i x3)) (k4_pay75 x1 (bias0 x4) (keys0 i x2)) (k4_pay76 x1 (bias0 x4) (keys0 i x2)),
      k4_pay81 (k4_pay63 x1) k4_pay67 (k4_pay70 (bias0 x4)) (k4_pay71 (keys0 i x2)),
      k4_pay84 (k4_pay63 x1) k4_pay67 k4_pay68 (k4_pay70 (bias0 x4)) (k4_pay71 (keys0 i x2)),
      k4_pay85 (k4_pay63 x1) k4_pay67 k4_pay69 (k4_pay70 (bias0 x4)) (k4_pay71 (keys0 i x2)) (k4_pay72 (vals0 i x3)))
      = first i x1 x2 x3 x4 := rfl
  rw [hinit]
  generalize k4_pay70 (bias0 x4) = r2
  generalize k4_pay71 (keys0 i x2) = r3
  generalize k4_pay72 (vals0 i x3) = r4
  generalize k4_pay74 x1 (bias0 x4) (keys0 i x2) = r5
  generalize k4_pay75 x1 (bias0 x4) (keys0 i x2) = r6
  generalize k4_pay76 x1 (bias0 x4) (keys0 i x2) = r7
  have hf := first_held i R
  generalize first i x1 x2 x3 x4 = S0 at hf ⊢
  have hT1 : Scf.trips (k4_t1_loop i).lb (k4_t1_loop i).ub (k4_t1_loop i).st = min (i 2).val 1 := (d_trips i).1
  have hT2 : Scf.trips (k4_t2_loop i).lb (k4_t2_loop i).ub (k4_t2_loop i).st = 0 := (d_trips i).2.1
  have hT3 : Scf.trips (k4_t3_loop i).lb (k4_t3_loop i).ub (k4_t3_loop i).st = (i 2).val - 1 := (d_trips i).2.2.1
  have hT4 : Scf.trips (k4_t4_loop i).lb (k4_t4_loop i).ub (k4_t4_loop i).st = 0 := (d_trips i).2.2.2
  rw [hT1, hT2, hT3, hT4]
  simp only [st_k4_t2_zero, st_k4_t4_zero, Prod.mk.eta]
  have hl := loop3_held c i arg3 harg3 arg4 harg4 arg5 harg5 arg6 harg6 arg7 harg7 arg8 harg8 arg9 harg9 (BitVec.ofNat 32 (i 2).val)
    k4_pay65 k4_pay66 k4_pay67 k4_pay68 k4_pay69 r2 r3 r4 r5 r6 r7 R _
    (loop1_held c i arg3 harg3 arg4 harg4 arg5 harg5 arg6 harg6 arg7 harg7 arg8 harg8 arg9 harg9 (BitVec.ofNat 32 (i 2).val)
      k4_pay65 k4_pay66 k4_pay67 k4_pay68 k4_pay69 r2 r3 r4 r5 r6 r7 R _ hf) _ le_rfl
  rw [Nat.sub_self] at hl
  exact out_of_held _ x5 _ d _ hl
end
end Cert.KernelIdeal.Value
end
-- ==== Proof.SbArray.lean ====
module
public import proofs.«01_k».proof.Proof.SbBlock
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem

/-! The whole result array of the stick-breaking attention kernel as a function of the three argument
arrays: every written block is a part of `Stick.attn`, and the blocks tile the array. -/

namespace Stick

/-- The score of key `s` against the query in row `T` of the flattened batch, for head `h`. -/
def scoreA (Q : (⟨3, ![64, 1024, 256]⟩ : Shape).Idx → EReal) (K : (⟨2, ![16384, 1024]⟩ : Shape).Idx → EReal)
    (T : Fin 16384) (h : Fin 16) (s : ℕ) : EReal :=
  if hs : s < 8192 then ∑ y : Fin 64, K (ix2 ⟨T / 8192 * 8192 + s, by omega⟩ ⟨h * 64 + y, by omega⟩)
    * Q (ix3 ⟨T / 256, by omega⟩ ⟨h * 64 + y, by omega⟩ ⟨T % 256, by omega⟩) else 0

/-- The value of key `s` in the batch of row `T`, in column `C`. -/
def valueA (V : (⟨3, ![64, 1024, 256]⟩ : Shape).Idx → EReal) (T : Fin 16384) (C : Fin 1024) (s : ℕ) : EReal :=
  if hs : s < 8192 then V (ix3 ⟨T / 8192 * 32 + s / 256, by omega⟩ C ⟨s % 256, by omega⟩) else 0

/-- Stick-breaking attention of the whole batch, row `T` and column `C`. -/
def attn (Q : (⟨3, ![64, 1024, 256]⟩ : Shape).Idx → EReal) (K : (⟨2, ![16384, 1024]⟩ : Shape).Idx → EReal)
    (V : (⟨3, ![64, 1024, 256]⟩ : Shape).Idx → EReal) (T : Fin 16384) (C : Fin 1024) : EReal :=
  stick (scoreA Q K T ⟨C / 64, by omega⟩) (valueA V T C) (T % 8192) 0

end Stick

namespace Cert.KernelIdeal.Value
open Cert.KernelIdeal Cert.KernelIdeal.Gen
open Idealize.ShloMosaic.Pipeline (Dat)
variable (V : (c : Dev nD) → (b : Ref sig .tc) → Buf (Elt Ideal) ((c : Thread nD τ).loc b))

/-- The block indices of the four windows in closed form. -/
theorem idx2_0 : ∀ t : Fin grid2.N, win2_0.index t = ![t.val / 256 * 32 + t.val % 32, t.val / 32 % 8, 0] := by decide +kernel
theorem idx2_1 : ∀ t : Fin grid2.N, win2_1.index t = ![t.val / 256, t.val / 32 % 8] := by decide +kernel
theorem idx2_2 : ∀ t : Fin grid2.N, win2_2.index t = ![t.val / 256, t.val / 32 % 8, 0] := by decide +kernel
theorem idx2_3 : ∀ t : Fin grid2.N, win2_3.index t = ![t.val / 256 * 32 + t.val % 32, t.val / 32 % 8] := by decide +kernel
theorem coord2 : ∀ t : Fin grid2.N, (grid2.coords t 2).val = t.val % 32 := by decide +kernel

/-- The result array. -/
def result2 (c : Dev nD) : Vec Ideal S16384x1024 .f32 := fun j =>
  Stick.attn (V c (Pipeline.arrRef spec2 0)) (V c (Pipeline.arrRef spec2 1)) (V c (Pipeline.arrRef spec2 2))
    (j 0) (j 1)

theorem N512 (t : Fin cfg2.N) : t.val < 512 := t.isLt

/-- The score inside a block is the score of the whole arrays. -/
theorem score_eq (c : Dev nD) (t : Fin cfg2.N) (o : ℕ) (ho : o + 64 ≤ 128) (q : Fin 256) (T : Fin 16384) (h : Fin 16)
    (hT : T.val = (t.val / 256 * 32 + t.val % 32) * 256 + q.val) (hh : h.val * 64 = t.val / 32 % 8 * 128 + o) :
    zB o ho (iblk2 V c 0 t) (iblk2 V c 1 t) q
      = Stick.scoreA (V c (Pipeline.arrRef spec2 0)) (V c (Pipeline.arrRef spec2 1)) T h := by
  have ht := N512 t
  funext s
  unfold zB Stick.scoreA
  by_cases hs : s < 8192
  · rw [dif_pos hs, dif_pos hs]
    refine Finset.sum_congr rfl fun y _ => congr_arg₂ (· * ·) ?_ ?_
    · blk_ext [iblk2, idx2_1]
    · blk_ext [iblk2, idx2_0]
  · rw [dif_neg hs, dif_neg hs]

/-- The value inside a block is the value of the whole array. -/
theorem value_eq (c : Dev nD) (t : Fin cfg2.N) (e : Fin 128) (T : Fin 16384) (C : Fin 1024)
    (hT : T.val / 8192 = t.val / 256) (hC : C.val = t.val / 32 % 8 * 128 + e.val) :
    vB (iblk2 V c 2 t) e = Stick.valueA (V c (Pipeline.arrRef spec2 2)) T C := by
  have ht := N512 t
  funext s
  unfold vB Stick.valueA
  by_cases hs : s < 8192
  · rw [dif_pos hs, dif_pos hs]
    blk_ext [iblk2, idx2_2]
  · rw [dif_neg hs, dif_neg hs]

/-- The output array ends holding the attention of the whole batch. -/
theorem arr2_o (c : Dev nD) : (dat2 V c).arrAt 3 cfg2.N = result2 V c := by
  refine (dat2 V c).arrAt_eq_of_covers 3 _ (by decide +kernel) fun t hf y => ?_
  blk_simp
  rw [after2_3, outsAt2, out_A]
  have e0 : ((((cfg2.win 3).blk t).view.emb y) 0 : ℕ) = (t.val / 256 * 32 + t.val % 32) * 256 + (y 0 : ℕ) := by
    blk_simp [idx2_3]
  have e1 : ((((cfg2.win 3).blk t).view.emb y) 1 : ℕ) = (t.val / 32 % 8) * 128 + (y 1 : ℕ) := by
    blk_simp [idx2_3]
  have ht := N512 t
  have h0 : (y 0 : ℕ) < 256 := (y 0).isLt
  have h1 : (y 1 : ℕ) < 128 := (y 1).isLt
  have hc : (grid2.coords t 2).val = t.val % 32 := coord2 t
  generalize hT : (((cfg2.win 3).blk t).view.emb y) 0 = T at e0
  generalize hC : (((cfg2.win 3).blk t).view.emb y) 1 = C at e1
  have hr : result2 V c (((cfg2.win 3).blk t).view.emb y) = Stick.attn (V c (Pipeline.arrRef spec2 0))
      (V c (Pipeline.arrRef spec2 1)) (V c (Pipeline.arrRef spec2 2)) T C := by
    rw [← hT, ← hC]; rfl
  refine Eq.trans ?_ hr.symm
  have hv := value_eq V c t (y 1) T C (by omega) e1
  have hn : 256 * (t.val % 32) + (y 0 : ℕ) = T % 8192 := by omega
  unfold outB Stick.attn
  rw [hc, hv, hn]
  by_cases hy : (y 1 : ℕ) < 64
  · rw [if_pos hy, score_eq V c t 0 _ (y 0) T ⟨C / 64, by omega⟩ e0 (by simp only; omega)]
  · rw [if_neg hy, score_eq V c t 64 _ (y 0) T ⟨C / 64, by omega⟩ e0 (by simp only; omega)]
end Cert.KernelIdeal.Value
end
-- ==== Proof.DiffArray.lean ====
module
public import proofs.«01_k».proof.Proof.DiffBlock
public import proofs.«01_k».proof.Proof.SbArray
@[expose] public section
set_option maxRecDepth 16384
set_option maxHeartbeats 2000000
noncomputable section
open Idealize.ShloMosaic Idealize.ShloMosaic.TcCoe Idealize.SL.Sem

/-! The whole result array of the differential attention kernel as a function of its argument arrays. -/

namespace Soft

/-- The mean of the values `v` over the keys up to query `t`, weighted by the softmax of the scores `z` and the bias `b`. -/
def avg (z b v : ℕ → ℝ) (t : ℕ) : ℝ :=
  (∑ u : Fin 8192, v u * weight z b t u) / ∑ u : Fin 8192, weight z b t u

/-- The keys after the query's block have no weight. -/
theorem sum_block (f : ℕ → ℝ) (z b : ℕ → ℝ) (t N : ℕ) (ht : t < N) (hN : N ≤ 8192) :
    ∑ u ∈ Finset.Ico 0 N, f u * weight z b t u = ∑ u : Fin 8192, f u * weight z b t u := by
  rw [← Finset.sum_range (fun u => f u * weight z b t u), Nat.Ico_zero_eq_range]
  refine Finset.sum_subset (Finset.range_mono hN) fun u _ hu => ?_
  rw [Finset.mem_range] at hu
  rw [weight, if_neg (by omega), mul_zero]

theorem avg_block (z b v : ℕ → ℝ) (t N : ℕ) (ht : t < N) (hN : N ≤ 8192) :
    (∑ u ∈ Finset.Ico 0 N, v u * weight z b t u) / ∑ u ∈ Finset.Ico 0 N, weight z b t u = avg z b v t := by
  have h1 := sum_block (fun _ => 1) z b t N ht hN
  simp only [one_mul] at h1
  rw [avg, sum_block v z b t N ht hN, h1]

/-- Scores and biases that differ by one constant on the keys up to the query give the same mean. -/
theorem avg_congr (z b z' b' v v' : ℕ → ℝ) (t : ℕ) (a : ℝ) (h : ∀ u ≤ t, z' u + b' u = z u + b u + a)
    (hv : ∀ u ≤ t, v' u = v u) : avg z' b' v' t = avg z b v t := by
  have hw : ∀ u, weight z' b' t u = weight z b t u * Real.exp a := fun u => by
    rw [weight, weight]
    split_ifs with hu
    · rw [h u hu, Real.exp_add]
    · rw [zero_mul]
  have hvw : ∀ u, v' u * weight z' b' t u = v u * weight z b t u * Real.exp a := fun u => by
    rw [hw]
    by_cases hu : u ≤ t
    · rw [hv u hu, mul_assoc]
    · rw [weight, if_neg hu]; simp
  rw [avg, Finset.sum_congr rfl fun (u : Fin 8192) _ => hvw u.val, Finset.sum_congr rfl fun (u : Fin 8192) _ => hw u.val,
    ← Finset.sum_mul, ← Finset.sum_mul]
  exact mul_div_mul_right _ _ (Real.exp_pos _).ne'

end Soft

namespace Cert.KernelIdeal.Value
open Cert.KernelIdeal Cert.KernelIdeal.Gen
open Idealize.ShloMosaic.Pipeline (Dat)
variable (V : (c : Dev nD) → (b : Ref sig .tc) → Buf (Elt Ideal) ((c : Thread nD τ).loc b))

theorem idx4_0 : ∀ t : Fin grid4.N, win4_0.index t = ![0, 0] := by decide +kernel
theorem idx4_1 : ∀ t : Fin grid4.N, win4_1.index t = ![t.val / 256 * 32 + t.val % 32, t.val / 32 % 8, 0] := by decide +kernel
theorem idx4_2 : ∀ t : Fin grid4.N, win4_2.index t = ![t.val / 256, t.val / 32 % 8] := by decide +kernel
theorem idx4_3 : ∀ t : Fin grid4.N, win4_3.index t = ![t.val / 256, t.val / 32 % 8, 0] := by decide +kernel
theorem idx4_4 : ∀ t : Fin grid4.N, win4_4.index t = ![t.val / 32 % 8, 0, 0, 0] := by decide +kernel
theorem idx4_5 : ∀ t : Fin grid4.N, win4_5.index t = ![0, 0] := by decide +kernel
theorem idx4_6 : ∀ t : Fin grid4.N, win4_6.index t = ![t.val / 256 * 32 + t.val % 32, t.val / 32 % 8] := by decide +kernel
theorem coord4_2 : ∀ t : Fin grid4.N, (grid4.coords t 2).val = t.val % 32 := by decide +kernel
theorem N512' (t : Fin cfg4.N) : t.val < 512 := t.isLt

/-- The differential attention of the whole batch, row `T` and column `C`. -/
def diffA (L : (⟨2, ![1, 1]⟩ : Shape).Idx → EReal) (Q : (⟨3, ![64, 1024, 256]⟩ : Shape).Idx → EReal)
    (K : (⟨2, ![16384, 1024]⟩ : Shape).Idx → EReal) (W : (⟨3, ![64, 1024, 256]⟩ : Shape).Idx → EReal)
    (B : (⟨4, ![8, 2, 256, 256]⟩ : Shape).Idx → EReal) (G : (⟨2, ![128, 1]⟩ : Shape).Idx → EReal)
    (T : Fin 16384) (h : Fin 8) (e : Fin 128) : EReal :=
  finish (L (ix2 0 0))
    (fun d => ((Soft.avg (fun s => (Stick.scoreA Q K T ⟨2 * h, by omega⟩ s).toReal)
      (Soft.near (fun x => (B (ix4 h 0 ⟨x % 256, by omega⟩ ⟨T % 256, by omega⟩)).toReal)
        (fun x => (B (ix4 h 1 ⟨x % 256, by omega⟩ ⟨T % 256, by omega⟩)).toReal) (T % 8192 / 256))
      (fun s => (Stick.valueA W T ⟨h * 128 + d, by omega⟩ s).toReal) (T % 8192) : ℝ) : EReal))
    (fun d => ((Soft.avg (fun s => (Stick.scoreA Q K T ⟨2 * h + 1, by omega⟩ s).toReal)
      (Soft.near (fun x => (B (ix4 h 0 ⟨x % 256, by omega⟩ ⟨T % 256, by omega⟩)).toReal)
        (fun x => (B (ix4 h 1 ⟨x % 256, by omega⟩ ⟨T % 256, by omega⟩)).toReal) (T % 8192 / 256))
      (fun s => (Stick.valueA W T ⟨h * 128 + d, by omega⟩ s).toReal) (T % 8192) : ℝ) : EReal))
    (fun k => G (ix2 k 0)) e

/-- The score inside a block is the score of the whole arrays. -/
theorem score4_eq (c : Dev nD) (t : Fin cfg4.N) (o : ℕ) (ho : o + 64 ≤ 128) (q : Fin 256) (T : Fin 16384) (h : Fin 16)
    (hT : T.val = (t.val / 256 * 32 + t.val % 32) * 256 + q.val) (hh : h.val * 64 = t.val / 32 % 8 * 128 + o) (s : ℕ) :
    zB o ho (iblk4 V c 1 t) (iblk4 V c 2 t) q s
      = Stick.scoreA (V c (Pipeline.arrRef spec4 1)) (V c (Pipeline.arrRef spec4 2)) T h s := by
  have ht := N512' t
  unfold zB Stick.scoreA
  by_cases hs : s < 8192
  · rw [dif_pos hs, dif_pos hs]
    refine Finset.sum_congr rfl fun y _ => congr_arg₂ (· * ·) ?_ ?_
    · blk_ext [iblk4, idx4_2]
    · blk_ext [iblk4, idx4_1]
  · rw [dif_neg hs, dif_neg hs]

/-- The value inside a block is the value of the whole array. -/
theorem value4_eq (c : Dev nD) (t : Fin cfg4.N) (e : Fin 128) (T : Fin 16384) (C : Fin 1024)
    (hT : T.val / 8192 = t.val / 256) (hC : C.val = t.val / 32 % 8 * 128 + e.val) (s : ℕ) :
    vB (iblk4 V c 3 t) e s = Stick.valueA (V c (Pipeline.arrRef spec4 3)) T C s := by
  have ht := N512' t
  unfold vB Stick.valueA
  by_cases hs : s < 8192
  · rw [dif_pos hs, dif_pos hs]
    blk_ext [iblk4, idx4_3]
  · rw [dif_neg hs, dif_neg hs]

/-- The bias inside a block is the bias of the whole array. -/
theorem bias4_eq (c : Dev nD) (t : Fin cfg4.N) (d : Fin 2) (x q : Fin 256) (h : Fin 8) (hh : h.val = t.val / 32 % 8) :
    (iblk4 V c 4 t : Vec Ideal S1x2x256x256 .f32) (ix4 0 d x q) = V c (Pipeline.arrRef spec4 4) (ix4 h d x q) := by
  have ht := N512' t
  blk_ext [iblk4, idx4_4]

/-- The result array. -/
def result4 (c : Dev nD) : Vec Ideal S16384x1024 .f32 := fun j =>
  diffA (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5)) (j 0)
    ⟨(j 1).val / 128, by have : (j 1).val < 1024 := (j 1).isLt; omega⟩ ⟨(j 1).val % 128, by omega⟩

theorem coe_real {a : EReal} (h : ∃ r : ℝ, a = (r : EReal)) : a = ((a.toReal : ℝ) : EReal) := by
  obtain ⟨r, rfl⟩ := h
  rfl

/-- The hypotheses of the block's theorem from those on the whole arrays. -/
theorem reals4 (c : Dev nD)
    (hz : ∀ T h s, ∃ r : ℝ, Stick.scoreA (V c (Pipeline.arrRef spec4 1)) (V c (Pipeline.arrRef spec4 2)) T h s = (r : EReal))
    (hv : ∀ T C s, ∃ r : ℝ, Stick.valueA (V c (Pipeline.arrRef spec4 3)) T C s = (r : EReal))
    (hb0 : ∀ (h : Fin 8) (x q : Fin 256), ∃ r : ℝ, (V c (Pipeline.arrRef spec4 4) (ix4 h 0 x q) : EReal) = if x.val ≤ q.val then (r : EReal) else ⊥)
    (hb1 : ∀ (h : Fin 8) (x q : Fin 256), ∃ r : ℝ, (V c (Pipeline.arrRef spec4 4) (ix4 h 1 x q) : EReal) = (r : EReal))
    (t : Fin cfg4.N) (q : Fin 256) (T : Fin 16384) (h : Fin 8)
    (e0 : T.val = (t.val / 256 * 32 + t.val % 32) * 256 + q.val) (hh : h.val = t.val / 32 % 8) :
    Reals (iblk4 V c 1 t) (iblk4 V c 2 t) (iblk4 V c 3 t) (iblk4 V c 4 t) q
      (fun s => (Stick.scoreA (V c (Pipeline.arrRef spec4 1)) (V c (Pipeline.arrRef spec4 2)) T ⟨2 * h, by omega⟩ s).toReal)
      (fun s => (Stick.scoreA (V c (Pipeline.arrRef spec4 1)) (V c (Pipeline.arrRef spec4 2)) T ⟨2 * h + 1, by omega⟩ s).toReal)
      (fun d s => (Stick.valueA (V c (Pipeline.arrRef spec4 3)) T ⟨h * 128 + d, by omega⟩ s).toReal)
      (fun x => (V c (Pipeline.arrRef spec4 4) (ix4 h 0 ⟨x % 256, by omega⟩ ⟨T % 256, by omega⟩) : EReal).toReal)
      (fun x => (V c (Pipeline.arrRef spec4 4) (ix4 h 1 ⟨x % 256, by omega⟩ ⟨T % 256, by omega⟩) : EReal).toReal) := by
  have ht := N512' t
  have hqe : (⟨T % 256, by omega⟩ : Fin 256) = q := Fin.ext (by dsimp only; omega)
  rw [hqe]
  have hx : ∀ x : Fin 256, (⟨x.val % 256, by omega⟩ : Fin 256) = x := fun x => Fin.ext (Nat.mod_eq_of_lt x.isLt)
  refine ⟨fun s => ?_, fun s => ?_, fun d s => ?_, fun x => ?_, fun x => ?_⟩
  · exact (score4_eq V c t 0 _ q T ⟨2 * h, by omega⟩ e0 (by simp only; omega) s).trans (coe_real (hz _ _ _))
  · exact (score4_eq V c t 64 _ q T ⟨2 * h + 1, by omega⟩ e0 (by simp only; omega) s).trans (coe_real (hz _ _ _))
  · exact (value4_eq V c t d T ⟨h * 128 + d, by omega⟩ (by omega) (by simp only; omega) s).trans (coe_real (hv _ _ _))
  · refine (bias4_eq V c t 0 x q h hh).trans ?_
    rw [hx]
    obtain ⟨r, hr⟩ := hb0 h x q
    split_ifs with hle
    · rw [if_pos hle] at hr; exact coe_real ⟨r, hr⟩
    · rw [if_neg hle] at hr; exact hr
  · refine (bias4_eq V c t 1 x q h hh).trans ?_
    rw [hx]
    exact coe_real (hb1 _ _ _)

/-- What a grid point leaves in the output block. -/
theorem outs4_eq (c : Dev nD)
    (hz : ∀ T h s, ∃ r : ℝ, Stick.scoreA (V c (Pipeline.arrRef spec4 1)) (V c (Pipeline.arrRef spec4 2)) T h s = (r : EReal))
    (hv : ∀ T C s, ∃ r : ℝ, Stick.valueA (V c (Pipeline.arrRef spec4 3)) T C s = (r : EReal))
    (hb0 : ∀ (h : Fin 8) (x q : Fin 256), ∃ r : ℝ, (V c (Pipeline.arrRef spec4 4) (ix4 h 0 x q) : EReal) = if x.val ≤ q.val then (r : EReal) else ⊥)
    (hb1 : ∀ (h : Fin 8) (x q : Fin 256), ∃ r : ℝ, (V c (Pipeline.arrRef spec4 4) (ix4 h 1 x q) : EReal) = (r : EReal))
    (t : Fin cfg4.N) (q : Fin 256) (e : Fin 128) (T : Fin 16384) (h : Fin 8)
    (e0 : T.val = (t.val / 256 * 32 + t.val % 32) * 256 + q.val) (hh : h.val = t.val / 32 % 8) :
    outsAt4 V c t (ix2 q e) = diffA (V c (Pipeline.arrRef spec4 0)) (V c (Pipeline.arrRef spec4 1))
      (V c (Pipeline.arrRef spec4 2)) (V c (Pipeline.arrRef spec4 3)) (V c (Pipeline.arrRef spec4 4))
      (V c (Pipeline.arrRef spec4 5)) T h e := by
  have ht := N512' t
  have hn : 256 * (t.val % 32) + q.val = T % 8192 := by omega
  have hi : T % 8192 / 256 = t.val % 32 := by omega
  have hc : (grid4.coords t 2).val = t.val % 32 := coord4_2 t
  have hL : (iblk4 V c 0 t : Vec Ideal S1x1 .f32) (ix2 0 0) = V c (Pipeline.arrRef spec4 0) (ix2 0 0) := by
    blk_ext [iblk4, idx4_0]
  have hG : ∀ k : Fin 128, (iblk4 V c 5 t : Vec Ideal S128x1 .f32) (ix2 k 0) = V c (Pipeline.arrRef spec4 5) (ix2 k 0) := fun k => by
    blk_ext [iblk4, idx4_5]
  refine (diff_out c (grid4.coords t) (ms4_0 t) (hs4_0 t) (ms4_1 t) (hs4_1 t) (ms4_2 t) (hs4_2 t) (ms4_3 t) (hs4_3 t)
    (ms4_4 t) (hs4_4 t) (ms4_5 t) (hs4_5 t) (ms4_6 t) (hs4_6 t) (reals4 V c hz hv hb0 hb1 t q T h e0 hh)
    (iblk4 V c 0 t : Vec Ideal S1x1 .f32) (iblk4 V c 5 t : Vec Ideal S128x1 .f32) e).trans ?_
  rw [hc, hn]
  simp only [Soft.avg_block _ _ _ (T.val % 8192) (256 * (t.val % 32 + 1)) (by omega) (by omega)]
  unfold diffA
  rw [hi]
  exact congr_arg₂ (fun l g => finish l _ _ g e) hL (funext hG)

/-- The output array ends holding the attention of the whole batch, for real scores, values and biases. -/
theorem arr4_o (c : Dev nD)
    (hz : ∀ T h s, ∃ r : ℝ, Stick.scoreA (V c (Pipeline.arrRef spec4 1)) (V c (Pipeline.arrRef spec4 2)) T h s = (r : EReal))
    (hv : ∀ T C s, ∃ r : ℝ, Stick.valueA (V c (Pipeline.arrRef spec4 3)) T C s = (r : EReal))
    (hb0 : ∀ (h : Fin 8) (x q : Fin 256), ∃ r : ℝ, (V c (Pipeline.arrRef spec4 4) (ix4 h 0 x q) : EReal) = if x.val ≤ q.val then (r : EReal) else ⊥)
    (hb1 : ∀ (h : Fin 8) (x q : Fin 256), ∃ r : ℝ, (V c (Pipeline.arrRef spec4 4) (ix4 h 1 x q) : EReal) = (r : EReal)) :
    (dat4 V c).arrAt 6 cfg4.N = result4 V c := by
  refine (dat4 V c).arrAt_eq_of_covers 6 _ (by decide +kernel) fun t hf y => ?_
  blk_simp
  rw [after4_6]
  have e0 : ((((cfg4.win 6).blk t).view.emb y) 0 : ℕ) = (t.val / 256 * 32 + t.val % 32) * 256 + (y 0 : ℕ) := by
    blk_simp [idx4_6]
  have e1 : ((((cfg4.win 6).blk t).view.emb y) 1 : ℕ) = (t.val / 32 % 8) * 128 + (y 1 : ℕ) := by
    blk_simp [idx4_6]
  have ht := N512' t
  have h1 : (y 1 : ℕ) < 128 := (y 1).isLt
  generalize hT : (((cfg4.win 6).blk t).view.emb y) 0 = T at e0
  generalize hC : (((cfg4.win 6).blk t).view.emb y) 1 = C at e1
  have hr : result4 V c (((cfg4.win 6).blk t).view.emb y) = diffA (V c (Pipeline.arrRef spec4 0)) (V c (Pipeline.arrRef spec4 1))
      (V c (Pipeline.arrRef spec4 2)) (V c (Pipeline.arrRef spec4 3)) (V c (Pipeline.arrRef spec4 4))
      (V c (Pipeline.arrRef spec4 5)) T ⟨C.val / 128, by have : C.val < 1024 := C.isLt; omega⟩ ⟨C.val % 128, by omega⟩ := by
    rw [← hT, ← hC]; rfl
  refine Eq.trans ?_ hr.symm
  have he : (⟨C.val % 128, by omega⟩ : Fin 128) = y 1 := Fin.ext (by dsimp only; omega)
  have hy : y = ix2 (y 0) (y 1) := by funext a; fin_cases a <;> rfl
  rw [he]
  exact (congrArg (outsAt4 V c t) hy).trans (outs4_eq V c hz hv hb0 hb1 t (y 0) (y 1) T _ e0 (by dsimp only; omega))
end Cert.KernelIdeal.Value
end
-- ==== Proof.Model.lean ====
module
public import proofs.«01_k».proof.Proof.DiffArray
@[expose] public section
noncomputable section
open Idealize.ShloMosaic Idealize.ShloMosaic.TcCoe Idealize.SL.Sem

/-! The two layers written as functions of their arguments, row by row: a row is one of the 16384 tokens. -/

namespace Layer

/-- The arguments, each read by token or channel numbers. -/
structure Args where
  /-- the hidden rows -/
  x : Fin 16384 → Fin 1024 → EReal
  /-- the per-layer embeddings -/
  p : Fin 2 → Fin 16384 → Fin 256 → EReal
  /-- the gains before each attention -/
  gA : Fin 2 → Fin 1024 → EReal
  /-- the first layer's projections -/
  wA : Fin 1024 → Fin 4096 → EReal
  /-- the first layer's output projection -/
  oA : Fin 1024 → Fin 1024 → EReal
  /-- the gain before keys and values -/
  gKV : Fin 1024 → EReal
  /-- the shared key and value projections -/
  wKV : Fin 1024 → Fin 2048 → EReal
  /-- the second layer's query and gate projections -/
  wQ : Fin 1024 → Fin 2048 → EReal
  /-- the vectors of the difference's weight -/
  lp : Fin 4 → Fin 64 → EReal
  /-- the gain after the differential attention -/
  sub : Fin 128 → EReal
  /-- the second layer's output projection -/
  oB : Fin 1024 → Fin 1024 → EReal
  /-- the bias table -/
  tab : Fin 32 → Fin 8 → EReal
  /-- the gains before the embedding gates -/
  gP : Fin 2 → Fin 1024 → EReal
  /-- the embedding projections -/
  wP : Fin 2 → Fin 256 → Fin 1024 → EReal
  /-- the embedding gates -/
  wG : Fin 2 → Fin 1024 → Fin 1024 → EReal
  /-- the last gain -/
  gF : Fin 1024 → EReal

/-- A row divided by its root mean square, times a gain. -/
def rms (x g : Fin 1024 → EReal) (c : Fin 1024) : EReal :=
  x c * Ideal.rsqrt (Ideal.div (∑ k, x k * x k) (Ideal.ofBits .f32 0x44800000#32) + Ideal.ofBits .f32 0x358637BD#32) * g c

/-- A row plus the projection of a row gated by a swish. -/
def gated (x o g : Fin 1024 → EReal) (w : Fin 1024 → Fin 1024 → EReal) (c : Fin 1024) : EReal :=
  x c + ∑ k, o k * (g k * Ideal.logistic (g k)) * w k c

/-- A row plus its gated embedding. -/
def ple (h : Fin 1024 → EReal) (p : Fin 256 → EReal) (g : Fin 1024 → EReal) (wg : Fin 1024 → Fin 1024 → EReal)
    (wp : Fin 256 → Fin 1024 → EReal) (c : Fin 1024) : EReal :=
  h c + Ideal.logistic (∑ k, rms h g k * wg k c) * ∑ k, p k * wp k c

/-- A projection of a normalised row. -/
def projOf {n : ℕ} (x g : Fin 1024 → EReal) (w : Fin 1024 → Fin n → EReal) (c : Fin n) : EReal := ∑ k, rms x g k * w k c

/-- The scale of the scores. -/
def scale : EReal := Ideal.ofBits .f32 0x3E000000#32

variable (A : Args)

/-- The first layer's queries, keys, values and gates of a token. -/
def proj (T : Fin 16384) : Fin 4096 → EReal := projOf (A.x T) (A.gA 0) A.wA

/-- The score of key `s` for token `T` in a head of the first layer. -/
def zA (T : Fin 16384) (h : Fin 16) (s : ℕ) : EReal :=
  if hs : s < 8192 then ∑ y : Fin 64, proj A ⟨T / 8192 * 8192 + s, by omega⟩ ⟨1024 + (h * 64 + y), by omega⟩
    * (proj A T ⟨h * 64 + y, by omega⟩ * scale) else 0

/-- The value of key `s` for token `T` in a column of the first layer. -/
def vA (T : Fin 16384) (C : Fin 1024) (s : ℕ) : EReal :=
  if hs : s < 8192 then proj A ⟨T / 8192 * 8192 + s, by omega⟩ ⟨2048 + C, by omega⟩ else 0

/-- The stick-breaking attention. -/
def oA (T : Fin 16384) (C : Fin 1024) : EReal := Stick.stick (zA A T ⟨C / 64, by omega⟩) (vA A T C) (T % 8192) 0

/-- The hidden row after the first layer's attention. -/
def hA (T : Fin 16384) : Fin 1024 → EReal :=
  gated (A.x T) (oA A T) (fun c => proj A T ⟨3072 + c, by omega⟩) A.oA

/-- The hidden row after the first layer. -/
def h1 (T : Fin 16384) : Fin 1024 → EReal := ple (hA A T) (A.p 0 T) (A.gP 0) (A.wG 0) (A.wP 0)

/-- The shared keys and values of a token. -/
def kv (T : Fin 16384) : Fin 2048 → EReal := projOf (h1 A T) A.gKV A.wKV

/-- The second layer's queries and gates of a token. -/
def qg (T : Fin 16384) : Fin 2048 → EReal := projOf (h1 A T) (A.gA 1) A.wQ

/-- The score of key `s` for token `T` in map `m` of a head of the second layer. -/
def zB (m : Fin 2) (T : Fin 16384) (h : Fin 8) (s : ℕ) : EReal :=
  if hs : s < 8192 then ∑ y : Fin 64, kv A ⟨T / 8192 * 8192 + s, by omega⟩ ⟨m * 512 + (h * 64 + y), by omega⟩
    * (qg A T ⟨m * 512 + (h * 64 + y), by omega⟩ * scale) else 0

/-- The value of key `s` for token `T` in a column of the second layer. -/
def vB (T : Fin 16384) (C : Fin 1024) (s : ℕ) : EReal :=
  if hs : s < 8192 then kv A ⟨T / 8192 * 8192 + s, by omega⟩ ⟨1024 + C, by omega⟩ else 0

/-- The bias bucket of a distance, in 32-bit words. -/
def bucketW (d : BitVec 32) : BitVec 32 :=
  Scalar.select (IntOp.cmpi .slt (IntOp.maxsi d 0#32) 16#32) (IntOp.maxsi d 0#32)
    (IntOp.minsi (IntOp.addi 16#32 (FloatOps.fptosi (F := Ideal) (φ := .f32) 32
      (Ideal.div (Ideal.log (Ideal.div (FloatOps.sitofp (F := Ideal) .f32 (IntOp.maxsi (IntOp.maxsi d 0#32) 1#32))
        (Ideal.ofBits .f32 0x41800000#32))) (Ideal.ofBits .f32 0x40051592#32) * Ideal.ofBits .f32 0x41800000#32))) 31#32)

/-- The bucket of a distance. -/
def bucket (n : ℕ) : Fin 32 := ⟨(bucketW (BitVec.ofNat 32 n)).toNat % 32, by omega⟩

/-- The bias of key `s` for query position `t` in a head. -/
def bias (h : Fin 8) (t s : ℕ) : ℝ := (A.tab (bucket (t - s)) h).toReal

/-- The weight of the second map. -/
def lam : EReal := Ideal.exp (∑ y, A.lp 0 y * A.lp 1 y) - Ideal.exp (∑ y, A.lp 2 y * A.lp 3 y) + Ideal.ofBits .f32 0x3EB60549#32

/-- A map's mean of the values of a column. -/
def mean (m : Fin 2) (T : Fin 16384) (h : Fin 8) (d : Fin 128) : EReal :=
  ((Soft.avg (fun s => (zB A m T h s).toReal) (bias A h (T % 8192)) (fun s => (vB A T ⟨h * 128 + d, by omega⟩ s).toReal)
    (T % 8192) : ℝ) : EReal)

/-- The differential attention. -/
def oB (T : Fin 16384) (h : Fin 8) (e : Fin 128) : EReal :=
  Cert.KernelIdeal.Value.finish (lam A) (mean A 0 T h) (mean A 1 T h) A.sub e

/-- The hidden row after the second layer's attention. -/
def hB (T : Fin 16384) : Fin 1024 → EReal :=
  gated (h1 A T) (fun c => oB A T ⟨c / 128, by omega⟩ ⟨c % 128, by omega⟩) (fun c => qg A T ⟨1024 + c, by omega⟩) A.oB

/-- The result row. -/
def out (T : Fin 16384) : Fin 1024 → EReal :=
  rms (ple (hB A T) (A.p 1 T) (A.gP 1) (A.wG 1) (A.wP 1)) A.gF

end Layer
end
-- ==== Proof.Host.lean ====
module
public import proofs.«01_k».proof.Proof.Gen.KernelIdeal.Launch
public import proofs.«01_k».proof.Proof.Model
public import Idealize.ShloMosaic.Lib.Claim
@[expose] public section
set_option maxRecDepth 16384
noncomputable section
open Idealize.ShloMosaic Idealize.ShloMosaic.TcCoe Idealize.SL.Sem

/-! The arrays that the host operations around the calls make of the arguments. -/

namespace Cert.KernelIdeal.Value
open Cert.KernelIdeal Cert.KernelIdeal.Gen Layer

section First
variable (W : Valuation τ sig (Elt Ideal))

/-- The valuation after the first host operations. -/
abbrev H0 : Valuation τ sig (Elt Ideal) := StableHlo.after (hostOps0 (F := Ideal)) W

/-- The hidden rows. -/
theorem host_v0 (T : Fin 16384) (k : Fin 1024) : (H0 W (Proc.devRef .tc main_v0) : Vec Ideal S16384x1024 .f32) (ix2 T k)
    = (W (Proc.devRef .tc main_arg0) : Vec Ideal S2x8192x1024 .f32) (ix3 ⟨T / 8192, by omega⟩ ⟨T % 8192, by omega⟩ k) := by
  after_results
  pointwise []

theorem host_v8_k (k c : Fin 1024) : (H0 W (Proc.devRef .tc main_v8) : Vec Ideal S1024x2048 .bf16) (ix2 k ⟨c, by omega⟩)
    = (W (Proc.devRef .tc main_arg3) : Vec Ideal S1x1024x4096 .f32) (ix3 0 k ⟨1024 + c, by omega⟩) := by
  after_results
  pointwise []

theorem host_v8_g (k c : Fin 1024) : (H0 W (Proc.devRef .tc main_v8) : Vec Ideal S1024x2048 .bf16) (ix2 k ⟨1024 + c, by omega⟩)
    = (W (Proc.devRef .tc main_arg3) : Vec Ideal S1x1024x4096 .f32) (ix3 0 k ⟨3072 + c, by omega⟩) := by
  after_results
  pointwise []

theorem host_v11_q (k c : Fin 1024) : (H0 W (Proc.devRef .tc main_v11) : Vec Ideal S2048x1024 .bf16) (ix2 ⟨c, by omega⟩ k)
    = (W (Proc.devRef .tc main_arg3) : Vec Ideal S1x1024x4096 .f32) (ix3 0 k ⟨c, by omega⟩) := by
  after_results
  pointwise []

theorem host_v11_v (k c : Fin 1024) : (H0 W (Proc.devRef .tc main_v11) : Vec Ideal S2048x1024 .bf16) (ix2 ⟨1024 + c, by omega⟩ k)
    = (W (Proc.devRef .tc main_arg3) : Vec Ideal S1x1024x4096 .f32) (ix3 0 k ⟨2048 + c, by omega⟩) := by
  after_results
  pointwise []

theorem host_v25 (k : Fin 1024) (h : Fin 8) (b : Fin 2) (y : Fin 64) :
    (H0 W (Proc.devRef .tc main_v25) : Vec Ideal S1024x1024 .bf16) (ix2 k ⟨(2 * h + b) * 64 + y, by omega⟩)
    = (W (Proc.devRef .tc main_arg6) : Vec Ideal S1024x2048 .f32) (ix2 k ⟨b * 512 + (h * 64 + y), by omega⟩) := by
  after_results
  obtain rfl | rfl : b = 0 ∨ b = 1 := by omega
  · pointwise []
    rw [dif_pos (by omega)]
    exact congrArg (fun z => (W (Proc.devRef .tc main_arg6) : Vec Ideal S1024x2048 .f32) (ix2 k z)) (Fin.ext (by dsimp only; omega))
  · pointwise []
    rw [dif_neg (by omega)]
    exact congrArg (fun z => (W (Proc.devRef .tc main_arg6) : Vec Ideal S1024x2048 .f32) (ix2 k z)) (Fin.ext (by dsimp only; omega))

theorem host_v33 (k : Fin 1024) (h : Fin 8) (b : Fin 2) (y : Fin 64) :
    (H0 W (Proc.devRef .tc main_v33) : Vec Ideal S1024x1024 .bf16) (ix2 ⟨(2 * h + b) * 64 + y, by omega⟩ k)
    = (W (Proc.devRef .tc main_arg7) : Vec Ideal S1x1024x2048 .f32) (ix3 0 k ⟨b * 512 + (h * 64 + y), by omega⟩) := by
  after_results
  obtain rfl | rfl : b = 0 ∨ b = 1 := by omega
  · pointwise []
    rw [dif_pos (by omega)]
    exact congrArg (fun z => (W (Proc.devRef .tc main_arg7) : Vec Ideal S1x1024x2048 .f32) (ix3 0 k z)) (Fin.ext (by dsimp only; omega))
  · pointwise []
    rw [dif_neg (by omega)]
    exact congrArg (fun z => (W (Proc.devRef .tc main_arg7) : Vec Ideal S1x1024x2048 .f32) (ix3 0 k z)) (Fin.ext (by dsimp only; omega))

theorem host_v35 (k c : Fin 1024) : (H0 W (Proc.devRef .tc main_v35) : Vec Ideal S1024x1024 .bf16) (ix2 c k)
    = (W (Proc.devRef .tc main_arg6) : Vec Ideal S1024x2048 .f32) (ix2 k ⟨1024 + c, by omega⟩) := by
  after_results
  pointwise []

theorem host_v18 (k c : Fin 1024) : (H0 W (Proc.devRef .tc main_v18) : Vec Ideal S1024x1024 .f32) (ix2 k c)
    = (W (Proc.devRef .tc main_arg7) : Vec Ideal S1x1024x2048 .f32) (ix3 0 k ⟨1024 + c, by omega⟩) := by
  after_results
  pointwise []

theorem host_v36 (a : Fin 4) (y : Fin 64) : (H0 W (Proc.devRef .tc main_v36) : Vec Ideal S4x64 .f32) (ix2 a y)
    = (W (Proc.devRef .tc main_arg8) : Vec Ideal S1x4x64 .f32) (ix3 0 a y) := by
  after_results
  pointwise []

theorem host_v1 (b : Fin 2) (T : Fin 16384) (k : Fin 256) : (H0 W (Proc.devRef .tc main_v1) : Vec Ideal S2x16384x256 .f32) (ix3 b T k)
    = (W (Proc.devRef .tc main_arg1) : Vec Ideal S2x2x8192x256 .f32) (ix4 b ⟨T / 8192, by omega⟩ ⟨T % 8192, by omega⟩ k) := by
  after_results
  pointwise []
end First

section Later
variable (W : Valuation τ sig (Elt Ideal))

/-- The valuations after the later host operations. -/
abbrev H1 : Valuation τ sig (Elt Ideal) := StableHlo.after (hostOps1 (F := Ideal)) W
abbrev H3 : Valuation τ sig (Elt Ideal) := StableHlo.after (hostOps3 (F := Ideal)) W
abbrev H4 : Valuation τ sig (Elt Ideal) := StableHlo.after (hostOps4 (F := Ideal)) W
abbrev H5 : Valuation τ sig (Elt Ideal) := StableHlo.after (hostOps5 (F := Ideal)) W
abbrev H6 : Valuation τ sig (Elt Ideal) := StableHlo.after (hostOps6 (F := Ideal)) W

theorem host_v40 (k : Fin 1024) : (H1 W (Proc.devRef .tc main_v40) : Vec Ideal S1x1024 .f32) (ix2 0 k)
    = (W (Proc.devRef .tc main_arg2) : Vec Ideal S2x1024 .f32) (ix2 0 k) := by
  after_results
  pointwise []

theorem host_v44 (T : Fin 16384) (k : Fin 256) : (H3 W (Proc.devRef .tc main_v44) : Vec Ideal S16384x256 .f32) (ix2 T k)
    = (W (Proc.devRef .tc main_v1) : Vec Ideal S2x16384x256 .f32) (ix3 0 T k) := by
  after_results
  pointwise []

theorem host_v47 (k : Fin 1024) : (H3 W (Proc.devRef .tc main_v47) : Vec Ideal S1x1024 .f32) (ix2 0 k)
    = (W (Proc.devRef .tc main_arg12) : Vec Ideal S2x1024 .f32) (ix2 0 k) := by
  after_results
  pointwise []

theorem host_v53 (k c : Fin 1024) : (H3 W (Proc.devRef .tc main_v53) : Vec Ideal S1024x1024 .bf16) (ix2 k c)
    = (W (Proc.devRef .tc main_arg4) : Vec Ideal S1x1024x1024 .f32) (ix3 0 k c) := by
  after_results
  pointwise []

theorem host_v56 (k c : Fin 1024) : (H3 W (Proc.devRef .tc main_v56) : Vec Ideal S1024x1024 .bf16) (ix2 k c)
    = (W (Proc.devRef .tc main_arg14) : Vec Ideal S2x1024x1024 .f32) (ix3 0 k c) := by
  after_results
  pointwise []

theorem host_v59 (k : Fin 256) (c : Fin 1024) : (H3 W (Proc.devRef .tc main_v59) : Vec Ideal S256x1024 .bf16) (ix2 k c)
    = (W (Proc.devRef .tc main_arg13) : Vec Ideal S2x256x1024 .f32) (ix3 0 k c) := by
  after_results
  pointwise []

theorem host_v67 (T : Fin 16384) (k : Fin 256) : (H5 W (Proc.devRef .tc main_v67) : Vec Ideal S16384x256 .f32) (ix2 T k)
    = (W (Proc.devRef .tc main_v1) : Vec Ideal S2x16384x256 .f32) (ix3 1 T k) := by
  after_results
  pointwise []

theorem host_v70 (k : Fin 1024) : (H5 W (Proc.devRef .tc main_v70) : Vec Ideal S1x1024 .f32) (ix2 0 k)
    = (W (Proc.devRef .tc main_arg12) : Vec Ideal S2x1024 .f32) (ix2 1 k) := by
  after_results
  pointwise []

theorem host_v73 (k c : Fin 1024) : (H5 W (Proc.devRef .tc main_v73) : Vec Ideal S1024x1024 .bf16) (ix2 k c)
    = (W (Proc.devRef .tc main_arg10) : Vec Ideal S1x1024x1024 .f32) (ix3 0 k c) := by
  after_results
  pointwise []

theorem host_v76 (k c : Fin 1024) : (H5 W (Proc.devRef .tc main_v76) : Vec Ideal S1024x1024 .bf16) (ix2 k c)
    = (W (Proc.devRef .tc main_arg14) : Vec Ideal S2x1024x1024 .f32) (ix3 1 k c) := by
  after_results
  pointwise []

theorem host_v79 (k : Fin 256) (c : Fin 1024) : (H5 W (Proc.devRef .tc main_v79) : Vec Ideal S256x1024 .bf16) (ix2 k c)
    = (W (Proc.devRef .tc main_arg13) : Vec Ideal S2x256x1024 .f32) (ix3 1 k c) := by
  after_results
  pointwise []

theorem host_v48 (k : Fin 1024) : (H3 W (Proc.devRef .tc main_v48) : Vec Ideal S1x1024 .f32) (ix2 0 k)
    = (W (Proc.devRef .tc main_arg5) : Vec Ideal S1024 .f32) (ix1 k) := by
  after_results
  pointwise []

theorem host_v51 (k : Fin 1024) : (H3 W (Proc.devRef .tc main_v51) : Vec Ideal S1x1024 .f32) (ix2 0 k)
    = (W (Proc.devRef .tc main_arg2) : Vec Ideal S2x1024 .f32) (ix2 1 k) := by
  after_results
  pointwise []

theorem host_v60 (k c : Fin 1024) : (H3 W (Proc.devRef .tc main_v60) : Vec Ideal S1024x1024 .bf16) (ix2 k c)
    = (W (Proc.devRef .tc main_v18) : Vec Ideal S1024x1024 .f32) (ix2 k c) := by
  after_results
  pointwise []

theorem host_v71 (k : Fin 1024) : (H5 W (Proc.devRef .tc main_v71) : Vec Ideal S1x1024 .f32) (ix2 0 k)
    = (W (Proc.devRef .tc main_arg15) : Vec Ideal S1024 .f32) (ix1 k) := by
  after_results
  pointwise []

theorem host_v62  : (H4 W (Proc.devRef .tc main_v62) : Vec Ideal S1x1 .f32) (ix2 0 0)
    = (W (Proc.devRef .tc main_v37_1) : Vec Ideal S8x128 .f32) (ix2 0 0) := by
  after_results
  pointwise []

theorem host_v64 (k : Fin 128) : (H4 W (Proc.devRef .tc main_v64) : Vec Ideal S128x1 .f32) (ix2 k 0)
    = (W (Proc.devRef .tc main_arg9) : Vec Ideal S1x128 .f32) (ix2 0 k) := by
  after_results
  pointwise []

theorem host_v81 (b : Fin 2) (t : Fin 8192) (c : Fin 1024) : (H6 W (Proc.devRef .tc main_v81) : Vec Ideal S2x8192x1024 .f32) (ix3 b t c)
    = (W (Proc.devRef .tc main_v80) : Vec Ideal S16384x1024 .f32) (ix2 ⟨b * 8192 + t, by omega⟩ c) := by
  after_results
  pointwise []

end Later
end Cert.KernelIdeal.Value
end
-- ==== Proof.Keep.lean ====
module
public import proofs.«01_k».proof.Proof.LaunchI
public import proofs.«01_k».proof.Proof.Host
@[expose] public section
set_option maxRecDepth 16384
noncomputable section
open Idealize.ShloMosaic Idealize.ShloMosaic.TcCoe Idealize.SL.Sem

/-! Which arrays reach a later call unchanged. -/

namespace Cert.KernelIdeal.Value
open Cert.KernelIdeal Cert.KernelIdeal.Gen
variable (m : (ℓ : Loc nD τ sig) → Buf (Elt Ideal) ℓ) (ρ : Dev nD → PrngReg) (c : Dev nD)

theorem keep3_v0 : W3 m ρ c (Proc.devRef .tc main_v0) = W1 m ρ c (Proc.devRef .tc main_v0) :=
  ((W3_of m ρ c main_v0 (by decide)).trans (W2_of m ρ c main_v0 (by decide)))
theorem keep3_v8 : W3 m ρ c (Proc.devRef .tc main_v8) = W1 m ρ c (Proc.devRef .tc main_v8) :=
  ((W3_of m ρ c main_v8 (by decide)).trans (W2_of m ρ c main_v8 (by decide)))
theorem keep3_v11 : W3 m ρ c (Proc.devRef .tc main_v11) = W1 m ρ c (Proc.devRef .tc main_v11) :=
  ((W3_of m ρ c main_v11 (by decide)).trans (W2_of m ρ c main_v11 (by decide)))
theorem keep6_v0 : W6 m ρ c (Proc.devRef .tc main_v0) = W1 m ρ c (Proc.devRef .tc main_v0) :=
  (((((W6_of m ρ c main_v0 (by decide)).trans (W5_of m ρ c main_v0 (by decide))).trans (W4_of m ρ c main_v0 (by decide))).trans (W3_of m ρ c main_v0 (by decide))).trans (W2_of m ρ c main_v0 (by decide)))
theorem keep6_v25 : W6 m ρ c (Proc.devRef .tc main_v25) = W1 m ρ c (Proc.devRef .tc main_v25) :=
  (((((W6_of m ρ c main_v25 (by decide)).trans (W5_of m ρ c main_v25 (by decide))).trans (W4_of m ρ c main_v25 (by decide))).trans (W3_of m ρ c main_v25 (by decide))).trans (W2_of m ρ c main_v25 (by decide)))
theorem keep6_v35 : W6 m ρ c (Proc.devRef .tc main_v35) = W1 m ρ c (Proc.devRef .tc main_v35) :=
  (((((W6_of m ρ c main_v35 (by decide)).trans (W5_of m ρ c main_v35 (by decide))).trans (W4_of m ρ c main_v35 (by decide))).trans (W3_of m ρ c main_v35 (by decide))).trans (W2_of m ρ c main_v35 (by decide)))
theorem keep6_v33 : W6 m ρ c (Proc.devRef .tc main_v33) = W1 m ρ c (Proc.devRef .tc main_v33) :=
  (((((W6_of m ρ c main_v33 (by decide)).trans (W5_of m ρ c main_v33 (by decide))).trans (W4_of m ρ c main_v33 (by decide))).trans (W3_of m ρ c main_v33 (by decide))).trans (W2_of m ρ c main_v33 (by decide)))
theorem keep5_v18 : W5 m ρ c (Proc.devRef .tc main_v18) = W1 m ρ c (Proc.devRef .tc main_v18) :=
  ((((W5_of m ρ c main_v18 (by decide)).trans (W4_of m ρ c main_v18 (by decide))).trans (W3_of m ρ c main_v18 (by decide))).trans (W2_of m ρ c main_v18 (by decide)))
theorem keep5_v1 : W5 m ρ c (Proc.devRef .tc main_v1) = W1 m ρ c (Proc.devRef .tc main_v1) :=
  ((((W5_of m ρ c main_v1 (by decide)).trans (W4_of m ρ c main_v1 (by decide))).trans (W3_of m ρ c main_v1 (by decide))).trans (W2_of m ρ c main_v1 (by decide)))
theorem keep9_v1 : W9 m ρ c (Proc.devRef .tc main_v1) = W1 m ρ c (Proc.devRef .tc main_v1) :=
  ((((((((W9_of m ρ c main_v1 (by decide)).trans (W8_of m ρ c main_v1 (by decide))).trans (W7_of m ρ c main_v1 (by decide))).trans (W6_of m ρ c main_v1 (by decide))).trans (W5_of m ρ c main_v1 (by decide))).trans (W4_of m ρ c main_v1 (by decide))).trans (W3_of m ρ c main_v1 (by decide))).trans (W2_of m ρ c main_v1 (by decide)))
theorem keep8_v37_0 : W8 m ρ c (Proc.devRef .tc main_v37_0) = W2 m ρ c (Proc.devRef .tc main_v37_0) :=
  ((((((W8_of m ρ c main_v37_0 (by decide)).trans (W7_of m ρ c main_v37_0 (by decide))).trans (W6_of m ρ c main_v37_0 (by decide))).trans (W5_of m ρ c main_v37_0 (by decide))).trans (W4_of m ρ c main_v37_0 (by decide))).trans (W3_of m ρ c main_v37_0 (by decide)))
theorem keep7_v37_1 : W7 m ρ c (Proc.devRef .tc main_v37_1) = W2 m ρ c (Proc.devRef .tc main_v37_1) :=
  (((((W7_of m ρ c main_v37_1 (by decide)).trans (W6_of m ρ c main_v37_1 (by decide))).trans (W5_of m ρ c main_v37_1 (by decide))).trans (W4_of m ρ c main_v37_1 (by decide))).trans (W3_of m ρ c main_v37_1 (by decide)))
theorem keep6_v41_1 : W6 m ρ c (Proc.devRef .tc main_v41_1) = W4 m ρ c (Proc.devRef .tc main_v41_1) :=
  ((W6_of m ρ c main_v41_1 (by decide)).trans (W5_of m ρ c main_v41_1 (by decide)))
theorem keep6_v42 : W6 m ρ c (Proc.devRef .tc main_v42) = W5 m ρ c (Proc.devRef .tc main_v42) :=
  (W6_of m ρ c main_v42 (by decide))
theorem keep10_v61_0 : W10 m ρ c (Proc.devRef .tc main_v61_0) = W7 m ρ c (Proc.devRef .tc main_v61_0) :=
  (((W10_of m ρ c main_v61_0 (by decide)).trans (W9_of m ρ c main_v61_0 (by decide))).trans (W8_of m ρ c main_v61_0 (by decide)))
theorem keep8_v61_1 : W8 m ρ c (Proc.devRef .tc main_v61_1) = W7 m ρ c (Proc.devRef .tc main_v61_1) :=
  (W8_of m ρ c main_v61_1 (by decide))
theorem keep8_v61_2 : W8 m ρ c (Proc.devRef .tc main_v61_2) = W7 m ρ c (Proc.devRef .tc main_v61_2) :=
  (W8_of m ρ c main_v61_2 (by decide))
theorem keep8_v61_3 : W8 m ρ c (Proc.devRef .tc main_v61_3) = W7 m ρ c (Proc.devRef .tc main_v61_3) :=
  (W8_of m ρ c main_v61_3 (by decide))
theorem keep10_v61_4 : W10 m ρ c (Proc.devRef .tc main_v61_4) = W7 m ρ c (Proc.devRef .tc main_v61_4) :=
  (((W10_of m ρ c main_v61_4 (by decide)).trans (W9_of m ρ c main_v61_4 (by decide))).trans (W8_of m ρ c main_v61_4 (by decide)))
theorem keep10_v65 : W10 m ρ c (Proc.devRef .tc main_v65) = W9 m ρ c (Proc.devRef .tc main_v65) :=
  (W10_of m ρ c main_v65 (by decide))
end Cert.KernelIdeal.Value
end
-- ==== Proof.Bucket.lean ====
module
public import proofs.«01_k».proof.Proof.Model
public import Idealize.ShloMosaic.Lib.WordCmp
@[expose] public section
noncomputable section
open Idealize.ShloMosaic Idealize.ShloMosaic.TcCoe Idealize.SL.Sem

/-! The bias bucket of a distance below 8192: it is below 32, and from 257 on it is 31. -/

namespace Layer

/-- The logarithm's divisor. -/
theorem lit_log : Ideal.ofBits .f32 0x40051592#32 = ((8721810 / 4194304 : ℝ) : EReal) := by
  simp [Ideal.ofBits, Ideal.ieee]
  rw [← EReal.coe_mul]
  norm_num
theorem lit_16 : Ideal.ofBits .f32 0x41800000#32 = ((16 : ℝ) : EReal) := by
  simp [Ideal.ofBits, Ideal.ieee]
  rw [← EReal.coe_mul]
  norm_num

theorem maxsi_zero (n : ℕ) (hn : n < 2 ^ 31) : IntOp.maxsi (BitVec.ofNat 32 n) 0#32 = BitVec.ofNat 32 n := by
  unfold IntOp.maxsi
  have h : (BitVec.ofNat 32 n).toInt = n := WordCmp.toInt_ofNat_of_lt (by omega)
  have h0 : (0#32).slt (BitVec.ofNat 32 n) = decide (0 < n) := by
    simp [BitVec.slt, h]
  rw [h0]
  by_cases g : 0 < n
  · simp [g]
  · simp [show n = 0 by omega]

theorem maxsi_one (n : ℕ) (h1 : 1 ≤ n) (hn : n < 2 ^ 31) : IntOp.maxsi (BitVec.ofNat 32 n) 1#32 = BitVec.ofNat 32 n := by
  unfold IntOp.maxsi
  have h : (BitVec.ofNat 32 n).toInt = n := WordCmp.toInt_ofNat_of_lt (by omega)
  have h0 : (1#32).slt (BitVec.ofNat 32 n) = decide (1 < n) := by
    simp [BitVec.slt, h]
  rw [h0]
  by_cases g : 1 < n
  · simp [g]
  · simp [show n = 1 by omega]

theorem minsi_31 (n : ℕ) (hn : n < 2 ^ 31) : IntOp.minsi (BitVec.ofNat 32 n) 31#32 = BitVec.ofNat 32 (min n 31) := by
  unfold IntOp.minsi
  have h : (BitVec.ofNat 32 n).toInt = n := WordCmp.toInt_ofNat_of_lt (by omega)
  simp only [BitVec.slt, h]
  split
  · next g =>
    simp at g
    rw [min_eq_left (by omega)]
  · next g =>
    simp at g
    rw [min_eq_right (by omega)]

/-- Past 16 the bucket is 16 and the part of the logarithm, at most 31. -/
theorem bucketW_log (n : ℕ) (h16 : 16 ≤ n) (hn : n < 8192) :
    ∃ e : ℕ, bucketW (BitVec.ofNat 32 n) = BitVec.ofNat 32 (min (16 + e) 31) ∧ (257 ≤ n → 15 ≤ e) := by
  set y : ℝ := Real.log ((n : ℝ) / 16) / (8721810 / 4194304) * 16 with hy
  have hnr : (16 : ℝ) ≤ n := by exact_mod_cast h16
  have hnr2 : (n : ℝ) < 8192 := by exact_mod_cast hn
  have hl0 : 0 ≤ Real.log ((n : ℝ) / 16) := Real.log_nonneg (by linarith)
  have hl1 : Real.log ((n : ℝ) / 16) ≤ n / 16 - 1 := Real.log_le_sub_one_of_pos (by linarith)
  have hy0 : 0 ≤ y := by positivity
  have hy1 : y < 5000 := by
    rw [hy]
    linarith
  have hf0 : 0 ≤ ⌊y⌋ := Int.floor_nonneg.mpr hy0
  have hf1 : ⌊y⌋ < 5000 := Int.floor_lt.mpr (by exact_mod_cast hy1)
  obtain ⟨e, he⟩ := Int.eq_ofNat_of_zero_le hf0
  have hlog : Ideal.div (Ideal.log (Ideal.div (FloatOps.sitofp (F := Ideal) .f32 (BitVec.ofNat 32 n))
        (Ideal.ofBits .f32 0x41800000#32))) (Ideal.ofBits .f32 0x40051592#32) * Ideal.ofBits .f32 0x41800000#32 = ((y : ℝ) : EReal) := by
    rw [lit_16, lit_log]
    have h : (BitVec.ofNat 32 n).toInt = n := WordCmp.toInt_ofNat_of_lt (by omega)
    have hs : FloatOps.sitofp (F := Ideal) .f32 (BitVec.ofNat 32 n) = (((n : ℝ)) : EReal) := by
      show (((BitVec.ofNat 32 n).toInt : ℝ) : EReal) = _
      rw [h]
      norm_num
    have hd : Ideal.div ((n : ℝ) : EReal) ((16 : ℝ) : EReal) = (((n : ℝ) / 16 : ℝ) : EReal) := by
      rw [Ideal.div_coe (by norm_num), ← EReal.coe_mul, mul_one_div]
    rw [hs, hd]
    have hp : ¬ ((n : ℝ) / 16 ≤ 0) := by
      have : (0 : ℝ) < n / 16 := by linarith
      linarith
    rw [show Ideal.log (((n : ℝ) / 16 : ℝ) : EReal) = ((Real.log ((n : ℝ) / 16) : ℝ) : EReal) by
      show (if (n : ℝ) / 16 ≤ 0 then (⊥ : EReal) else (Real.log ((n : ℝ) / 16) : EReal)) = _
      rw [if_neg hp]]
    rw [Ideal.div_coe (by norm_num), ← EReal.coe_mul, ← EReal.coe_mul, hy, mul_one_div]
  have hz : FloatOps.fptosi (F := Ideal) (φ := .f32) 32 ((y : ℝ) : EReal) = BitVec.ofNat 32 e := by
    show BitVec.ofInt 32 (max _ (min _ (if 0 ≤ y then ⌊y⌋ else ⌈y⌉))) = _
    rw [if_pos hy0, he, ← BitVec.ofInt_natCast]
    congr 1
    have : (e : ℤ) < 5000 := he ▸ hf1
    norm_num
    omega
  refine ⟨e, ?_, fun h => ?_⟩
  · unfold bucketW
    rw [maxsi_zero n (by omega), maxsi_one n (by omega) (by omega), hlog, hz]
    have hs : IntOp.cmpi .slt (BitVec.ofNat 32 n) 16#32 = 0#1 := by
      rw [WordCmp.cmpi_slt_ofNat (by omega) (by omega), decide_eq_false (by omega)]
      rfl
    rw [hs]
    have ha : IntOp.addi 16#32 (BitVec.ofNat 32 e) = BitVec.ofNat 32 (16 + e) := by
      unfold IntOp.addi
      rw [BitVec.ofNat_add]
    rw [ha, minsi_31 _ (by have : (e : ℤ) < 5000 := he ▸ hf1; omega)]
    rfl
  · have hn3 : (257 : ℝ) ≤ n := by exact_mod_cast h
    have h4 : Real.log 16 ≤ Real.log ((n : ℝ) / 16) := Real.log_le_log (by norm_num) (by linarith)
    have h5 : Real.log 16 = 4 * Real.log 2 := by
      rw [show (16 : ℝ) = 2 ^ 4 by norm_num, Real.log_pow]; norm_num
    have h6 : (1 : ℝ) - 2⁻¹ ≤ Real.log 2 := Real.one_sub_inv_le_log_of_pos (by norm_num)
    have : (15 : ℤ) ≤ ⌊y⌋ := Int.le_floor.mpr (by rw [hy]; push_cast; linarith)
    omega

/-- A bucket is below 32. -/
theorem bucketW_lt (n : ℕ) (hn : n < 8192) : (bucketW (BitVec.ofNat 32 n)).toNat < 32 := by
  rcases Nat.lt_or_ge n 16 with h | h
  · unfold bucketW
    rw [maxsi_zero n (by omega)]
    have hs : IntOp.cmpi .slt (BitVec.ofNat 32 n) 16#32 = 1#1 := by
      rw [WordCmp.cmpi_slt_ofNat (by omega) (by omega), decide_eq_true (by omega)]
      rfl
    rw [hs]
    show (BitVec.ofNat 32 n).toNat < 32
    rw [WordCmp.toNat_ofNat_of_lt (by omega)]
    omega
  · obtain ⟨e, he, -⟩ := bucketW_log n h hn
    rw [he, WordCmp.toNat_ofNat_of_lt (by omega)]
    omega

theorem bucketW_far (n : ℕ) (h : 257 ≤ n) (hn : n < 8192) : bucketW (BitVec.ofNat 32 n) = 31#32 := by
  obtain ⟨e, he, h2⟩ := bucketW_log n (by omega) hn
  rw [he, min_eq_right (by have := h2 h; omega)]

/-- The word of a bucket. -/
theorem bucketW_eq (n : ℕ) (hn : n < 8192) : bucketW (BitVec.ofNat 32 n) = BitVec.ofNat 32 (bucket n).val := by
  have h := bucketW_lt n hn
  apply BitVec.eq_of_toNat_eq
  rw [WordCmp.toNat_ofNat_of_lt (by have := (bucket n).isLt; omega)]
  unfold bucket
  simp only
  omega

theorem bucket_far (n : ℕ) (h : 257 ≤ n) (hn : n < 8192) : bucket n = 31 := by
  apply Fin.ext
  show (bucketW (BitVec.ofNat 32 n)).toNat % 32 = 31
  rw [bucketW_far n h hn]
  rfl
end Layer
end
-- ==== Proof.Args.lean ====
module
public import proofs.«01_k».proof.Proof.Bucket
@[expose] public section
noncomputable section
open Idealize.ShloMosaic Idealize.ShloMosaic.TcCoe Idealize.SL.Sem

/-! The layer's arguments read off the sixteen argument arrays, and the kernel's near biases against the reference's. -/

namespace Layer

/-- The layer's arguments, from the arrays. Tokens are counted through the batch. -/
def mkArgs (a0 : (⟨3, ![2, 8192, 1024]⟩ : Shape).Idx → EReal) (a1 : (⟨4, ![2, 2, 8192, 256]⟩ : Shape).Idx → EReal)
    (a2 : (⟨2, ![2, 1024]⟩ : Shape).Idx → EReal) (a3 : (⟨3, ![1, 1024, 4096]⟩ : Shape).Idx → EReal)
    (a4 : (⟨3, ![1, 1024, 1024]⟩ : Shape).Idx → EReal) (a5 : (⟨1, ![1024]⟩ : Shape).Idx → EReal)
    (a6 : (⟨2, ![1024, 2048]⟩ : Shape).Idx → EReal) (a7 : (⟨3, ![1, 1024, 2048]⟩ : Shape).Idx → EReal)
    (a8 : (⟨3, ![1, 4, 64]⟩ : Shape).Idx → EReal) (a9 : (⟨2, ![1, 128]⟩ : Shape).Idx → EReal)
    (a10 : (⟨3, ![1, 1024, 1024]⟩ : Shape).Idx → EReal) (a11 : (⟨2, ![32, 8]⟩ : Shape).Idx → EReal)
    (a12 : (⟨2, ![2, 1024]⟩ : Shape).Idx → EReal) (a13 : (⟨3, ![2, 256, 1024]⟩ : Shape).Idx → EReal)
    (a14 : (⟨3, ![2, 1024, 1024]⟩ : Shape).Idx → EReal) (a15 : (⟨1, ![1024]⟩ : Shape).Idx → EReal) : Args where
  x T k := a0 (ix3 ⟨T / 8192, by omega⟩ ⟨T % 8192, by omega⟩ k)
  p b T k := a1 (ix4 b ⟨T / 8192, by omega⟩ ⟨T % 8192, by omega⟩ k)
  gA b k := a2 (ix2 b k)
  wA k c := a3 (ix3 0 k c)
  oA k c := a4 (ix3 0 k c)
  gKV k := a5 (ix1 k)
  wKV k c := a6 (ix2 k c)
  wQ k c := a7 (ix3 0 k c)
  lp a y := a8 (ix3 0 a y)
  sub k := a9 (ix2 0 k)
  oB k c := a10 (ix3 0 k c)
  tab n h := a11 (ix2 n h)
  gP b k := a12 (ix2 b k)
  wP b k c := a13 (ix3 b k c)
  wG b k c := a14 (ix3 b k c)
  gF k := a15 (ix1 k)

/-- A table's near biases: the entry less the farthest one. Within the near blocks this is the bias up to the farthest
entry, and past them the bias is the farthest entry. -/
theorem near_bias (X : Fin 32 → ℝ) (z v : ℕ → ℝ) (t : ℕ) (ht : t < 8192) :
    Soft.avg z (Soft.near (fun x => if x % 256 ≤ t % 256 then X (bucket (t % 256 - x % 256)) - X 31 else 0)
        (fun x => X (bucket (t % 256 + 256 - x % 256)) - X 31) (t / 256)) v t
      = Soft.avg z (fun s => X (bucket (t - s))) v t := by
  refine Soft.avg_congr _ _ _ _ _ _ _ (-(X 31)) ?_ ?_
  · intro u hu
    have h0 : t / 256 * 256 + t % 256 = t := by omega
    have h1 : u / 256 * 256 + u % 256 = u := by omega
    unfold Soft.near
    have hm : u % 256 % 256 = u % 256 := by omega
    simp only [hm]
    by_cases c0 : u / 256 = t / 256
    · rw [if_pos c0, if_pos (by omega), show t % 256 - u % 256 = t - u by omega]
      ring
    · rw [if_neg c0]
      by_cases c1 : u / 256 + 1 = t / 256
      · rw [if_pos c1, show t % 256 + 256 - u % 256 = t - u by omega]
        ring
      · rw [if_neg c1, bucket_far (t - u) (by omega) (by omega)]
        ring
  · exact fun u _ => rfl
end Layer
end
-- ==== Proof.ProjArray.lean ====
module
public import proofs.«01_k».proof.Proof.Model
public import proofs.«01_k».proof.Proof.Gen.KernelIdeal.Frame.Region1
public import Idealize.ShloMosaic.Lib.Pipeline.ValueKit
@[expose] public section
set_option maxRecDepth 16384
noncomputable section
open Idealize.ShloMosaic Idealize.ShloMosaic.TcCoe Idealize.SL.Sem

/-! The four result arrays of the first projection as functions of its argument arrays. -/

namespace Cert.KernelIdeal.Value
open Cert.KernelIdeal Cert.KernelIdeal.Gen Layer
open Idealize.ShloMosaic.Pipeline (Dat)

theorem zero2 : (![0, 0] : Fin 2 → ℕ) = fun _ => 0 := by funext a; fin_cases a <;> rfl
theorem zero3 : (![0, 0, 0] : Fin 3 → ℕ) = fun _ => 0 := by funext a; fin_cases a <;> rfl

/-- The normalised row. -/
theorem k1_pay6_eq (v0 : Vec Ideal S512x1024 .f32) (v7 : Vec Ideal S1x1024 .f32) (r : Fin 512) (q : Fin 1024) :
    k1_pay6 v0 v7 (ix2 r q) = rms (fun k => v0 (ix2 r k)) (fun k => v7 (ix2 0 k)) q := by
  unfold rms
  pointwise [k1_pay6]

/-- Two stores into the halves of the leading dimension, read at an element. -/
theorem canon_pair {e : EltTy} (P Q : Vec Ideal S1x1024x256 e) (a : Fin 2) (q : Fin 1024) (b : Fin 256) :
    View.canon (Val := Elt Ideal) [⟨r1_6, P⟩, ⟨r1_5, Q⟩] (ix3 a q b) = if a = 0 then Q (ix3 0 q b) else P (ix3 0 q b) := by
  fin_cases a
  · have h0 : (ix3 0 q b : S2x1024x256.Idx) = r1_5.emb (ix3 0 q b : S1x1024x256.Idx) := by
      funext x
      fin_cases x
      · exact Fin.ext (show 0 = 0 + 1 * 0 by omega)
      · exact Fin.ext (show q.val = 0 + 1 * q.val by omega)
      · exact Fin.ext (show b.val = 0 + 1 * b.val by omega)
    refine (View.canon_cons_of_not_mem _ _ ?_).trans ?_
    · rw [Rect.mem_set_unit]
      intro h
      have h1 : (1 : ℕ) ≤ 0 := (h 0).1
      omega
    · refine (congrArg _ h0).trans ((View.canon_cons_emb r1_5 Q [] _).trans ?_)
      rfl
  · have h0 : (ix3 1 q b : S2x1024x256.Idx) = r1_6.emb (ix3 0 q b : S1x1024x256.Idx) := by
      funext x
      fin_cases x
      · exact Fin.ext (show 1 = 1 + 1 * 0 by omega)
      · exact Fin.ext (show q.val = 0 + 1 * q.val by omega)
      · exact Fin.ext (show b.val = 0 + 1 * b.val by omega)
    refine (congrArg _ h0).trans ((View.canon_cons_emb r1_6 P _ _).trans ?_)
    rfl

variable (x0 : Vec Ideal S512x1024 .f32) (x1 : Vec Ideal S1x1024 .f32) (x2 : Vec Ideal S1024x2048 .bf16)
    (x3 : Vec Ideal S2048x1024 .bf16)

/-- The block of keys. -/
theorem out1_4_eq (r : Fin 512) (q : Fin 1024) :
    out1_4 x0 x1 x2 x3 (ix2 r q) = projOf (fun k => x0 (ix2 r k)) (fun k => x1 (ix2 0 k))
      (fun k (n : Fin 2048) => x2 (ix2 k n)) ⟨q, by omega⟩ := by
  unfold out1_4
  rw [View.canon_unit_zero (S := S512x1024) zero2]
  unfold projOf
  pointwise [k1_pay7, k1_pay6_eq]

/-- The block of gates. -/
theorem out1_5_eq (r : Fin 512) (q : Fin 1024) :
    out1_5 x0 x1 x2 x3 (ix2 r q) = projOf (fun k => x0 (ix2 r k)) (fun k => x1 (ix2 0 k))
      (fun k (n : Fin 2048) => x2 (ix2 k n)) ⟨1024 + q, by omega⟩ := by
  unfold out1_5
  rw [View.canon_unit_zero (S := S512x1024) zero2]
  unfold projOf
  pointwise [k1_pay8, k1_pay6_eq]

/-- The blocks of queries, each written across and scaled. -/
theorem out1_6_eq (a : Fin 2) (q : Fin 1024) (b : Fin 256) :
    out1_6 x0 x1 x2 x3 (ix3 a q b) = (∑ k, x3 (ix2 ⟨q, by omega⟩ k) * rms (fun k => x0 (ix2 ⟨a * 256 + b, by omega⟩ k))
      (fun k => x1 (ix2 0 k)) k) * scale := by
  unfold out1_6 scale
  rw [canon_pair]
  fin_cases a
  · rw [if_pos (by rfl)]
    pointwise [k1_pay1, k1_pay9, k1_pay10, k1_pay6_eq]
  · rw [if_neg (by decide)]
    pointwise [k1_pay2, k1_pay9, k1_pay6_eq]

/-- The blocks of values, each written across. -/
theorem out1_7_eq (a : Fin 2) (q : Fin 1024) (b : Fin 256) :
    out1_7 x0 x1 x2 x3 (ix3 a q b) = ∑ k, x3 (ix2 ⟨1024 + q, by omega⟩ k) * rms (fun k => x0 (ix2 ⟨a * 256 + b, by omega⟩ k))
      (fun k => x1 (ix2 0 k)) k := by
  unfold out1_7
  rw [canon_pair]
  fin_cases a
  · rw [if_pos (by rfl)]
    pointwise [k1_pay3, k1_pay4, k1_pay11, k1_pay6_eq]
  · rw [if_neg (by decide)]
    pointwise [k1_pay3, k1_pay5, k1_pay11, k1_pay6_eq]

variable (V : (c : Dev nD) → (b : Ref sig .tc) → Buf (Elt Ideal) ((c : Thread nD τ).loc b))

theorem idx1_0 : ∀ t : Fin grid1.N, win1_0.index t = ![t.val, 0] := by decide +kernel
theorem idx1_1 : ∀ t : Fin grid1.N, win1_1.index t = ![0, 0] := by decide +kernel
theorem idx1_2 : ∀ t : Fin grid1.N, win1_2.index t = ![0, 0] := by decide +kernel
theorem idx1_3 : ∀ t : Fin grid1.N, win1_3.index t = ![0, 0] := by decide +kernel
theorem idx1_4 : ∀ t : Fin grid1.N, win1_4.index t = ![t.val, 0] := by decide +kernel
theorem idx1_5 : ∀ t : Fin grid1.N, win1_5.index t = ![t.val, 0] := by decide +kernel
theorem idx1_6 : ∀ t : Fin grid1.N, win1_6.index t = ![t.val, 0, 0] := by decide +kernel
theorem idx1_7 : ∀ t : Fin grid1.N, win1_7.index t = ![t.val, 0, 0] := by decide +kernel

/-- A matrix by row and column. -/
def mat {n m : ℕ} (X : (⟨2, ![n, m]⟩ : Shape).Idx → EReal) (i : Fin n) (k : Fin m) : EReal := X (ix2 i k)

/-- A projection written across: row `c` of the weight against the normalised row. -/
def projT {n : ℕ} (x g : Fin 1024 → EReal) (w : Fin n → Fin 1024 → EReal) (c : Fin n) : EReal := ∑ k, w c k * rms x g k

theorem projOf_congr {n : ℕ} {x x' g g' : Fin 1024 → EReal} {w w' : Fin 1024 → Fin n → EReal} {c c' : Fin n}
    (hx : ∀ k, x k = x' k) (hg : ∀ k, g k = g' k) (hw : ∀ k j, w k j = w' k j) (hc : c.val = c'.val) :
    projOf x g w c = projOf x' g' w' c' := by
  rw [funext hx, funext hg, funext fun k => funext (hw k), Fin.ext hc]

theorem projT_congr {n : ℕ} {x x' g g' : Fin 1024 → EReal} {w w' : Fin n → Fin 1024 → EReal} {c c' : Fin n}
    (hx : ∀ k, x k = x' k) (hg : ∀ k, g k = g' k) (hw : ∀ j k, w j k = w' j k) (hc : c.val = c'.val) :
    projT x g w c = projT x' g' w' c' := by
  rw [funext hx, funext hg, funext fun k => funext (hw k), Fin.ext hc]

/-- The rows of a projection, from column `o`. -/
def projRows {m : ℕ} (o : ℕ) (ho : o + 1024 ≤ m) (x : Fin 16384 → Fin 1024 → EReal) (g : Fin 1024 → EReal)
    (w : Fin 1024 → Fin m → EReal) (j : (⟨2, ![16384, 1024]⟩ : Shape).Idx) : EReal :=
  projOf (x (j 0)) g w ⟨o + (j 1).val, by have : (j 1).val < 1024 := (j 1).isLt; omega⟩

/-- The blocks of 256 rows of a projection, from column `o`, each written across. -/
def projCols {m : ℕ} (o : ℕ) (ho : o + 1024 ≤ m) (x : Fin 16384 → Fin 1024 → EReal) (g : Fin 1024 → EReal)
    (w : Fin m → Fin 1024 → EReal) (j : (⟨3, ![64, 1024, 256]⟩ : Shape).Idx) : EReal :=
  projT (x ⟨(j 0).val * 256 + (j 2).val, by
        have : (j 0).val < 64 := (j 0).isLt
        have : (j 2).val < 256 := (j 2).isLt
        omega⟩) g w ⟨o + (j 1).val, by have : (j 1).val < 1024 := (j 1).isLt; omega⟩

theorem N32 (t : Fin cfg1.N) : t.val < 32 := t.isLt

theorem read1_0 (c : Dev nD) (t : Fin cfg1.N) (r : Fin 512) (k : Fin 1024) :
    iblk1 V c 0 t (ix2 r k) = V c (Pipeline.arrRef spec1 0) (ix2 ⟨t.val * 512 + r, by have : t.val < 32 := t.isLt; omega⟩ k) := by
  blk_ext [iblk1, idx1_0]
theorem read1_1 (c : Dev nD) (t : Fin cfg1.N) (k : Fin 1024) :
    iblk1 V c 1 t (ix2 0 k) = V c (Pipeline.arrRef spec1 1) (ix2 0 k) := by blk_ext [iblk1, idx1_1]
theorem read1_2 (c : Dev nD) (t : Fin cfg1.N) (k : Fin 1024) (j : Fin 2048) :
    iblk1 V c 2 t (ix2 k j) = V c (Pipeline.arrRef spec1 2) (ix2 k j) := by blk_ext [iblk1, idx1_2]
theorem read1_3 (c : Dev nD) (t : Fin cfg1.N) (k : Fin 2048) (j : Fin 1024) :
    iblk1 V c 3 t (ix2 k j) = V c (Pipeline.arrRef spec1 3) (ix2 k j) := by blk_ext [iblk1, idx1_3]

/-- The array of keys. -/
theorem arr1_4 (c : Dev nD) : (dat1 V c).arrAt 4 cfg1.N = projRows 0 (by omega) (mat (V c (Pipeline.arrRef spec1 0)))
    (mat (V c (Pipeline.arrRef spec1 1)) 0) (mat (m := 2048) (V c (Pipeline.arrRef spec1 2))) := by
  refine (dat1 V c).arrAt_eq_of_covers 4 _ (by decide +kernel) fun t hf y => ?_
  have ht := N32 t
  blk_simp
  rw [after1_4]
  idx_vars y
  refine (out1_4_eq _ _ _ _ _ _).trans (projOf_congr ?_ ?_ ?_ ?_)
  · refine fun k => (read1_0 V c t _ k).trans ?_
    unfold mat
    refine congrArg (fun i => V c (Pipeline.arrRef spec1 0) (ix2 i k)) (Fin.ext ?_)
    blk_simp [idx1_4]
  · exact fun k => read1_1 V c t k
  · exact fun k j => read1_2 V c t k j
  · blk_simp [idx1_4]

/-- The array of gates. -/
theorem arr1_5 (c : Dev nD) : (dat1 V c).arrAt 5 cfg1.N = projRows 1024 (by omega) (mat (V c (Pipeline.arrRef spec1 0)))
    (mat (V c (Pipeline.arrRef spec1 1)) 0) (mat (m := 2048) (V c (Pipeline.arrRef spec1 2))) := by
  refine (dat1 V c).arrAt_eq_of_covers 5 _ (by decide +kernel) fun t hf y => ?_
  have ht := N32 t
  blk_simp
  rw [after1_5]
  idx_vars y
  refine (out1_5_eq _ _ _ _ _ _).trans (projOf_congr ?_ ?_ ?_ ?_)
  · refine fun k => (read1_0 V c t _ k).trans ?_
    unfold mat
    refine congrArg (fun i => V c (Pipeline.arrRef spec1 0) (ix2 i k)) (Fin.ext ?_)
    blk_simp [idx1_5]
  · exact fun k => read1_1 V c t k
  · exact fun k j => read1_2 V c t k j
  · blk_simp [idx1_5]

/-- The array of queries, written across and scaled. -/
theorem arr1_6 (c : Dev nD) : (dat1 V c).arrAt 6 cfg1.N = fun j => projCols 0 (by omega) (mat (V c (Pipeline.arrRef spec1 0)))
    (mat (V c (Pipeline.arrRef spec1 1)) 0) (mat (n := 2048) (V c (Pipeline.arrRef spec1 3))) j * scale := by
  refine (dat1 V c).arrAt_eq_of_covers 6 _ (by decide +kernel) fun t hf y => ?_
  have ht := N32 t
  blk_simp
  rw [after1_6]
  idx_vars y
  refine (out1_6_eq _ _ _ _ _ _ _).trans (congrArg (· * scale) (projT_congr (w := fun n k => iblk1 V c 3 t (ix2 n k))
    (c := ⟨y1, by omega⟩) ?_ ?_ ?_ ?_))
  · refine fun k => (read1_0 V c t _ k).trans ?_
    unfold mat
    refine congrArg (fun i => V c (Pipeline.arrRef spec1 0) (ix2 i k)) (Fin.ext ?_)
    blk_simp [idx1_6]
    dsimp only
    omega
  · exact fun k => read1_1 V c t k
  · exact fun k j => read1_3 V c t k j
  · blk_simp [idx1_6]

/-- The array of values, written across. -/
theorem arr1_7 (c : Dev nD) : (dat1 V c).arrAt 7 cfg1.N = projCols 1024 (by omega) (mat (V c (Pipeline.arrRef spec1 0)))
    (mat (V c (Pipeline.arrRef spec1 1)) 0) (mat (n := 2048) (V c (Pipeline.arrRef spec1 3))) := by
  refine (dat1 V c).arrAt_eq_of_covers 7 _ (by decide +kernel) fun t hf y => ?_
  have ht := N32 t
  blk_simp
  rw [after1_7]
  idx_vars y
  refine (out1_7_eq _ _ _ _ _ _ _).trans (projT_congr (w := fun n k => iblk1 V c 3 t (ix2 n k))
    (c := ⟨1024 + y1, by omega⟩) ?_ ?_ ?_ ?_)
  · refine fun k => (read1_0 V c t _ k).trans ?_
    unfold mat
    refine congrArg (fun i => V c (Pipeline.arrRef spec1 0) (ix2 i k)) (Fin.ext ?_)
    blk_simp [idx1_7]
    dsimp only
    omega
  · exact fun k => read1_1 V c t k
  · exact fun k j => read1_3 V c t k j
  · blk_simp [idx1_7]
end Cert.KernelIdeal.Value
end
-- ==== Proof.KernelFirst.lean ====
module
public import proofs.«01_k».proof.Proof.Keep
public import proofs.«01_k».proof.Proof.Args
public import proofs.«01_k».proof.Proof.ProjArray
public import proofs.«01_k».proof.Proof.SbArray
@[expose] public section
set_option maxRecDepth 16384
noncomputable section
open Idealize.ShloMosaic Idealize.ShloMosaic.TcCoe Idealize.SL.Sem

/-! The first layer's attention in the kernel's run. -/

namespace Layer

/-- The scores of arrays holding the keys and the scaled queries. -/
theorem score_of {Q : (⟨3, ![64, 1024, 256]⟩ : Shape).Idx → EReal} {K : (⟨2, ![16384, 1024]⟩ : Shape).Idx → EReal}
    {q k : Fin 16384 → Fin 1024 → EReal}
    (hQ : ∀ b C r, Q (ix3 b C r) = q ⟨b * 256 + r, by omega⟩ C * scale) (hK : ∀ T C, K (ix2 T C) = k T C)
    (T : Fin 16384) (h : Fin 16) (s : ℕ) : Stick.scoreA Q K T h s
      = if hs : s < 8192 then ∑ y : Fin 64, k ⟨T / 8192 * 8192 + s, by omega⟩ ⟨h * 64 + y, by omega⟩
        * (q T ⟨h * 64 + y, by omega⟩ * scale) else 0 := by
  unfold Stick.scoreA
  have e : (⟨(⟨T.val / 256, by omega⟩ : Fin 64).val * 256 + (⟨T.val % 256, by omega⟩ : Fin 256).val, by dsimp only; omega⟩ : Fin 16384) = T :=
    Fin.ext (by dsimp only; omega)
  by_cases hs : s < 8192
  · rw [dif_pos hs, dif_pos hs]
    refine Finset.sum_congr rfl fun y _ => ?_
    rw [hQ, hK, e]
  · rw [dif_neg hs, dif_neg hs]

/-- The values of an array holding them across. -/
theorem value_of {V : (⟨3, ![64, 1024, 256]⟩ : Shape).Idx → EReal} {v : Fin 16384 → Fin 1024 → EReal}
    (hV : ∀ b C r, V (ix3 b C r) = v ⟨b * 256 + r, by omega⟩ C) (T : Fin 16384) (C : Fin 1024) (s : ℕ) :
    Stick.valueA V T C s = if hs : s < 8192 then v ⟨T / 8192 * 8192 + s, by omega⟩ C else 0 := by
  unfold Stick.valueA
  by_cases hs : s < 8192
  · rw [dif_pos hs, dif_pos hs, hV]
    exact congrArg (v · C) (Fin.ext (by dsimp only; omega))
  · rw [dif_neg hs, dif_neg hs]
end Layer

namespace Cert.KernelIdeal.Value
open Cert.KernelIdeal Cert.KernelIdeal.Gen Layer
variable (m : (ℓ : Loc nD τ sig) → Buf (Elt Ideal) ℓ) (ρ : Dev nD → PrngReg) (c : Dev nD)

/-- The layer's arguments in a launch memory. -/
def argsOf : Args := mkArgs (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))
  (m ((c : Thread nD τ).loc main_arg11)) (m ((c : Thread nD τ).loc main_arg12)) (m ((c : Thread nD τ).loc main_arg13))
  (m ((c : Thread nD τ).loc main_arg14)) (m ((c : Thread nD τ).loc main_arg15))

/-- An array of rows read at a row and a column, and an array of three dimensions. -/
abbrev mat2 (n k : ℕ) (X : (⟨2, ![n, k]⟩ : Shape).Idx → EReal) : Fin n → Fin k → EReal := mat X

theorem in1_x (T : Fin 16384) (k : Fin 1024) : mat2 16384 1024 (V3 m ρ c (Pipeline.arrRef spec1 0)) T k = (argsOf m c).x T k :=
  (congrFun (keep3_v0 m ρ c) (ix2 T k : S16384x1024.Idx)).trans (host_v0 _ T k)
theorem in1_g (k : Fin 1024) : mat2 1 1024 (V3 m ρ c (Pipeline.arrRef spec1 1)) 0 k = (argsOf m c).gA 0 k :=
  (host_v40 (W2 m ρ c) k).trans (congrFun (W2_args m ρ c main_arg2 (by decide)) (ix2 0 k : S2x1024.Idx))
theorem in1_k (k C : Fin 1024) : mat2 1024 2048 (V3 m ρ c (Pipeline.arrRef spec1 2)) k ⟨C, by omega⟩ = (argsOf m c).wA k ⟨1024 + C, by omega⟩ :=
  (congrFun (keep3_v8 m ρ c) (ix2 k ⟨C, by omega⟩ : S1024x2048.Idx)).trans (host_v8_k _ k C)
theorem in1_go (k C : Fin 1024) : mat2 1024 2048 (V3 m ρ c (Pipeline.arrRef spec1 2)) k ⟨1024 + C, by omega⟩ = (argsOf m c).wA k ⟨3072 + C, by omega⟩ :=
  (congrFun (keep3_v8 m ρ c) (ix2 k ⟨1024 + C, by omega⟩ : S1024x2048.Idx)).trans (host_v8_g _ k C)
theorem in1_q (k C : Fin 1024) : mat2 2048 1024 (V3 m ρ c (Pipeline.arrRef spec1 3)) ⟨C, by omega⟩ k = (argsOf m c).wA k ⟨C, by omega⟩ :=
  (congrFun (keep3_v11 m ρ c) (ix2 ⟨C, by omega⟩ k : S2048x1024.Idx)).trans (host_v11_q _ k C)
theorem in1_v (k C : Fin 1024) : mat2 2048 1024 (V3 m ρ c (Pipeline.arrRef spec1 3)) ⟨1024 + C, by omega⟩ k = (argsOf m c).wA k ⟨2048 + C, by omega⟩ :=
  (congrFun (keep3_v11 m ρ c) (ix2 ⟨1024 + C, by omega⟩ k : S2048x1024.Idx)).trans (host_v11_v _ k C)

/-- A projection read at a column, by the row, the gain and the column of the weights. -/
theorem projOf_col {n n' : ℕ} {x x' g g' : Fin 1024 → EReal} {w : Fin 1024 → Fin n → EReal} {w' : Fin 1024 → Fin n' → EReal}
    {C : Fin n} {C' : Fin n'} (hx : ∀ k, x k = x' k) (hg : ∀ k, g k = g' k) (hw : ∀ k, w k C = w' k C') :
    projOf x g w C = projOf x' g' w' C' := by
  unfold projOf
  rw [funext hx, funext hg]
  exact Finset.sum_congr rfl fun k _ => by rw [hw]
theorem projT_col {n n' : ℕ} {x x' g g' : Fin 1024 → EReal} {w : Fin n → Fin 1024 → EReal} {w' : Fin 1024 → Fin n' → EReal}
    {C : Fin n} {C' : Fin n'} (hx : ∀ k, x k = x' k) (hg : ∀ k, g k = g' k) (hw : ∀ k, w C k = w' k C') :
    projT x g w C = projOf x' g' w' C' := by
  unfold projOf projT
  rw [funext hx, funext hg]
  exact Finset.sum_congr rfl fun k _ => by rw [hw, mul_comm]

/-- The keys, gates, scaled queries and values of the first layer. -/
theorem r1_k (T : Fin 16384) (C : Fin 1024) : mat2 16384 1024 (W4 m ρ c (Proc.devRef .tc main_v41_0)) T C
    = proj (argsOf m c) T ⟨1024 + C, by omega⟩ := by
  refine (congrFun ((W4_arr m ρ c 4).trans (arr1_4 (V3 m ρ) c)) (ix2 T C : S16384x1024.Idx)).trans ?_
  refine projOf_col (fun k => in1_x m ρ c T k) (fun k => in1_g m ρ c k) fun k => ?_
  refine Eq.trans ?_ (in1_k m ρ c k C)
  exact congrArg (mat2 1024 2048 (V3 m ρ c (Pipeline.arrRef spec1 2)) k) (Fin.ext (Nat.zero_add _))
theorem r1_g (T : Fin 16384) (C : Fin 1024) : mat2 16384 1024 (W4 m ρ c (Proc.devRef .tc main_v41_1)) T C
    = proj (argsOf m c) T ⟨3072 + C, by omega⟩ := by
  refine (congrFun ((W4_arr m ρ c 5).trans (arr1_5 (V3 m ρ) c)) (ix2 T C : S16384x1024.Idx)).trans ?_
  exact projOf_col (fun k => in1_x m ρ c T k) (fun k => in1_g m ρ c k) fun k => in1_go m ρ c k C
theorem r1_q (b : Fin 64) (C : Fin 1024) (r : Fin 256) :
    (W4 m ρ c (Proc.devRef .tc main_v41_2) : (⟨3, ![64, 1024, 256]⟩ : Shape).Idx → EReal) (ix3 b C r)
    = proj (argsOf m c) ⟨b * 256 + r, by omega⟩ ⟨C, by omega⟩ * scale := by
  refine (congrFun ((W4_arr m ρ c 6).trans (arr1_6 (V3 m ρ) c)) (ix3 b C r : S64x1024x256.Idx)).trans ?_
  refine congrArg (· * scale) (projT_col (fun k => in1_x m ρ c _ k) (fun k => in1_g m ρ c k) fun k => ?_)
  refine Eq.trans ?_ (in1_q m ρ c k C)
  exact congrArg (mat2 2048 1024 (V3 m ρ c (Pipeline.arrRef spec1 3)) · k) (Fin.ext (Nat.zero_add _))
theorem r1_v (b : Fin 64) (C : Fin 1024) (r : Fin 256) :
    (W4 m ρ c (Proc.devRef .tc main_v41_3) : (⟨3, ![64, 1024, 256]⟩ : Shape).Idx → EReal) (ix3 b C r)
    = proj (argsOf m c) ⟨b * 256 + r, by omega⟩ ⟨2048 + C, by omega⟩ := by
  refine (congrFun ((W4_arr m ρ c 7).trans (arr1_7 (V3 m ρ) c)) (ix3 b C r : S64x1024x256.Idx)).trans ?_
  exact projT_col (fun k => in1_x m ρ c _ k) (fun k => in1_g m ρ c k) fun k => in1_v m ρ c k C

/-- The stick-breaking attention. -/
theorem r2_o (T : Fin 16384) (C : Fin 1024) : mat2 16384 1024 (W5 m ρ c (Proc.devRef .tc main_v42)) T C = oA (argsOf m c) T C := by
  refine (congrFun ((W5_arr m ρ c 3).trans (arr2_o (V4 m ρ) c)) (ix2 T C : S16384x1024.Idx)).trans ?_
  unfold result2 Stick.attn oA
  have hz : Stick.scoreA (V4 m ρ c (Pipeline.arrRef spec2 0)) (V4 m ρ c (Pipeline.arrRef spec2 1)) T ⟨C / 64, by omega⟩
      = zA (argsOf m c) T ⟨C / 64, by omega⟩ := by
    funext s
    exact score_of (q := fun T C => proj (argsOf m c) T ⟨C, by omega⟩) (k := fun T C => proj (argsOf m c) T ⟨1024 + C, by omega⟩)
      (fun b C r => r1_q m ρ c b C r) (fun T C => r1_k m ρ c T C) T ⟨C / 64, by omega⟩ s
  have hv : Stick.valueA (V4 m ρ c (Pipeline.arrRef spec2 2)) T C = vA (argsOf m c) T C := by
    funext s
    exact value_of (v := fun T C => proj (argsOf m c) T ⟨2048 + C, by omega⟩) (fun b C r => r1_v m ρ c b C r) T C s
  show Stick.stick (Stick.scoreA (V4 m ρ c (Pipeline.arrRef spec2 0)) (V4 m ρ c (Pipeline.arrRef spec2 1)) T ⟨C / 64, by omega⟩)
    (Stick.valueA (V4 m ρ c (Pipeline.arrRef spec2 2)) T C) (T % 8192) 0 = _
  rw [hz, hv]
end Cert.KernelIdeal.Value
end
-- ==== Proof.Real.lean ====
module
public import proofs.«01_k».proof.Proof.Model
@[expose] public section
noncomputable section
open Idealize.ShloMosaic Idealize.ShloMosaic.TcCoe Idealize.SL.Sem

/-! A normalised row is real at every row of hidden values, infinite ones included. So the second layer's scores and values
are real as soon as its gains and weights are. -/

namespace Layer

/-- An extended real that is a real number. -/
def Rl (x : EReal) : Prop := ∃ r : ℝ, x = (r : EReal)

theorem Rl.coe (r : ℝ) : Rl (r : EReal) := ⟨r, rfl⟩
theorem Rl.zero : Rl 0 := ⟨0, rfl⟩
theorem Rl.add {x y : EReal} : Rl x → Rl y → Rl (x + y) := by
  rintro ⟨a, rfl⟩ ⟨b, rfl⟩; exact ⟨a + b, (EReal.coe_add a b).symm⟩
theorem Rl.sub {x y : EReal} : Rl x → Rl y → Rl (x - y) := by
  rintro ⟨a, rfl⟩ ⟨b, rfl⟩; exact ⟨a - b, (EReal.coe_sub a b).symm⟩
theorem Rl.mul {x y : EReal} : Rl x → Rl y → Rl (x * y) := by
  rintro ⟨a, rfl⟩ ⟨b, rfl⟩; exact ⟨a * b, (EReal.coe_mul a b).symm⟩
theorem Rl.sum {ι : Type*} (s : Finset ι) (f : ι → EReal) (h : ∀ i, Rl (f i)) : Rl (∑ i ∈ s, f i) := by
  choose g hg using h
  exact ⟨∑ i ∈ s, g i, by rw [Finset.sum_congr rfl fun i _ => hg i, Soft.coe_sum]⟩
theorem Rl.exp {x : EReal} : Rl x → Rl (Ideal.exp x) := by
  rintro ⟨a, rfl⟩; exact ⟨Real.exp a, rfl⟩
theorem Rl.logistic {x : EReal} : Rl x → Rl (Ideal.logistic x) := by
  rintro ⟨a, rfl⟩; exact ⟨_, Ideal.logistic_coe a⟩
theorem Rl.max {x y : EReal} (hx : Rl x) (hy : Rl y) : Rl (max x y) := by
  rcases max_choice x y with h | h <;> rw [h] <;> assumption
theorem Rl.min {x y : EReal} (hx : Rl x) (hy : Rl y) : Rl (min x y) := by
  rcases min_choice x y with h | h <;> rw [h] <;> assumption
theorem Rl.toReal {x : EReal} (h : Rl x) : ((x.toReal : ℝ) : EReal) = x := by
  obtain ⟨r, rfl⟩ := h; rfl

theorem bits_1024 : Ideal.ofBits .f32 0x44800000#32 = ((1024 : ℝ) : EReal) := by
  simp [Ideal.ofBits, Ideal.ieee]; rw [← EReal.coe_mul]; norm_num
theorem bits_eps : ∃ e : ℝ, 0 < e ∧ Ideal.ofBits .f32 0x358637BD#32 = (e : EReal) := by
  refine ⟨8796093 / 8796093022208, by norm_num, ?_⟩
  simp [Ideal.ofBits, Ideal.ieee]; rw [← EReal.coe_mul]; norm_num
theorem bits_scale : scale = ((1 / 8 : ℝ) : EReal) := by
  unfold scale; simp [Ideal.ofBits, Ideal.ieee]; rw [← EReal.coe_mul]; norm_num
theorem bits_lam : Rl (Ideal.ofBits .f32 0x3EB60549#32) := by
  simp [Ideal.ofBits, Ideal.ieee]; exact ((Rl.coe _).mul (Rl.coe _))

/-- A row with an infinite entry has an infinite sum of squares. -/
theorem squares_top {x : Fin 1024 → EReal} {k : Fin 1024} (hk : ¬ Rl (x k)) : ∑ c, x c * x c = ⊤ := by
  have hn (c : Fin 1024) : 0 ≤ x c * x c := by
    induction x c with
    | bot => simp
    | top => simp
    | coe r => rw [← EReal.coe_mul]; exact_mod_cast mul_self_nonneg r
  have ht : x k * x k = ⊤ := by
    revert hk
    induction x k with
    | bot => simp
    | top => simp
    | coe r => exact fun h => absurd (Rl.coe r) h
  exact top_le_iff.mp (ht ▸ Finset.single_le_sum (f := fun c => x c * x c) (fun c _ => hn c) (Finset.mem_univ k))

/-- A normalised row is real whenever its gains are: a row with an infinite entry is divided by infinity. -/
theorem rms_real (x : Fin 1024 → EReal) {g : Fin 1024 → EReal} (hg : ∀ k, Rl (g k)) (c : Fin 1024) : Rl (rms x g c) := by
  unfold rms
  refine Rl.mul ?_ (hg c)
  obtain ⟨e, he, hb⟩ := bits_eps
  by_cases hx : ∀ k, Rl (x k)
  · refine (hx c).mul ?_
    choose y hy using hx
    rw [Finset.sum_congr rfl fun k _ => by rw [hy k, ← EReal.coe_mul], Soft.coe_sum, bits_1024, Ideal.div_coe (by norm_num),
      ← EReal.coe_mul, hb, ← EReal.coe_add]
    have hp : 0 < (∑ k, y k * y k) * (1 / 1024) + e := by
      have := Finset.sum_nonneg fun k (_ : k ∈ Finset.univ) => mul_self_nonneg (y k)
      positivity
    rw [Ideal.rsqrt_coe, if_neg (not_lt.mpr hp.le), if_neg hp.ne']
    exact Rl.coe _
  · obtain ⟨k, hk⟩ := not_forall.mp hx
    rw [squares_top hk, bits_1024, Ideal.div_coe (by norm_num), EReal.top_mul_coe_of_pos (by norm_num), hb, EReal.top_add_coe]
    rw [show Ideal.rsqrt ⊤ = 0 from rfl, mul_zero]
    exact Rl.zero

theorem proj_real {n : ℕ} (x : Fin 1024 → EReal) {g : Fin 1024 → EReal} {w : Fin 1024 → Fin n → EReal} (hg : ∀ k, Rl (g k))
    (hw : ∀ k c, Rl (w k c)) (c : Fin n) : Rl (projOf x g w c) :=
  Rl.sum _ _ fun k => (rms_real x hg k).mul (hw k c)

/-- The arguments the second layer's scores, values and weight depend on are real. -/
structure Args.Real (A : Args) : Prop where
  gA : ∀ k, Rl (A.gA 1 k)
  gKV : ∀ k, Rl (A.gKV k)
  wKV : ∀ k c, Rl (A.wKV k c)
  wQ : ∀ k c, Rl (A.wQ k c)
  lp : ∀ a y, Rl (A.lp a y)
  tab : ∀ n h, Rl (A.tab n h)

variable {A : Args} (H : A.Real)
include H

theorem kv_real (T : Fin 16384) (c : Fin 2048) : Rl (kv A T c) := proj_real (h1 A T) H.gKV H.wKV c
theorem qg_real (T : Fin 16384) (c : Fin 2048) : Rl (qg A T c) := proj_real (h1 A T) H.gA H.wQ c

theorem zB_real (m : Fin 2) (T : Fin 16384) (h : Fin 8) (s : ℕ) : Rl (zB A m T h s) := by
  unfold zB
  split_ifs with hs
  · exact Rl.sum _ _ fun y => (kv_real H _ _).mul ((qg_real H _ _).mul (bits_scale ▸ Rl.coe _))
  · exact Rl.zero

theorem vB_real (T : Fin 16384) (C : Fin 1024) (s : ℕ) : Rl (vB A T C s) := by
  unfold vB
  split_ifs with hs
  · exact kv_real H _ _
  · exact Rl.zero

theorem lam_real : Rl (lam A) :=
  ((Rl.exp (Rl.sum _ _ fun y => (H.lp 0 y).mul (H.lp 1 y))).sub (Rl.exp (Rl.sum _ _ fun y => (H.lp 2 y).mul (H.lp 3 y)))).add bits_lam
end Layer
end
-- ==== Proof.PreReal.lean ====
module
public import proofs.«01_k».proof.Defs
public import proofs.«01_k».proof.Proof.KernelFirst
public import proofs.«01_k».proof.Proof.Real
@[expose] public section
noncomputable section
open Idealize.ShloMosaic Idealize.ShloMosaic.TcCoe Idealize.SL.Sem

/-! The precondition read as real arguments. -/

namespace Layer
theorem bits_top : Ideal.ofBits .f32 0x7F800000#32 = ⊤ := by
  simp [Ideal.ofBits, Ideal.ieee]

/-- An absolute value below infinity is of a real number. -/
theorem real_of_abs {x : EReal} (h : FloatOps.cmpf (F := Ideal) (φ := .f32) .olt (FloatOps.absf (F := Ideal) (φ := .f32) x) (Ideal.ofBits .f32 0x7F800000#32) = 1#1) :
    Rl x := by
  rw [bits_top] at h
  induction x with
  | bot => exact absurd h (by simp [FloatOps.cmpf, FloatOps.absf, Ideal.cmp])
  | top => exact absurd h (by simp [FloatOps.cmpf, FloatOps.absf, Ideal.cmp])
  | coe r => exact ⟨r, rfl⟩
end Layer

namespace Cert.KernelIdeal.Value
open Cert.KernelIdeal Cert.KernelIdeal.Gen Layer
variable [Cert.Pre_finite.Facts]

/-- The second row of the gains, cut out and laid flat. -/
theorem second_gain (x : FVec Ideal Cert.Pre_finite.S2x1024 .f32) (k : Fin 1024) :
    x (ix2 1 k) = shapeCast Cert.Pre_finite.S1024 (extractStridedSlice Cert.Pre_finite.S1x1024 ![1, 0] x
      Cert.Pre_finite.Facts.slices_S2x1024_S1x1024_1_0) Cert.Pre_finite.Facts.shapeCasts_S1x1024_S1024 (ix1 k) := by
  pointwise []

/-- Under the precondition the arguments are real. -/
theorem args_real (m : (ℓ : Loc nD τ sig) → Buf (Elt Ideal) ℓ) (h : Cert.Pre_KernelIdeal_finite m) (c : Dev nD) : (argsOf m c).Real := by
  obtain ⟨h2, h5, h6, h7, h8, h11⟩ := h c
  exact {
    gA := fun k => (congrArg Rl (second_gain (m ((c : Thread nD τ).loc main_arg2)) k)).mpr (real_of_abs (congrFun h2 (ix1 k)))
    gKV := fun k => real_of_abs (congrFun h5 (ix1 k))
    wKV := fun k c => real_of_abs (congrFun h6 (ix2 k c))
    wQ := fun k c => real_of_abs (congrFun h7 (ix3 0 k c))
    lp := fun a y => real_of_abs (congrFun h8 (ix3 0 a y))
    tab := fun n c => real_of_abs (congrFun h11 (ix2 n c)) }
end Cert.KernelIdeal.Value
end
-- ==== Proof.MidArray.lean ====
module
public import proofs.«01_k».proof.Proof.ProjArray
public import proofs.«01_k».proof.Proof.MidRegionI
public import Idealize.ShloMosaic.Lib.Pipeline.ValueKit
@[expose] public section
set_option maxRecDepth 16384
noncomputable section
open Idealize.ShloMosaic Idealize.ShloMosaic.TcCoe Idealize.SL.Sem

/-! The five result arrays of the call between the attentions: the hidden rows after the first layer, and their
projections to the second layer's keys, values, queries and gates. -/

namespace Cert.KernelIdeal.Value
open Cert.KernelIdeal Cert.KernelIdeal.Gen Layer
open Idealize.ShloMosaic.Pipeline (Dat)

section Block
variable (x0 x1 x2 : Vec Ideal S256x1024 .f32) (x3 : Vec Ideal S256x256 .f32) (x4 x5 x6 : Vec Ideal S1x1024 .f32)
  (x7 x8 : Vec Ideal S1024x1024 .bf16) (x9 : Vec Ideal S256x1024 .bf16) (x10 x11 x12 x13 : Vec Ideal S1024x1024 .bf16)

/-- The attention's projection added to the rows. -/
theorem k3_pay4_eq (r : Fin 256) (c : Fin 1024) :
    k3_pay4 x1 x2 x0 x7 (ix2 r c) = gated (mat x0 r) (mat x1 r) (mat x2 r) (mat x7) c := by
  unfold gated mat
  pointwise [k3_pay4]

/-- The gate of the embedding. -/
theorem k3_pay6_eq (r : Fin 256) (c : Fin 1024) :
    k3_pay6 x1 x2 x0 x7 x4 x8 (ix2 r c)
      = Ideal.logistic (∑ k, rms (gated (mat x0 r) (mat x1 r) (mat x2 r) (mat x7)) (mat x4 0) k * mat x8 k c) := by
  unfold rms
  pointwise [k3_pay6, k3_pay4_eq]
  rfl

/-- The hidden rows of a block. -/
def hid (r : Fin 256) : Fin 1024 → EReal :=
  ple (gated (mat x0 r) (mat x1 r) (mat x2 r) (mat x7)) (mat x3 r) (mat x4 0) (mat x8) (mat x9)

theorem k3_pay8_eq (r : Fin 256) (c : Fin 1024) :
    k3_pay8 (k3_pay4 x1 x2 x0 x7) (k3_pay5 x9) (k3_pay6 x1 x2 x0 x7 x4 x8) (k3_pay7 x3) (ix2 r c)
      = hid x0 x1 x2 x3 x4 x7 x8 x9 r c := by
  unfold hid ple
  rw [← k3_pay6_eq, ← k3_pay4_eq]
  unfold mat
  pointwise [k3_pay8, k3_pay5, k3_pay7]

/-- The hidden rows normalised for the keys and values. -/
theorem k3_pay9_eq (r : Fin 256) (c : Fin 1024) :
    k3_pay9 (k3_pay4 x1 x2 x0 x7) (k3_pay5 x9) (k3_pay6 x1 x2 x0 x7 x4 x8) (k3_pay7 x3) x5 (ix2 r c)
      = rms (hid x0 x1 x2 x3 x4 x7 x8 x9 r) (mat x5 0) c := by
  unfold rms
  pointwise [k3_pay9, k3_pay8_eq]
  rfl

/-- The hidden rows normalised for the queries and gates. -/
theorem k3_pay1_eq (r : Fin 256) (c : Fin 1024) :
    k3_pay1 (k3_pay8 (k3_pay4 x1 x2 x0 x7) (k3_pay5 x9) (k3_pay6 x1 x2 x0 x7 x4 x8) (k3_pay7 x3)) (k3_pay12 x6)
      (k3_pay13 (k3_pay4 x1 x2 x0 x7) (k3_pay5 x9) (k3_pay6 x1 x2 x0 x7 x4 x8) (k3_pay7 x3)) (ix2 r c)
      = rms (hid x0 x1 x2 x3 x4 x7 x8 x9 r) (mat x6 0) c := by
  unfold rms
  pointwise [k3_pay1, k3_pay12, k3_pay13, k3_pay8_eq]
  rfl

theorem ld_rows (x : Vec Ideal S256x1024 .f32) : View.ld x r3_0 = x := View.ld_unit_zero zero2 _ x
theorem ld_rows' (x : Vec Ideal S256x1024 .bf16) : View.ld x r3_0 = x := View.ld_unit_zero zero2 _ x
theorem ld_square (x : Vec Ideal S1024x1024 .bf16) : View.ld x r3_1 = x := View.ld_unit_zero zero2 _ x
theorem ld_emb (x : Vec Ideal S256x256 .f32) : View.ld x r3_2 = x := View.ld_unit_zero zero2 _ x
theorem ld_gain (x : Vec Ideal S1x1024 .f32) : View.ld x r3_3 = x := View.ld_unit_zero zero2 _ x

theorem out3_14_eq (r : Fin 256) (c : Fin 1024) :
    out3_14 x0 x1 x2 x3 x4 x5 x6 x7 x8 x9 x10 x11 x12 x13 (ix2 r c) = hid x0 x1 x2 x3 x4 x7 x8 x9 r c := by
  unfold out3_14 k3_pay14 k3_pay15 k3_pay16 k3_pay17
  rw [View.canon_unit_zero (S := S256x1024) zero2]
  simp only [ld_rows, ld_rows', ld_square, ld_emb, ld_gain]
  exact k3_pay8_eq ..

theorem out3_15_eq (r : Fin 256) (c : Fin 1024) :
    out3_15 x0 x1 x2 x3 x4 x5 x6 x7 x8 x9 x10 x11 x12 x13 (ix2 r c)
      = projOf (hid x0 x1 x2 x3 x4 x7 x8 x9 r) (mat x5 0) (mat x10) c := by
  unfold out3_15 k3_pay14 k3_pay15 k3_pay16 k3_pay17
  rw [View.canon_unit_zero (S := S256x1024) zero2]
  simp only [ld_rows, ld_rows', ld_square, ld_emb, ld_gain]
  unfold projOf
  pointwise [k3_pay10, k3_pay9_eq]
  rfl

theorem out3_16_eq (q : Fin 1024) (b : Fin 256) :
    out3_16 x0 x1 x2 x3 x4 x5 x6 x7 x8 x9 x10 x11 x12 x13 (ix3 0 q b)
      = projT (hid x0 x1 x2 x3 x4 x7 x8 x9 b) (mat x5 0) (mat x11) q := by
  unfold out3_16 k3_pay14 k3_pay15 k3_pay16 k3_pay17
  rw [View.canon_unit_zero (S := S1x1024x256) zero3]
  simp only [ld_rows, ld_rows', ld_square, ld_emb, ld_gain]
  unfold projT
  pointwise [k3_pay11, k3_pay9_eq]
  rfl

theorem out3_17_eq (q : Fin 1024) (b : Fin 256) :
    out3_17 x0 x1 x2 x3 x4 x5 x6 x7 x8 x9 x10 x11 x12 x13 (ix3 0 q b)
      = projT (hid x0 x1 x2 x3 x4 x7 x8 x9 b) (mat x6 0) (mat x12) q * scale := by
  unfold out3_17 k3_pay18 k3_pay19 k3_pay20 k3_pay14 k3_pay15 k3_pay16 k3_pay17
  rw [View.canon_unit_zero (S := S1x1024x256) zero3]
  simp only [ld_rows, ld_rows', ld_square, ld_emb, ld_gain]
  unfold projT scale
  pointwise [k3_pay2, k3_pay1_eq]
  rfl

theorem out3_18_eq (r : Fin 256) (c : Fin 1024) :
    out3_18 x0 x1 x2 x3 x4 x5 x6 x7 x8 x9 x10 x11 x12 x13 (ix2 r c)
      = projOf (hid x0 x1 x2 x3 x4 x7 x8 x9 r) (mat x6 0) (mat x13) c := by
  unfold out3_18 k3_pay18 k3_pay19 k3_pay20 k3_pay14 k3_pay15 k3_pay16 k3_pay17
  rw [View.canon_unit_zero (S := S256x1024) zero2]
  simp only [ld_rows, ld_rows', ld_square, ld_emb, ld_gain]
  unfold projOf
  pointwise [k3_pay3, k3_pay1_eq]
  rfl
end Block

variable (V : (c : Dev nD) → (b : Ref sig .tc) → Buf (Elt Ideal) ((c : Thread nD τ).loc b))

theorem idx3_0 : ∀ t : Fin grid3.N, win3_0.index t = ![t.val, 0] := by decide +kernel
theorem idx3_1 : ∀ t : Fin grid3.N, win3_1.index t = ![t.val, 0] := by decide +kernel
theorem idx3_2 : ∀ t : Fin grid3.N, win3_2.index t = ![t.val, 0] := by decide +kernel
theorem idx3_3 : ∀ t : Fin grid3.N, win3_3.index t = ![t.val, 0] := by decide +kernel
theorem idx3_4 : ∀ t : Fin grid3.N, win3_4.index t = ![0, 0] := by decide +kernel
theorem idx3_5 : ∀ t : Fin grid3.N, win3_5.index t = ![0, 0] := by decide +kernel
theorem idx3_6 : ∀ t : Fin grid3.N, win3_6.index t = ![0, 0] := by decide +kernel
theorem idx3_7 : ∀ t : Fin grid3.N, win3_7.index t = ![0, 0] := by decide +kernel
theorem idx3_8 : ∀ t : Fin grid3.N, win3_8.index t = ![0, 0] := by decide +kernel
theorem idx3_9 : ∀ t : Fin grid3.N, win3_9.index t = ![0, 0] := by decide +kernel
theorem idx3_10 : ∀ t : Fin grid3.N, win3_10.index t = ![0, 0] := by decide +kernel
theorem idx3_11 : ∀ t : Fin grid3.N, win3_11.index t = ![0, 0] := by decide +kernel
theorem idx3_12 : ∀ t : Fin grid3.N, win3_12.index t = ![0, 0] := by decide +kernel
theorem idx3_13 : ∀ t : Fin grid3.N, win3_13.index t = ![0, 0] := by decide +kernel
theorem idx3_14 : ∀ t : Fin grid3.N, win3_14.index t = ![t.val, 0] := by decide +kernel
theorem idx3_15 : ∀ t : Fin grid3.N, win3_15.index t = ![t.val, 0] := by decide +kernel
theorem idx3_16 : ∀ t : Fin grid3.N, win3_16.index t = ![t.val, 0, 0] := by decide +kernel
theorem idx3_17 : ∀ t : Fin grid3.N, win3_17.index t = ![t.val, 0, 0] := by decide +kernel
theorem idx3_18 : ∀ t : Fin grid3.N, win3_18.index t = ![t.val, 0] := by decide +kernel

theorem N64 (t : Fin cfg3.N) : t.val < 64 := t.isLt

/-- Row `r` of the block at step `t`. -/
def row3 (t : Fin cfg3.N) (r : Fin 256) : Fin 16384 := ⟨t.val * 256 + r, by have := N64 t; omega⟩

theorem read3_0 (c : Dev nD) (t : Fin cfg3.N) (r : Fin 256) :
    mat (iblk3 V c 0 t) r = mat (m := 1024) (V c (Pipeline.arrRef spec3 0)) (row3 t r) := by
  funext k
  unfold mat row3
  blk_ext [iblk3, idx3_0]
theorem read3_1 (c : Dev nD) (t : Fin cfg3.N) (r : Fin 256) :
    mat (iblk3 V c 1 t) r = mat (m := 1024) (V c (Pipeline.arrRef spec3 1)) (row3 t r) := by
  funext k
  unfold mat row3
  blk_ext [iblk3, idx3_1]
theorem read3_2 (c : Dev nD) (t : Fin cfg3.N) (r : Fin 256) :
    mat (iblk3 V c 2 t) r = mat (m := 1024) (V c (Pipeline.arrRef spec3 2)) (row3 t r) := by
  funext k
  unfold mat row3
  blk_ext [iblk3, idx3_2]
theorem read3_3 (c : Dev nD) (t : Fin cfg3.N) (r : Fin 256) :
    mat (iblk3 V c 3 t) r = mat (m := 256) (V c (Pipeline.arrRef spec3 3)) (row3 t r) := by
  funext k
  unfold mat row3
  blk_ext [iblk3, idx3_3]
theorem read3_4 (c : Dev nD) (t : Fin cfg3.N) : mat (iblk3 V c 4 t) 0 = mat (m := 1024) (V c (Pipeline.arrRef spec3 4)) (0 : Fin 1) := by
  funext k
  unfold mat
  blk_ext [iblk3, idx3_4]
theorem read3_5 (c : Dev nD) (t : Fin cfg3.N) : mat (iblk3 V c 5 t) 0 = mat (m := 1024) (V c (Pipeline.arrRef spec3 5)) (0 : Fin 1) := by
  funext k
  unfold mat
  blk_ext [iblk3, idx3_5]
theorem read3_6 (c : Dev nD) (t : Fin cfg3.N) : mat (iblk3 V c 6 t) 0 = mat (m := 1024) (V c (Pipeline.arrRef spec3 6)) (0 : Fin 1) := by
  funext k
  unfold mat
  blk_ext [iblk3, idx3_6]
theorem read3_7 (c : Dev nD) (t : Fin cfg3.N) : mat (iblk3 V c 7 t) = mat (n := 1024) (m := 1024) (V c (Pipeline.arrRef spec3 7)) := by
  funext k j
  unfold mat
  blk_ext [iblk3, idx3_7]
theorem read3_8 (c : Dev nD) (t : Fin cfg3.N) : mat (iblk3 V c 8 t) = mat (n := 1024) (m := 1024) (V c (Pipeline.arrRef spec3 8)) := by
  funext k j
  unfold mat
  blk_ext [iblk3, idx3_8]
theorem read3_9 (c : Dev nD) (t : Fin cfg3.N) : mat (iblk3 V c 9 t) = mat (n := 256) (m := 1024) (V c (Pipeline.arrRef spec3 9)) := by
  funext k j
  unfold mat
  blk_ext [iblk3, idx3_9]
theorem read3_10 (c : Dev nD) (t : Fin cfg3.N) : mat (iblk3 V c 10 t) = mat (n := 1024) (m := 1024) (V c (Pipeline.arrRef spec3 10)) := by
  funext k j
  unfold mat
  blk_ext [iblk3, idx3_10]
theorem read3_11 (c : Dev nD) (t : Fin cfg3.N) : mat (iblk3 V c 11 t) = mat (n := 1024) (m := 1024) (V c (Pipeline.arrRef spec3 11)) := by
  funext k j
  unfold mat
  blk_ext [iblk3, idx3_11]
theorem read3_12 (c : Dev nD) (t : Fin cfg3.N) : mat (iblk3 V c 12 t) = mat (n := 1024) (m := 1024) (V c (Pipeline.arrRef spec3 12)) := by
  funext k j
  unfold mat
  blk_ext [iblk3, idx3_12]
theorem read3_13 (c : Dev nD) (t : Fin cfg3.N) : mat (iblk3 V c 13 t) = mat (n := 1024) (m := 1024) (V c (Pipeline.arrRef spec3 13)) := by
  funext k j
  unfold mat
  blk_ext [iblk3, idx3_13]

/-- The hidden rows after the first layer. -/
def hidA (c : Dev nD) (T : Fin 16384) : Fin 1024 → EReal :=
  ple (gated (mat (V c (Pipeline.arrRef spec3 0)) T) (mat (V c (Pipeline.arrRef spec3 1)) T)
    (mat (V c (Pipeline.arrRef spec3 2)) T) (mat (V c (Pipeline.arrRef spec3 7)))) (mat (V c (Pipeline.arrRef spec3 3)) T)
    (mat (V c (Pipeline.arrRef spec3 4)) 0) (mat (V c (Pipeline.arrRef spec3 8))) (mat (V c (Pipeline.arrRef spec3 9)))

set_option maxHeartbeats 1000000 in
theorem hid_eq (c : Dev nD) (t : Fin cfg3.N) (r : Fin 256) :
    hid (iblk3 V c 0 t) (iblk3 V c 1 t) (iblk3 V c 2 t) (iblk3 V c 3 t) (iblk3 V c 4 t) (iblk3 V c 7 t)
      (iblk3 V c 8 t) (iblk3 V c 9 t) r = hidA V c (row3 t r) := by
  unfold hid hidA
  rw [read3_0, read3_1, read3_2, read3_3, read3_4, read3_7, read3_8, read3_9]

attribute [local irreducible] hidA

set_option maxHeartbeats 1000000 in
/-- The array of hidden rows. -/
theorem arr3_14 (c : Dev nD) : (dat3 V c).arrAt 14 cfg3.N = fun j : S16384x1024.Idx => hidA V c (j 0) (j 1) := by
  refine (dat3 V c).arrAt_eq_of_covers 14 _ (by decide +kernel) fun t hf y => ?_
  have ht := N64 t
  blk_simp
  rw [after3_14]
  idx_vars y
  refine (out3_14_eq ..).trans ?_
  rw [hid_eq]
  refine congrArg₂ (hidA V c) (Fin.ext ?_) (Fin.ext ?_)
  · unfold row3; blk_simp [idx3_14]
  · blk_simp [idx3_14]

/-- The array of keys. -/
theorem arr3_15 (c : Dev nD) : (dat3 V c).arrAt 15 cfg3.N = projRows 0 (by omega) (hidA V c)
    (mat (V c (Pipeline.arrRef spec3 5)) 0) (mat (m := 1024) (V c (Pipeline.arrRef spec3 10))) := by
  refine (dat3 V c).arrAt_eq_of_covers 15 _ (by decide +kernel) fun t hf y => ?_
  have ht := N64 t
  blk_simp
  rw [after3_15]
  idx_vars y
  refine (out3_15_eq ..).trans ?_
  rw [hid_eq, read3_5, read3_10]
  refine projOf_congr (fun k => congrArg (hidA V c · k) (Fin.ext ?_)) (fun k => rfl) (fun k j => rfl) ?_
  · unfold row3; blk_simp [idx3_15]
  · blk_simp [idx3_15]

/-- The array of gates. -/
theorem arr3_18 (c : Dev nD) : (dat3 V c).arrAt 18 cfg3.N = projRows 0 (by omega) (hidA V c)
    (mat (V c (Pipeline.arrRef spec3 6)) 0) (mat (m := 1024) (V c (Pipeline.arrRef spec3 13))) := by
  refine (dat3 V c).arrAt_eq_of_covers 18 _ (by decide +kernel) fun t hf y => ?_
  have ht := N64 t
  blk_simp
  rw [after3_18]
  idx_vars y
  refine (out3_18_eq ..).trans ?_
  rw [hid_eq, read3_6, read3_13]
  refine projOf_congr (fun k => congrArg (hidA V c · k) (Fin.ext ?_)) (fun k => rfl) (fun k j => rfl) ?_
  · unfold row3; blk_simp [idx3_18]
  · blk_simp [idx3_18]

set_option maxHeartbeats 1000000 in
/-- The array of values, written across. -/
theorem arr3_16 (c : Dev nD) : (dat3 V c).arrAt 16 cfg3.N = projCols 0 (by omega) (hidA V c)
    (mat (V c (Pipeline.arrRef spec3 5)) 0) (mat (n := 1024) (V c (Pipeline.arrRef spec3 11))) := by
  refine (dat3 V c).arrAt_eq_of_covers 16 _ (by decide +kernel) fun t hf y => ?_
  have ht := N64 t
  blk_simp
  rw [after3_16]
  idx_vars y
  obtain rfl : y0 = 0 := Fin.ext (by omega)
  refine (out3_16_eq ..).trans ?_
  rw [hid_eq, read3_5, read3_11]
  refine projT_congr (fun k => congrArg (hidA V c · k) (Fin.ext ?_)) (fun k => rfl) (fun k j => rfl) ?_
  · unfold row3; blk_simp [idx3_16]; rfl
  · blk_simp [idx3_16]

set_option maxHeartbeats 1000000 in
/-- The array of queries, written across and scaled. -/
theorem arr3_17 (c : Dev nD) : (dat3 V c).arrAt 17 cfg3.N = fun j => projCols 0 (by omega) (hidA V c)
    (mat (V c (Pipeline.arrRef spec3 6)) 0) (mat (n := 1024) (V c (Pipeline.arrRef spec3 12))) j * scale := by
  refine (dat3 V c).arrAt_eq_of_covers 17 _ (by decide +kernel) fun t hf y => ?_
  have ht := N64 t
  blk_simp
  rw [after3_17]
  idx_vars y
  obtain rfl : y0 = 0 := Fin.ext (by omega)
  refine (out3_17_eq ..).trans ?_
  rw [hid_eq, read3_6, read3_12]
  refine congrArg (· * scale) (projT_congr (fun k => congrArg (hidA V c · k) (Fin.ext ?_)) (fun k => rfl) (fun k j => rfl) ?_)
  · unfold row3; blk_simp [idx3_17]; rfl
  · blk_simp [idx3_17]
end Cert.KernelIdeal.Value
end
-- ==== Proof.BiasArray.lean ====
module
public import proofs.«01_k».proof.Proof.Bucket
public import proofs.«01_k».proof.Proof.ProjArray
public import proofs.«01_k».proof.Proof.Gen.KernelIdeal.Frame.Region0
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem

/-! The two result arrays of the bias call: the near biases relative to the farthest, and the mixing weight. -/

namespace Cert.KernelIdeal.Value
open Cert.KernelIdeal Cert.KernelIdeal.Gen Layer
open Idealize.ShloMosaic.Pipeline (Dat)

/-- The distance of a query from a key at or before it. -/
theorem dist_word (k q : Fin 256) (h : k ≤ q) :
    IntOp.addi (IntOp.subi (BitVec.ofNat 32 q.val) (BitVec.ofNat 32 k.val)) 0#32 = BitVec.ofNat 32 (q.val - k.val) := by
  have h' : k.val ≤ q.val := h
  apply BitVec.eq_of_toNat_eq
  simp only [IntOp.addi, IntOp.subi, BitVec.toNat_add, BitVec.toNat_sub, BitVec.toNat_ofNat]
  omega

theorem dist_word' (k q : Fin 256) :
    IntOp.addi (IntOp.subi (BitVec.ofNat 32 q.val) (BitVec.ofNat 32 k.val)) 256#32 = BitVec.ofNat 32 (q.val + 256 - k.val) := by
  apply BitVec.eq_of_toNat_eq
  simp only [IntOp.addi, IntOp.subi, BitVec.toNat_add, BitVec.toNat_sub, BitVec.toNat_ofNat]
  omega

theorem sge_nonneg (n : ℕ) (hn : n < 2 ^ 31) : IntOp.cmpi .sge (BitVec.ofNat 32 n) 0#32 = 1#1 := by
  rw [WordCmp.cmpi_sge_ofNat (by omega) (by omega), decide_eq_true (by omega)]
  rfl

theorem sge_neg (k q : Fin 256) (h : ¬ k ≤ q) :
    IntOp.cmpi .sge (IntOp.addi (IntOp.subi (BitVec.ofNat 32 q.val) (BitVec.ofNat 32 k.val)) 0#32) 0#32 = 0#1 := by
  have h' : q.val < k.val := by
    by_contra g
    exact h (show k.val ≤ q.val by omega)
  have e : (IntOp.addi (IntOp.subi (BitVec.ofNat 32 q.val) (BitVec.ofNat 32 k.val)) 0#32).toNat = 2 ^ 32 + q.val - k.val := by
    simp only [IntOp.addi, IntOp.subi, BitVec.toNat_add, BitVec.toNat_sub, BitVec.toNat_ofNat]
    omega
  have e2 : (IntOp.addi (IntOp.subi (BitVec.ofNat 32 q.val) (BitVec.ofNat 32 k.val)) 0#32).toInt < 0 := by
    rw [BitVec.toInt_eq_toNat_cond, e]
    split <;> omega
  generalize IntOp.addi (IntOp.subi (BitVec.ofNat 32 q.val) (BitVec.ofNat 32 k.val)) 0#32 = x at e2
  show BitVec.ofBool (BitVec.sle 0#32 x) = 0#1
  have e3 : BitVec.sle 0#32 x = false := by
    unfold BitVec.sle
    exact decide_eq_false (by rw [BitVec.toInt_zero]; omega)
  rw [e3]
  rfl

theorem mask_bot : (Named.named (F := Ideal) (φ := .f32) κ "mask" 0xF149F2CA#32 : EReal) = ⊥ := rfl

/-- The buckets of the words. -/
theorem k0_pay4_eq (k q : Fin 256) : k0_pay4 (F := Ideal) (ix2 k q)
    = bucketW (IntOp.addi (IntOp.subi (BitVec.ofNat 32 q.val) (BitVec.ofNat 32 k.val)) 0#32) := by
  unfold bucketW
  pointwise [k0_pay4, k0_pay3]

theorem k0_pay16_eq (v0 v1 : IVec S256x256 32) (k q : Fin 256) : k0_pay16 (F := Ideal) v0 v1 (ix2 k q)
    = bucketW (IntOp.addi (IntOp.subi (v1 (ix2 k q)) (v0 (ix2 k q))) 256#32) := by
  unfold bucketW
  pointwise [k0_pay16, k0_pay15]

variable (t : Fin 32 → EReal)

/-- The table's entry selected by comparing with every bucket. -/
theorem pick0 (k q : Fin 256) (n : Fin 32) (hn : k0_pay4 (F := Ideal) (ix2 k q) = BitVec.ofNat 32 n.val) :
    k0_pay11 (F := Ideal) (k0_pay4 (F := Ideal)) (k0_pay10 (F := Ideal) (k0_pay4 (F := Ideal)) (k0_pay8 (F := Ideal) (k0_pay4 (F := Ideal)) (k0_pay7 (F := Ideal) (k0_pay4 (F := Ideal)) (k0_pay5 (F := Ideal) (t 0) (t 1)) (k0_pay6 (F := Ideal))
      (t 2) (t 3) (t 4) (t 5) (t 6) (t 7) (t 8) (t 9)) (t 10) (t 11) (t 12) (t 13) (t 14) (t 15) (t 16)) (k0_pay9 (k0_pay4 (F := Ideal)))
      (t 17) (t 18) (t 19) (t 20) (t 21) (t 22) (t 23) (t 24)) (t 25) (t 26) (t 27) (t 28) (t 29) (t 30) (t 31) (ix2 k q) = t n := by
  pointwise [k0_pay11, k0_pay10, k0_pay8, k0_pay7, k0_pay5, k0_pay6, k0_pay9]
  simp only [hn]
  obtain ⟨n, h⟩ := n
  clear hn
  interval_cases n <;> rfl

theorem pick1 (v0 v1 : IVec S256x256 32) (k q : Fin 256) (n : Fin 32) (hn : k0_pay16 (F := Ideal) v0 v1 (ix2 k q) = BitVec.ofNat 32 n.val) :
    select (k0_pay26 (k0_pay16 (F := Ideal) v0 v1)) (broadcast S256x256 (t 31)) (k0_pay25 (F := Ideal) (k0_pay16 (F := Ideal) v0 v1) (k0_pay23 (F := Ideal) (k0_pay16 (F := Ideal) v0 v1) (k0_pay21 (F := Ideal) (k0_pay16 (F := Ideal) v0 v1) (k0_pay19 (F := Ideal) (k0_pay16 (F := Ideal) v0 v1) (k0_pay17 (F := Ideal) v0 v1 (t 0))
      (k0_pay18 (F := Ideal) v0 v1) (t 1) (t 2) (t 3) (t 4) (t 5) (t 6) (t 7) (t 8)) k0_pay20 (t 9) (t 10) (t 11) (t 12) (t 13) (t 14) (t 15))
      (k0_pay22 (k0_pay16 (F := Ideal) v0 v1)) (t 16) (t 17) (t 18) (t 19) (t 20) (t 21) (t 22) (t 23)) k0_pay24
      (t 24) (t 25) (t 26) (t 27) (t 28) (t 29) (t 30)) (ix2 k q) = t n := by
  pointwise [k0_pay25, k0_pay23, k0_pay21, k0_pay19, k0_pay17, k0_pay18, k0_pay20, k0_pay22, k0_pay24, k0_pay26]
  simp only [hn]
  obtain ⟨n, h⟩ := n
  clear hn
  interval_cases n <;> rfl

section Run
variable (c : Dev nD) (i : grid0.Coords) (arg1 : Memref sig .tc .smem S32x8 .f32) (harg1 : arg1.IsWhole)
  (arg2 : Memref sig .tc .vmem S4x64 .f32) (harg2 : arg2.IsWhole) (arg3 : Memref sig .tc .vmem S1x2x256x256 .f32)
  (harg3 : arg3.IsWhole) (arg4 : Memref sig .tc .vmem S8x128 .f32) (harg4 : arg4.IsWhole)
  (x0 : Vec Ideal S32x8 .f32) (x1 : Vec Ideal S4x64 .f32)

/-- The table entry read by the step. -/
theorem load_row (n : Fin 32) (off : Fin 2 → ℕ) (h) (h0 : off = ![n.val, (i 0).val]) :
    View.readAt (Elt Ideal) arg1.view (Rect.unit (s := S32x8) off S1x1.size h).toLoadRect (harg1.unread x0) (Shape.Idx.first (numel1_S1x1 ▸ Nat.one_pos))
      = x0 (ix2 n ⟨(i 0).val, (i 0).isLt⟩) := by
  subst h0
  rw [Memref.IsWhole.readAt_unread harg1]
  refine congrArg x0 (funext fun a => ?_)
  fin_cases a
  · exact Fin.ext (show n.val + 1 * 0 = n.val by omega)
  · exact Fin.ext (show (i 0).val + 1 * 0 = (i 0).val by omega)

theorem off_1 : ∀ i : grid0.Coords, k0_off1 i = ![31, (i 0).val] := by decide +kernel
theorem off_2 : ∀ i : grid0.Coords, k0_off2 i = ![0, (i 0).val] := by decide +kernel
theorem off_3 : ∀ i : grid0.Coords, k0_off3 i = ![1, (i 0).val] := by decide +kernel
theorem off_4 : ∀ i : grid0.Coords, k0_off4 i = ![2, (i 0).val] := by decide +kernel
theorem off_5 : ∀ i : grid0.Coords, k0_off5 i = ![3, (i 0).val] := by decide +kernel
theorem off_6 : ∀ i : grid0.Coords, k0_off6 i = ![4, (i 0).val] := by decide +kernel
theorem off_7 : ∀ i : grid0.Coords, k0_off7 i = ![5, (i 0).val] := by decide +kernel
theorem off_8 : ∀ i : grid0.Coords, k0_off8 i = ![6, (i 0).val] := by decide +kernel
theorem off_9 : ∀ i : grid0.Coords, k0_off9 i = ![7, (i 0).val] := by decide +kernel
theorem off_10 : ∀ i : grid0.Coords, k0_off10 i = ![8, (i 0).val] := by decide +kernel
theorem off_11 : ∀ i : grid0.Coords, k0_off11 i = ![9, (i 0).val] := by decide +kernel
theorem off_12 : ∀ i : grid0.Coords, k0_off12 i = ![10, (i 0).val] := by decide +kernel
theorem off_13 : ∀ i : grid0.Coords, k0_off13 i = ![11, (i 0).val] := by decide +kernel
theorem off_14 : ∀ i : grid0.Coords, k0_off14 i = ![12, (i 0).val] := by decide +kernel
theorem off_15 : ∀ i : grid0.Coords, k0_off15 i = ![13, (i 0).val] := by decide +kernel
theorem off_16 : ∀ i : grid0.Coords, k0_off16 i = ![14, (i 0).val] := by decide +kernel
theorem off_17 : ∀ i : grid0.Coords, k0_off17 i = ![15, (i 0).val] := by decide +kernel
theorem off_18 : ∀ i : grid0.Coords, k0_off18 i = ![16, (i 0).val] := by decide +kernel
theorem off_19 : ∀ i : grid0.Coords, k0_off19 i = ![17, (i 0).val] := by decide +kernel
theorem off_20 : ∀ i : grid0.Coords, k0_off20 i = ![18, (i 0).val] := by decide +kernel
theorem off_21 : ∀ i : grid0.Coords, k0_off21 i = ![19, (i 0).val] := by decide +kernel
theorem off_22 : ∀ i : grid0.Coords, k0_off22 i = ![20, (i 0).val] := by decide +kernel
theorem off_23 : ∀ i : grid0.Coords, k0_off23 i = ![21, (i 0).val] := by decide +kernel
theorem off_24 : ∀ i : grid0.Coords, k0_off24 i = ![22, (i 0).val] := by decide +kernel
theorem off_25 : ∀ i : grid0.Coords, k0_off25 i = ![23, (i 0).val] := by decide +kernel
theorem off_26 : ∀ i : grid0.Coords, k0_off26 i = ![24, (i 0).val] := by decide +kernel
theorem off_27 : ∀ i : grid0.Coords, k0_off27 i = ![25, (i 0).val] := by decide +kernel
theorem off_28 : ∀ i : grid0.Coords, k0_off28 i = ![26, (i 0).val] := by decide +kernel
theorem off_29 : ∀ i : grid0.Coords, k0_off29 i = ![27, (i 0).val] := by decide +kernel
theorem off_30 : ∀ i : grid0.Coords, k0_off30 i = ![28, (i 0).val] := by decide +kernel
theorem off_31 : ∀ i : grid0.Coords, k0_off31 i = ![29, (i 0).val] := by decide +kernel
theorem off_32 : ∀ i : grid0.Coords, k0_off32 i = ![30, (i 0).val] := by decide +kernel

theorem reg_r : kernelRun0_A.sl.r c i arg1 harg1 x0 = x0 (ix2 31 ⟨(i 0).val, (i 0).isLt⟩) :=
  load_row i arg1 harg1 x0 31 _ _ (off_1 i)
theorem reg_r_1 : kernelRun0_A.sl.r_1 c i arg1 harg1 x0 = x0 (ix2 0 ⟨(i 0).val, (i 0).isLt⟩) :=
  load_row i arg1 harg1 x0 0 _ _ (off_2 i)
theorem reg_r_2 : kernelRun0_A.sl.r_2 c i arg1 harg1 x0 = x0 (ix2 1 ⟨(i 0).val, (i 0).isLt⟩) :=
  load_row i arg1 harg1 x0 1 _ _ (off_3 i)
theorem reg_r_4 : kernelRun0_A.sl.r_4 c i arg1 harg1 x0 = x0 (ix2 2 ⟨(i 0).val, (i 0).isLt⟩) :=
  load_row i arg1 harg1 x0 2 _ _ (off_4 i)
theorem reg_r_5 : kernelRun0_A.sl.r_5 c i arg1 harg1 x0 = x0 (ix2 3 ⟨(i 0).val, (i 0).isLt⟩) :=
  load_row i arg1 harg1 x0 3 _ _ (off_5 i)
theorem reg_r_6 : kernelRun0_A.sl.r_6 c i arg1 harg1 x0 = x0 (ix2 4 ⟨(i 0).val, (i 0).isLt⟩) :=
  load_row i arg1 harg1 x0 4 _ _ (off_6 i)
theorem reg_r_7 : kernelRun0_A.sl.r_7 c i arg1 harg1 x0 = x0 (ix2 5 ⟨(i 0).val, (i 0).isLt⟩) :=
  load_row i arg1 harg1 x0 5 _ _ (off_7 i)
theorem reg_r_8 : kernelRun0_A.sl.r_8 c i arg1 harg1 x0 = x0 (ix2 6 ⟨(i 0).val, (i 0).isLt⟩) :=
  load_row i arg1 harg1 x0 6 _ _ (off_8 i)
theorem reg_r_9 : kernelRun0_A.sl.r_9 c i arg1 harg1 x0 = x0 (ix2 7 ⟨(i 0).val, (i 0).isLt⟩) :=
  load_row i arg1 harg1 x0 7 _ _ (off_9 i)
theorem reg_r_10 : kernelRun0_A.sl.r_10 c i arg1 harg1 x0 = x0 (ix2 8 ⟨(i 0).val, (i 0).isLt⟩) :=
  load_row i arg1 harg1 x0 8 _ _ (off_10 i)
theorem reg_r_11 : kernelRun0_A.sl.r_11 c i arg1 harg1 x0 = x0 (ix2 9 ⟨(i 0).val, (i 0).isLt⟩) :=
  load_row i arg1 harg1 x0 9 _ _ (off_11 i)
theorem reg_r_13 : kernelRun0_A.sl.r_13 c i arg1 harg1 x0 = x0 (ix2 10 ⟨(i 0).val, (i 0).isLt⟩) :=
  load_row i arg1 harg1 x0 10 _ _ (off_12 i)
theorem reg_r_14 : kernelRun0_A.sl.r_14 c i arg1 harg1 x0 = x0 (ix2 11 ⟨(i 0).val, (i 0).isLt⟩) :=
  load_row i arg1 harg1 x0 11 _ _ (off_13 i)
theorem reg_r_15 : kernelRun0_A.sl.r_15 c i arg1 harg1 x0 = x0 (ix2 12 ⟨(i 0).val, (i 0).isLt⟩) :=
  load_row i arg1 harg1 x0 12 _ _ (off_14 i)
theorem reg_r_16 : kernelRun0_A.sl.r_16 c i arg1 harg1 x0 = x0 (ix2 13 ⟨(i 0).val, (i 0).isLt⟩) :=
  load_row i arg1 harg1 x0 13 _ _ (off_15 i)
theorem reg_r_17 : kernelRun0_A.sl.r_17 c i arg1 harg1 x0 = x0 (ix2 14 ⟨(i 0).val, (i 0).isLt⟩) :=
  load_row i arg1 harg1 x0 14 _ _ (off_16 i)
theorem reg_r_18 : kernelRun0_A.sl.r_18 c i arg1 harg1 x0 = x0 (ix2 15 ⟨(i 0).val, (i 0).isLt⟩) :=
  load_row i arg1 harg1 x0 15 _ _ (off_17 i)
theorem reg_r_19 : kernelRun0_A.sl.r_19 c i arg1 harg1 x0 = x0 (ix2 16 ⟨(i 0).val, (i 0).isLt⟩) :=
  load_row i arg1 harg1 x0 16 _ _ (off_18 i)
theorem reg_r_22 : kernelRun0_A.sl.r_22 c i arg1 harg1 x0 = x0 (ix2 17 ⟨(i 0).val, (i 0).isLt⟩) :=
  load_row i arg1 harg1 x0 17 _ _ (off_19 i)
theorem reg_r_23 : kernelRun0_A.sl.r_23 c i arg1 harg1 x0 = x0 (ix2 18 ⟨(i 0).val, (i 0).isLt⟩) :=
  load_row i arg1 harg1 x0 18 _ _ (off_20 i)
theorem reg_r_24 : kernelRun0_A.sl.r_24 c i arg1 harg1 x0 = x0 (ix2 19 ⟨(i 0).val, (i 0).isLt⟩) :=
  load_row i arg1 harg1 x0 19 _ _ (off_21 i)
theorem reg_r_25 : kernelRun0_A.sl.r_25 c i arg1 harg1 x0 = x0 (ix2 20 ⟨(i 0).val, (i 0).isLt⟩) :=
  load_row i arg1 harg1 x0 20 _ _ (off_22 i)
theorem reg_r_26 : kernelRun0_A.sl.r_26 c i arg1 harg1 x0 = x0 (ix2 21 ⟨(i 0).val, (i 0).isLt⟩) :=
  load_row i arg1 harg1 x0 21 _ _ (off_23 i)
theorem reg_r_27 : kernelRun0_A.sl.r_27 c i arg1 harg1 x0 = x0 (ix2 22 ⟨(i 0).val, (i 0).isLt⟩) :=
  load_row i arg1 harg1 x0 22 _ _ (off_24 i)
theorem reg_r_28 : kernelRun0_A.sl.r_28 c i arg1 harg1 x0 = x0 (ix2 23 ⟨(i 0).val, (i 0).isLt⟩) :=
  load_row i arg1 harg1 x0 23 _ _ (off_25 i)
theorem reg_r_29 : kernelRun0_A.sl.r_29 c i arg1 harg1 x0 = x0 (ix2 24 ⟨(i 0).val, (i 0).isLt⟩) :=
  load_row i arg1 harg1 x0 24 _ _ (off_26 i)
theorem reg_r_31 : kernelRun0_A.sl.r_31 c i arg1 harg1 x0 = x0 (ix2 25 ⟨(i 0).val, (i 0).isLt⟩) :=
  load_row i arg1 harg1 x0 25 _ _ (off_27 i)
theorem reg_r_32 : kernelRun0_A.sl.r_32 c i arg1 harg1 x0 = x0 (ix2 26 ⟨(i 0).val, (i 0).isLt⟩) :=
  load_row i arg1 harg1 x0 26 _ _ (off_28 i)
theorem reg_r_33 : kernelRun0_A.sl.r_33 c i arg1 harg1 x0 = x0 (ix2 27 ⟨(i 0).val, (i 0).isLt⟩) :=
  load_row i arg1 harg1 x0 27 _ _ (off_29 i)
theorem reg_r_34 : kernelRun0_A.sl.r_34 c i arg1 harg1 x0 = x0 (ix2 28 ⟨(i 0).val, (i 0).isLt⟩) :=
  load_row i arg1 harg1 x0 28 _ _ (off_30 i)
theorem reg_r_35 : kernelRun0_A.sl.r_35 c i arg1 harg1 x0 = x0 (ix2 29 ⟨(i 0).val, (i 0).isLt⟩) :=
  load_row i arg1 harg1 x0 29 _ _ (off_31 i)
theorem reg_r_36 : kernelRun0_A.sl.r_36 c i arg1 harg1 x0 = x0 (ix2 30 ⟨(i 0).val, (i 0).isLt⟩) :=
  load_row i arg1 harg1 x0 30 _ _ (off_32 i)

/-- The rectangles of the two stores. -/
def rect0 : Rect S1x2x256x256 := Rect.unit ![0, 0, 0, 0] S1x1x256x256.size inb_S1x2x256x256_S1x1x256x256_0_0_0_0
def rect1 : Rect S1x2x256x256 := Rect.unit ![0, 1, 0, 0] S1x1x256x256.size inb_S1x2x256x256_S1x1x256x256_0_1_0_0

/-- Two stores into the halves of the second dimension, read at an element of either. -/
theorem canon_halves (P Q : Vec Ideal S1x1x256x256 .f32) (b : Fin 2) (k q : Fin 256) :
    View.canon (Val := Elt Ideal) [⟨rect1, P⟩, ⟨rect0, Q⟩] (ix4 0 b k q) = if b = 0 then Q (ix4 0 0 k q) else P (ix4 0 0 k q) := by
  fin_cases b
  · have h0 : (ix4 0 0 k q : S1x2x256x256.Idx) = rect0.emb (ix4 0 0 k q : S1x1x256x256.Idx) := by
      funext x
      fin_cases x
      · exact Fin.ext (show 0 = 0 + 1 * 0 by omega)
      · exact Fin.ext (show 0 = 0 + 1 * 0 by omega)
      · exact Fin.ext (show k.val = 0 + 1 * k.val by omega)
      · exact Fin.ext (show q.val = 0 + 1 * q.val by omega)
    refine (View.canon_cons_of_not_mem _ _ ?_).trans ?_
    · unfold rect1
      rw [Rect.mem_set_unit]
      intro h
      have h1 : (1 : ℕ) ≤ 0 := (h 1).1
      omega
    · refine (congrArg _ h0).trans ((View.canon_cons_emb rect0 Q [] _).trans ?_)
      rfl
  · have h0 : (ix4 0 1 k q : S1x2x256x256.Idx) = rect1.emb (ix4 0 0 k q : S1x1x256x256.Idx) := by
      funext x
      fin_cases x
      · exact Fin.ext (show 0 = 0 + 1 * 0 by omega)
      · exact Fin.ext (show 1 = 1 + 1 * 0 by omega)
      · exact Fin.ext (show k.val = 0 + 1 * k.val by omega)
      · exact Fin.ext (show q.val = 0 + 1 * q.val by omega)
    refine (congrArg _ h0).trans ((View.canon_cons_emb rect1 P _ _).trans ?_)
    rfl

/-- The next block's element. -/
theorem k0_pay1_eq (s u : EReal) (v0 v1 : IVec S256x256 32) (P : FVec Ideal S256x256 .f32) (e : IVec S256x256 1) (k q : Fin 256)
    (h0 : v0 (ix2 k q) = BitVec.ofNat 32 k.val) (h1 : v1 (ix2 k q) = BitVec.ofNat 32 q.val) :
    k0_pay1 s (k0_pay15 v0 v1) P e u (ix4 0 0 k q) = select e (broadcast S256x256 u) P (ix2 k q) - s := by
  have h : k0_pay1 s (k0_pay15 v0 v1) P e u (ix4 0 0 k q) = Scalar.select (IntOp.cmpi .sge (IntOp.addi (IntOp.subi (v1 (ix2 k q)) (v0 (ix2 k q))) 256#32) 0#32)
      (select e (broadcast S256x256 u) P (ix2 k q) - s) (Named.named (F := Ideal) (φ := .f32) κ "mask" 0xF149F2CA#32 : EReal) := by
    pointwise [k0_pay1, k0_pay15]
  rw [h, h0, h1, dist_word' k q, sge_nonneg _ (by omega)]
  rfl

/-- The near block's element. -/
theorem k0_pay14_eq (P : FVec Ideal S256x256 .f32) (s : EReal) (k q : Fin 256) :
    k0_pay14 P (k0_pay12 k0_pay3) (k0_pay13 s) (ix4 0 0 k q) = if k ≤ q then P (ix2 k q) - s else ⊥ := by
  have h : k0_pay14 P (k0_pay12 k0_pay3) (k0_pay13 s) (ix4 0 0 k q) = Scalar.select (IntOp.cmpi .sge (IntOp.addi (IntOp.subi (BitVec.ofNat 32 q.val) (BitVec.ofNat 32 k.val)) 0#32) 0#32)
      (P (ix2 k q) - s) (Named.named (F := Ideal) (φ := .f32) κ "mask" 0xF149F2CA#32 : EReal) := by
    pointwise [k0_pay14, k0_pay12, k0_pay13, k0_pay3]
  rw [h]
  by_cases g : k ≤ q
  · rw [dist_word k q g, sge_nonneg _ (by omega), if_pos g]
    rfl
  · rw [sge_neg k q g, if_neg g]
    rfl

theorem out0_near (k q : Fin 256) : out0_A_2 c i arg1 harg1 arg2 harg2 arg3 harg3 arg4 harg4 x0 x1 (ix4 0 0 k q)
    = if k ≤ q then x0 (ix2 (bucket (q - k)) ⟨(i 0).val, (i 0).isLt⟩) - x0 (ix2 31 ⟨(i 0).val, (i 0).isLt⟩) else ⊥ := by
  unfold out0_A_2
  rw [View.read_writes_eq_canon _ _ _ (cover0_A_2 c i arg1 harg1 arg2 harg2 arg3 harg3 arg4 harg4 x0 x1)]
  unfold kernelRun0_A
  dsimp only
  unfold kernelRun0_A.sl.r_37 kernelRun0_A.sl.r_38 kernelRun0_A.sl.r_30 kernelRun0_A.sl.r_21 kernelRun0_A.sl.r_20 kernelRun0_A.sl.r_12 kernelRun0_A.sl.r_3
  simp only [reg_r, reg_r_1, reg_r_2, reg_r_4, reg_r_5, reg_r_6, reg_r_7, reg_r_8, reg_r_9, reg_r_10, reg_r_11, reg_r_13, reg_r_14, reg_r_15, reg_r_16, reg_r_17, reg_r_18, reg_r_19, reg_r_22, reg_r_23, reg_r_24, reg_r_25, reg_r_26, reg_r_27, reg_r_28, reg_r_29, reg_r_31, reg_r_32, reg_r_33, reg_r_34, reg_r_35, reg_r_36]
  refine (canon_halves _ _ 0 k q).trans ?_
  rw [if_pos rfl]
  rw [k0_pay14_eq]
  by_cases g : k ≤ q
  · rw [if_pos g, if_pos g, pick0 (fun n => x0 (ix2 n ⟨(i 0).val, (i 0).isLt⟩)) k q (bucket (q.val - k.val)) (by rw [k0_pay4_eq, dist_word k q g, bucketW_eq _ (by omega)])]
  · rw [if_neg g, if_neg g]

theorem out0_next (k q : Fin 256) : out0_A_2 c i arg1 harg1 arg2 harg2 arg3 harg3 arg4 harg4 x0 x1 (ix4 0 1 k q)
    = x0 (ix2 (bucket (q + 256 - k)) ⟨(i 0).val, (i 0).isLt⟩) - x0 (ix2 31 ⟨(i 0).val, (i 0).isLt⟩) := by
  unfold out0_A_2
  rw [View.read_writes_eq_canon _ _ _ (cover0_A_2 c i arg1 harg1 arg2 harg2 arg3 harg3 arg4 harg4 x0 x1)]
  unfold kernelRun0_A
  dsimp only
  unfold kernelRun0_A.sl.r_44 kernelRun0_A.sl.r_45 kernelRun0_A.sl.r_43 kernelRun0_A.sl.r_42 kernelRun0_A.sl.r_41 kernelRun0_A.sl.r_40 kernelRun0_A.sl.r_39
  simp only [reg_r, reg_r_1, reg_r_2, reg_r_4, reg_r_5, reg_r_6, reg_r_7, reg_r_8, reg_r_9, reg_r_10, reg_r_11, reg_r_13, reg_r_14, reg_r_15, reg_r_16, reg_r_17, reg_r_18, reg_r_19, reg_r_22, reg_r_23, reg_r_24, reg_r_25, reg_r_26, reg_r_27, reg_r_28, reg_r_29, reg_r_31, reg_r_32, reg_r_33, reg_r_34, reg_r_35, reg_r_36]
  refine (canon_halves _ _ 1 k q).trans ?_
  rw [if_neg (by decide)]
  have h0 : kernelRun0_A.sl.v0 (ix2 k q) = BitVec.ofNat 32 k.val := by
    unfold kernelRun0_A.sl.v0
    pointwise []
  have h1 : kernelRun0_A.sl.v1 (ix2 k q) = BitVec.ofNat 32 q.val := by
    unfold kernelRun0_A.sl.v1
    pointwise []
  have hw : k0_pay16 (F := Ideal) kernelRun0_A.sl.v0 kernelRun0_A.sl.v1 (ix2 k q) = BitVec.ofNat 32 (bucket (q.val + 256 - k.val)).val := by
    rw [k0_pay16_eq, h0, h1, dist_word' k q, bucketW_eq _ (by omega)]
  rw [k0_pay1_eq _ _ _ _ _ _ _ _ h0 h1, pick1 (fun n => x0 (ix2 n ⟨(i 0).val, (i 0).isLt⟩)) _ _ k q _ hw]

theorem out0_lam (a : Fin 8) (b : Fin 128) : out0_A_3 c i arg1 harg1 arg2 harg2 arg3 harg3 arg4 harg4 x0 x1 (ix2 a b)
    = Ideal.exp (∑ k, x1 (ix2 0 k) * x1 (ix2 1 k)) - Ideal.exp (∑ k, x1 (ix2 2 k) * x1 (ix2 3 k)) + Ideal.ofBits .f32 0x3EB60549#32 := by
  unfold out0_A_3
  rw [View.read_writes_eq_canon _ _ _ (cover0_A_3 c i arg1 harg1 arg2 harg2 arg3 harg3 arg4 harg4 x0 x1)]
  unfold kernelRun0_A
  dsimp only
  rw [View.canon_unit_zero (S := S8x128) zero2]
  have e : View.readAt (Elt Ideal) arg2.view (Rect.unit (s := S4x64) ![0, 0] ![4, 64] inb_S4x64_S4x64_0_0).toLoadRect (harg2.unread x1) = x1 :=
    (congrArg (fun X => View.ld X (Rect.unit (s := S4x64) ![0, 0] ![4, 64] inb_S4x64_S4x64_0_0)) (harg2.read_unread x1)).trans (View.ld_unit_zero zero2 _ x1)
  refine (congrArg (fun X => k0_pay2 (F := Ideal) X (ix2 a b)) e).trans ?_
  pointwise [k0_pay2]
end Run

variable (V : (c : Dev nD) → (b : Ref sig .tc) → Buf (Elt Ideal) ((c : Thread nD τ).loc b))

theorem idx0_0 : ∀ t : Fin grid0.N, win0_0.index t = ![0, 0] := by decide +kernel
theorem idx0_1 : ∀ t : Fin grid0.N, win0_1.index t = ![0, 0] := by decide +kernel
theorem idx0_2 : ∀ t : Fin grid0.N, win0_2.index t = ![t.val, 0, 0, 0] := by decide +kernel
theorem idx0_3 : ∀ t : Fin grid0.N, win0_3.index t = ![0, 0] := by decide +kernel
theorem coords0 : ∀ t : Fin grid0.N, (grid0.coords t 0).val = t.val := by decide +kernel

theorem read0_0 (c : Dev nD) (t : Fin cfg0.N) (n : Fin 32) (h : Fin 8) :
    iblk0 V c 0 t (ix2 n h) = V c (Pipeline.arrRef spec0 0) (ix2 n h) := by
  blk_ext [iblk0, idx0_0]
theorem read0_1 (c : Dev nD) (t : Fin cfg0.N) (n : Fin 4) (y : Fin 64) :
    iblk0 V c 1 t (ix2 n y) = V c (Pipeline.arrRef spec0 1) (ix2 n y) := by
  blk_ext [iblk0, idx0_1]

/-- The near biases: within a block of keys and queries, and between it and the next. -/
def nearA (X : Fin 32 → Fin 8 → EReal) (h : Fin 8) (b : Fin 2) (k q : Fin 256) : EReal :=
  if b = 0 then (if k ≤ q then X (bucket (q - k)) h - X 31 h else ⊥) else X (bucket (q + 256 - k)) h - X 31 h

theorem outs0_0 (c : Dev nD) (t : Fin cfg0.N) (k q : Fin 256) :
    (outsAt0 V c t).1 (ix4 0 0 k q) = nearA (mat (V c (Pipeline.arrRef spec0 0))) ⟨t.val, t.isLt⟩ 0 k q := by
  have hc : (⟨(grid0.coords t 0).val, (grid0.coords t 0).isLt⟩ : Fin 8) = ⟨t.val, t.isLt⟩ := Fin.ext (coords0 t)
  unfold outsAt0 nearA mat
  dsimp only
  rw [out0_near, if_pos rfl, hc, read0_0, read0_0]

theorem outs0_1 (c : Dev nD) (t : Fin cfg0.N) (k q : Fin 256) :
    (outsAt0 V c t).1 (ix4 0 1 k q) = nearA (mat (V c (Pipeline.arrRef spec0 0))) ⟨t.val, t.isLt⟩ 1 k q := by
  have hc : (⟨(grid0.coords t 0).val, (grid0.coords t 0).isLt⟩ : Fin 8) = ⟨t.val, t.isLt⟩ := Fin.ext (coords0 t)
  unfold outsAt0 nearA mat
  dsimp only
  rw [out0_next, if_neg (by decide), hc, read0_0, read0_0]

theorem outs0_near (c : Dev nD) (t : Fin cfg0.N) (b : Fin 2) (k q : Fin 256) :
    (outsAt0 V c t).1 (ix4 0 b k q) = nearA (mat (V c (Pipeline.arrRef spec0 0))) ⟨t.val, t.isLt⟩ b k q := by
  obtain rfl | rfl : b = 0 ∨ b = 1 := by omega
  · exact outs0_0 V c t k q
  · exact outs0_1 V c t k q

theorem outs0_lam (c : Dev nD) (t : Fin cfg0.N) (a : Fin 8) (b : Fin 128) : (outsAt0 V c t).2 (ix2 a b) =
    Ideal.exp (∑ k : Fin 64, mat (n := 4) (m := 64) (V c (Pipeline.arrRef spec0 1)) 0 k * mat (n := 4) (m := 64) (V c (Pipeline.arrRef spec0 1)) 1 k)
      - Ideal.exp (∑ k : Fin 64, mat (n := 4) (m := 64) (V c (Pipeline.arrRef spec0 1)) 2 k * mat (n := 4) (m := 64) (V c (Pipeline.arrRef spec0 1)) 3 k)
      + Ideal.ofBits .f32 0x3EB60549#32 := by
  unfold outsAt0 mat
  dsimp only
  rw [out0_lam]
  simp only [read0_1]

attribute [local irreducible] nearA outsAt0

/-- The array of near biases. -/
theorem arr0_2 (c : Dev nD) : (dat0 V c).arrAt 2 cfg0.N = fun j : S8x2x256x256.Idx =>
    nearA (mat (V c (Pipeline.arrRef spec0 0))) (j 0) (j 1) (j 2) (j 3) := by
  refine (dat0 V c).arrAt_eq_of_covers 2 _ (by decide +kernel) fun t hf y => ?_
  have ht : t.val < 8 := t.isLt
  blk_simp
  rw [after0_2]
  idx_vars y
  obtain rfl : y0 = 0 := Fin.ext (by omega)
  refine (outs0_near ..).trans ?_
  congr 1
  · refine Fin.ext ?_
    blk_simp [idx0_2]
    rfl
  · refine Fin.ext ?_
    blk_simp [idx0_2]
  · refine Fin.ext ?_
    blk_simp [idx0_2]
  · refine Fin.ext ?_
    blk_simp [idx0_2]

/-- The array holding the mixing weight. -/
theorem arr0_3 (c : Dev nD) : (dat0 V c).arrAt 3 cfg0.N = fun _ : S8x128.Idx =>
    Ideal.exp (∑ k : Fin 64, mat (n := 4) (m := 64) (V c (Pipeline.arrRef spec0 1)) 0 k * mat (n := 4) (m := 64) (V c (Pipeline.arrRef spec0 1)) 1 k)
      - Ideal.exp (∑ k : Fin 64, mat (n := 4) (m := 64) (V c (Pipeline.arrRef spec0 1)) 2 k * mat (n := 4) (m := 64) (V c (Pipeline.arrRef spec0 1)) 3 k)
      + Ideal.ofBits .f32 0x3EB60549#32 := by
  refine (dat0 V c).arrAt_eq_of_covers 3 _ (by decide +kernel) fun t hf y => ?_
  have ht : t.val < 8 := t.isLt
  blk_simp
  rw [after0_3]
  idx_vars y
  exact outs0_lam V c t y0 y1
end Cert.KernelIdeal.Value
end
-- ==== Proof.KernelSecond.lean ====
module
public import proofs.«01_k».proof.Proof.KernelFirst
public import proofs.«01_k».proof.Proof.MidArray
public import proofs.«01_k».proof.Proof.BiasArray
public import proofs.«01_k».proof.Proof.DiffArray
public import proofs.«01_k».proof.Proof.Real
@[expose] public section
set_option maxRecDepth 16384
noncomputable section
open Idealize.ShloMosaic Idealize.ShloMosaic.TcCoe Idealize.SL.Sem

/-! The kernel's second layer, as a function of the arguments. -/

namespace Cert.KernelIdeal.Value
open Cert.KernelIdeal Cert.KernelIdeal.Gen Layer
variable (m : (ℓ : Loc nD τ sig) → Buf (Elt Ideal) ℓ) (ρ : Dev nD → PrngReg) (c : Dev nD)

theorem ple_gated_congr {x x' o o' g g' : Fin 1024 → EReal} {w w' : Fin 1024 → Fin 1024 → EReal} {p p' : Fin 256 → EReal}
    {r r' : Fin 1024 → EReal} {u u' : Fin 1024 → Fin 1024 → EReal} {v v' : Fin 256 → Fin 1024 → EReal}
    (hx : ∀ k, x k = x' k) (ho : ∀ k, o k = o' k) (hg : ∀ k, g k = g' k) (hw : ∀ k c, w k c = w' k c) (hp : ∀ k, p k = p' k)
    (hr : ∀ k, r k = r' k) (hu : ∀ k c, u k c = u' k c) (hv : ∀ k c, v k c = v' k c) :
    ple (gated x o g w) p r u v = ple (gated x' o' g' w') p' r' u' v' := by
  rw [funext hx, funext ho, funext hg, funext hp, funext hr, funext fun k => funext (hw k), funext fun k => funext (hu k),
    funext fun k => funext (hv k)]

theorem in3_x (T : Fin 16384) (k : Fin 1024) : mat2 16384 1024 (V6 m ρ c (Pipeline.arrRef spec3 0)) T k = (argsOf m c).x T k :=
  (congrFun (keep6_v0 m ρ c) (ix2 T k : S16384x1024.Idx)).trans (host_v0 _ T k)
theorem in3_o (T : Fin 16384) (k : Fin 1024) : mat2 16384 1024 (V6 m ρ c (Pipeline.arrRef spec3 1)) T k = oA (argsOf m c) T k :=
  (congrFun (keep6_v42 m ρ c) (ix2 T k : S16384x1024.Idx)).trans (r2_o m ρ c T k)
theorem in3_g (T : Fin 16384) (k : Fin 1024) : mat2 16384 1024 (V6 m ρ c (Pipeline.arrRef spec3 2)) T k
    = proj (argsOf m c) T ⟨3072 + k, by omega⟩ :=
  (congrFun (keep6_v41_1 m ρ c) (ix2 T k : S16384x1024.Idx)).trans (r1_g m ρ c T k)
theorem in3_p (T : Fin 16384) (k : Fin 256) : mat2 16384 256 (V6 m ρ c (Pipeline.arrRef spec3 3)) T k = (argsOf m c).p 0 T k :=
  (host_v44 (W5 m ρ c) T k).trans ((congrFun (keep5_v1 m ρ c) (ix3 0 T k : S2x16384x256.Idx)).trans (host_v1 _ 0 T k))
theorem in3_gP (k : Fin 1024) : mat2 1 1024 (V6 m ρ c (Pipeline.arrRef spec3 4)) 0 k = (argsOf m c).gP 0 k :=
  (host_v47 (W5 m ρ c) k).trans (congrFun (W5_args m ρ c main_arg12 (by decide)) (ix2 0 k : S2x1024.Idx))
theorem in3_gKV (k : Fin 1024) : mat2 1 1024 (V6 m ρ c (Pipeline.arrRef spec3 5)) 0 k = (argsOf m c).gKV k :=
  (host_v48 (W5 m ρ c) k).trans (congrFun (W5_args m ρ c main_arg5 (by decide)) (ix1 k : S1024.Idx))
theorem in3_gA (k : Fin 1024) : mat2 1 1024 (V6 m ρ c (Pipeline.arrRef spec3 6)) 0 k = (argsOf m c).gA 1 k :=
  (host_v51 (W5 m ρ c) k).trans (congrFun (W5_args m ρ c main_arg2 (by decide)) (ix2 1 k : S2x1024.Idx))
theorem in3_oA (k C : Fin 1024) : mat2 1024 1024 (V6 m ρ c (Pipeline.arrRef spec3 7)) k C = (argsOf m c).oA k C :=
  (host_v53 (W5 m ρ c) k C).trans (congrFun (W5_args m ρ c main_arg4 (by decide)) (ix3 0 k C : S1x1024x1024.Idx))
theorem in3_wG (k C : Fin 1024) : mat2 1024 1024 (V6 m ρ c (Pipeline.arrRef spec3 8)) k C = (argsOf m c).wG 0 k C :=
  (host_v56 (W5 m ρ c) k C).trans (congrFun (W5_args m ρ c main_arg14 (by decide)) (ix3 0 k C : S2x1024x1024.Idx))
theorem in3_wP (k : Fin 256) (C : Fin 1024) : mat2 256 1024 (V6 m ρ c (Pipeline.arrRef spec3 9)) k C = (argsOf m c).wP 0 k C :=
  (host_v59 (W5 m ρ c) k C).trans (congrFun (W5_args m ρ c main_arg13 (by decide)) (ix3 0 k C : S2x256x1024.Idx))

/-- The column of the reference's order at a column of the kernel's order, which puts a head's two maps side by side. -/
def colOf (C : Fin 1024) : Fin 2048 := ⟨C / 64 % 2 * 512 + (C / 128 * 64 + C % 64), by omega⟩
theorem col_split (C : Fin 1024) : C = ⟨(2 * (C / 128) + C / 64 % 2) * 64 + C % 64, by omega⟩ := Fin.ext (by dsimp only; omega)
theorem colOf_head (h : Fin 8) (d : Fin 2) (y : Fin 64) (hC : (2 * h.val + d.val) * 64 + y.val < 1024) :
    colOf ⟨(2 * h + d) * 64 + y, hC⟩ = ⟨d * 512 + (h * 64 + y), by omega⟩ := Fin.ext (by
  unfold colOf
  dsimp only
  omega)

theorem in3_wK (k C : Fin 1024) : mat2 1024 1024 (V6 m ρ c (Pipeline.arrRef spec3 10)) k C = (argsOf m c).wKV k (colOf C) :=
  (congrArg (mat2 1024 1024 (V6 m ρ c (Pipeline.arrRef spec3 10)) k) (col_split C)).trans
    ((congrFun (keep6_v25 m ρ c) (ix2 k ⟨(2 * (C / 128) + C / 64 % 2) * 64 + C % 64, by omega⟩ : S1024x1024.Idx)).trans
      (host_v25 _ k ⟨C / 128, by omega⟩ ⟨C / 64 % 2, by omega⟩ ⟨C % 64, by omega⟩))
theorem in3_wV (k C : Fin 1024) : mat2 1024 1024 (V6 m ρ c (Pipeline.arrRef spec3 11)) C k = (argsOf m c).wKV k ⟨1024 + C, by omega⟩ :=
  (congrFun (keep6_v35 m ρ c) (ix2 C k : S1024x1024.Idx)).trans (host_v35 _ k C)
theorem in3_wQ (k C : Fin 1024) : mat2 1024 1024 (V6 m ρ c (Pipeline.arrRef spec3 12)) C k = (argsOf m c).wQ k (colOf C) :=
  (congrArg (mat2 1024 1024 (V6 m ρ c (Pipeline.arrRef spec3 12)) · k) (col_split C)).trans
    ((congrFun (keep6_v33 m ρ c) (ix2 ⟨(2 * (C / 128) + C / 64 % 2) * 64 + C % 64, by omega⟩ k : S1024x1024.Idx)).trans
      (host_v33 _ k ⟨C / 128, by omega⟩ ⟨C / 64 % 2, by omega⟩ ⟨C % 64, by omega⟩))
theorem in3_wG2 (k C : Fin 1024) : mat2 1024 1024 (V6 m ρ c (Pipeline.arrRef spec3 13)) k C = (argsOf m c).wQ k ⟨1024 + C, by omega⟩ :=
  (host_v60 (W5 m ρ c) k C).trans ((congrFun (keep5_v18 m ρ c) (ix2 k C : S1024x1024.Idx)).trans (host_v18 _ k C))

/-- The rows after the first layer. -/
theorem hid_row (T : Fin 16384) : hidA (V6 m ρ) c T = h1 (argsOf m c) T := by
  unfold hidA h1 hA
  exact ple_gated_congr (in3_x m ρ c T) (in3_o m ρ c T) (in3_g m ρ c T) (in3_oA m ρ c) (in3_p m ρ c T) (in3_gP m ρ c) (in3_wG m ρ c)
    (in3_wP m ρ c)

attribute [local irreducible] hidA

theorem r3_h (T : Fin 16384) (k : Fin 1024) : mat2 16384 1024 (W7 m ρ c (Proc.devRef .tc main_v61_0)) T k = h1 (argsOf m c) T k :=
  (congrFun ((W7_arr m ρ c 14).trans (arr3_14 (V6 m ρ) c)) (ix2 T k : S16384x1024.Idx)).trans (congrFun (hid_row m ρ c T) k)
theorem r3_k (T : Fin 16384) (C : Fin 1024) : mat2 16384 1024 (W7 m ρ c (Proc.devRef .tc main_v61_1)) T C
    = kv (argsOf m c) T (colOf C) := by
  refine (congrFun ((W7_arr m ρ c 15).trans (arr3_15 (V6 m ρ) c)) (ix2 T C : S16384x1024.Idx)).trans ?_
  refine projOf_col (fun k => congrFun (hid_row m ρ c T) k) (fun k => in3_gKV m ρ c k) fun k => ?_
  refine Eq.trans ?_ (in3_wK m ρ c k C)
  exact congrArg (mat2 1024 1024 (V6 m ρ c (Pipeline.arrRef spec3 10)) k) (Fin.ext (Nat.zero_add _))
theorem r3_g (T : Fin 16384) (C : Fin 1024) : mat2 16384 1024 (W7 m ρ c (Proc.devRef .tc main_v61_4)) T C
    = qg (argsOf m c) T ⟨1024 + C, by omega⟩ := by
  refine (congrFun ((W7_arr m ρ c 18).trans (arr3_18 (V6 m ρ) c)) (ix2 T C : S16384x1024.Idx)).trans ?_
  refine projOf_col (fun k => congrFun (hid_row m ρ c T) k) (fun k => in3_gA m ρ c k) fun k => ?_
  refine Eq.trans ?_ (in3_wG2 m ρ c k C)
  exact congrArg (mat2 1024 1024 (V6 m ρ c (Pipeline.arrRef spec3 13)) k) (Fin.ext (Nat.zero_add _))
theorem r3_v (b : Fin 64) (C : Fin 1024) (r : Fin 256) :
    (W7 m ρ c (Proc.devRef .tc main_v61_2) : (⟨3, ![64, 1024, 256]⟩ : Shape).Idx → EReal) (ix3 b C r)
    = kv (argsOf m c) ⟨b * 256 + r, by omega⟩ ⟨1024 + C, by omega⟩ := by
  refine (congrFun ((W7_arr m ρ c 16).trans (arr3_16 (V6 m ρ) c)) (ix3 b C r : S64x1024x256.Idx)).trans ?_
  refine projT_col (fun k => congrFun (hid_row m ρ c _) k) (fun k => in3_gKV m ρ c k) fun k => ?_
  refine Eq.trans ?_ (in3_wV m ρ c k C)
  exact congrArg (mat2 1024 1024 (V6 m ρ c (Pipeline.arrRef spec3 11)) · k) (Fin.ext (Nat.zero_add _))
theorem r3_q (b : Fin 64) (C : Fin 1024) (r : Fin 256) :
    (W7 m ρ c (Proc.devRef .tc main_v61_3) : (⟨3, ![64, 1024, 256]⟩ : Shape).Idx → EReal) (ix3 b C r)
    = qg (argsOf m c) ⟨b * 256 + r, by omega⟩ (colOf C) * scale := by
  refine (congrFun ((W7_arr m ρ c 17).trans (arr3_17 (V6 m ρ) c)) (ix3 b C r : S64x1024x256.Idx)).trans ?_
  refine congrArg (· * scale) (projT_col (fun k => congrFun (hid_row m ρ c _) k) (fun k => in3_gA m ρ c k) fun k => ?_)
  refine Eq.trans ?_ (in3_wQ m ρ c k C)
  exact congrArg (mat2 1024 1024 (V6 m ρ c (Pipeline.arrRef spec3 12)) · k) (Fin.ext (Nat.zero_add _))

/-- The scores of a map. -/
theorem in4_z (T : Fin 16384) (h : Fin 8) (d : Fin 2) (hh : 2 * h.val + d.val < 16) (s : ℕ) :
    Stick.scoreA (V8 m ρ c (Pipeline.arrRef spec4 1)) (V8 m ρ c (Pipeline.arrRef spec4 2)) T ⟨2 * h + d, hh⟩ s
      = Layer.zB (argsOf m c) d T h s := by
  refine (score_of (q := fun T C => qg (argsOf m c) T (colOf C)) (k := fun T C => kv (argsOf m c) T (colOf C))
    (fun b C r => (congrFun (keep8_v61_3 m ρ c) (ix3 b C r : S64x1024x256.Idx)).trans (r3_q m ρ c b C r))
    (fun T C => (congrFun (keep8_v61_1 m ρ c) (ix2 T C : S16384x1024.Idx)).trans (r3_k m ρ c T C)) T _ s).trans ?_
  unfold Layer.zB
  by_cases hs : s < 8192
  · rw [dif_pos hs, dif_pos hs]
    exact Finset.sum_congr rfl fun y _ => by rw [colOf_head h d y]
  · rw [dif_neg hs, dif_neg hs]

/-- The values of a column. -/
theorem in4_v (T : Fin 16384) (C : Fin 1024) (s : ℕ) :
    Stick.valueA (V8 m ρ c (Pipeline.arrRef spec4 3)) T C s = Layer.vB (argsOf m c) T C s :=
  value_of (v := fun T C => kv (argsOf m c) T ⟨1024 + C, by omega⟩)
    (fun b C r => (congrFun (keep8_v61_2 m ρ c) (ix3 b C r : S64x1024x256.Idx)).trans (r3_v m ρ c b C r)) T C s

/-- The near biases. -/
theorem in4_b (h : Fin 8) (d : Fin 2) (x q : Fin 256) :
    (V8 m ρ c (Pipeline.arrRef spec4 4) : (⟨4, ![8, 2, 256, 256]⟩ : Shape).Idx → EReal) (ix4 h d x q) = nearA (argsOf m c).tab h d x q := by
  have e : mat2 32 8 (V1 m ρ c (Pipeline.arrRef spec0 0)) = (argsOf m c).tab :=
    funext fun n => funext fun h => congrFun (W1_args m ρ c main_arg11 (by decide)) (ix2 n h : S32x8.Idx)
  refine (congrFun (keep8_v37_0 m ρ c) (ix4 h d x q : S8x2x256x256.Idx)).trans ?_
  refine (congrFun ((W2_arr m ρ c 2).trans (arr0_2 (V1 m ρ) c)) (ix4 h d x q : S8x2x256x256.Idx)).trans ?_
  exact congrArg (nearA · h d x q) e

/-- The second map's weight. -/
theorem in4_l : (V8 m ρ c (Pipeline.arrRef spec4 0) : (⟨2, ![1, 1]⟩ : Shape).Idx → EReal) (ix2 0 0) = lam (argsOf m c) := by
  have e : ∀ a y, mat2 4 64 (V1 m ρ c (Pipeline.arrRef spec0 1)) a y = (argsOf m c).lp a y := fun a y => host_v36 _ a y
  refine (host_v62 (W7 m ρ c)).trans ?_
  refine (congrFun (keep7_v37_1 m ρ c) (ix2 0 0 : S8x128.Idx)).trans ?_
  refine (congrFun ((W2_arr m ρ c 3).trans (arr0_3 (V1 m ρ) c)) (ix2 0 0 : S8x128.Idx)).trans ?_
  unfold lam
  exact congrArg₂ (fun a b : EReal => Ideal.exp a - Ideal.exp b + Ideal.ofBits .f32 0x3EB60549#32)
    (Finset.sum_congr rfl fun k _ => congrArg₂ (fun a b : EReal => a * b) (e 0 k) (e 1 k))
    (Finset.sum_congr rfl fun k _ => congrArg₂ (fun a b : EReal => a * b) (e 2 k) (e 3 k))
theorem in4_g (k : Fin 128) : (V8 m ρ c (Pipeline.arrRef spec4 5) : (⟨2, ![128, 1]⟩ : Shape).Idx → EReal) (ix2 k 0) = (argsOf m c).sub k :=
  (host_v64 (W7 m ρ c) k).trans (congrFun (W7_args m ρ c main_arg9 (by decide)) (ix2 0 k : S1x128.Idx))

theorem finish_congr {l l' : EReal} {a a' b b' g g' : Fin 128 → EReal} (hl : l = l') (ha : ∀ d, a d = a' d) (hb : ∀ d, b d = b' d)
    (hg : ∀ d, g d = g' d) (e : Fin 128) : finish l a b g e = finish l' a' b' g' e := by
  rw [hl, funext ha, funext hb, funext hg]

theorem sub_toReal {a b : EReal} (ha : Rl a) (hb : Rl b) : (a - b).toReal = a.toReal - b.toReal := by
  obtain ⟨x, rfl⟩ := ha
  obtain ⟨y, rfl⟩ := hb
  rw [← EReal.coe_sub]
  rfl

theorem near0 {X : Fin 32 → Fin 8 → EReal} (hX : ∀ n h, Rl (X n h)) (h : Fin 8) (x q : Fin 256) :
    (nearA X h 0 x q).toReal = if x.val ≤ q.val then (X (bucket (q - x)) h).toReal - (X 31 h).toReal else 0 := by
  unfold nearA
  rw [if_pos rfl]
  by_cases hq : x.val ≤ q.val
  · rw [if_pos hq, if_pos (show x ≤ q from hq), sub_toReal (hX _ _) (hX _ _)]
  · rw [if_neg hq, if_neg (show ¬ x ≤ q from hq)]
    rfl
theorem near1 {X : Fin 32 → Fin 8 → EReal} (hX : ∀ n h, Rl (X n h)) (h : Fin 8) (x q : Fin 256) :
    (nearA X h 1 x q).toReal = (X (bucket (q + 256 - x)) h).toReal - (X 31 h).toReal := by
  unfold nearA
  rw [if_neg (by decide), sub_toReal (hX _ _) (hX _ _)]

variable (H : (argsOf m c).Real)
include H

/-- A map's mean. -/
theorem mean_eq (T : Fin 16384) (h : Fin 8) (d : Fin 2) (hh : 2 * h.val + d.val < 16) (e : Fin 128) (he : h.val * 128 + e.val < 1024) :
    ((Soft.avg (fun s => (Stick.scoreA (V8 m ρ c (Pipeline.arrRef spec4 1)) (V8 m ρ c (Pipeline.arrRef spec4 2)) T ⟨2 * h + d, hh⟩ s).toReal)
      (Soft.near
        (fun x => ((V8 m ρ c (Pipeline.arrRef spec4 4) : (⟨4, ![8, 2, 256, 256]⟩ : Shape).Idx → EReal) (ix4 h 0 ⟨x % 256, by omega⟩ ⟨T % 256, by omega⟩)).toReal)
        (fun x => ((V8 m ρ c (Pipeline.arrRef spec4 4) : (⟨4, ![8, 2, 256, 256]⟩ : Shape).Idx → EReal) (ix4 h 1 ⟨x % 256, by omega⟩ ⟨T % 256, by omega⟩)).toReal)
        (T % 8192 / 256))
      (fun s => (Stick.valueA (V8 m ρ c (Pipeline.arrRef spec4 3)) T ⟨h * 128 + e, he⟩ s).toReal) (T % 8192) : ℝ) : EReal)
      = mean (argsOf m c) d T h e := by
  unfold mean
  refine congrArg (fun r : ℝ => (r : EReal)) ?_
  have ez := funext fun s => congrArg EReal.toReal (in4_z m ρ c T h d hh s)
  have ev := funext fun s => congrArg EReal.toReal (in4_v m ρ c T ⟨h * 128 + e, he⟩ s)
  have hm : T.val % 8192 % 256 = T.val % 256 := by omega
  have e0 : (fun x : ℕ => ((V8 m ρ c (Pipeline.arrRef spec4 4) : (⟨4, ![8, 2, 256, 256]⟩ : Shape).Idx → EReal) (ix4 h 0 ⟨x % 256, by omega⟩ ⟨T % 256, by omega⟩)).toReal)
      = fun x => if x % 256 ≤ T.val % 8192 % 256 then ((argsOf m c).tab (bucket (T.val % 8192 % 256 - x % 256)) h).toReal
        - ((argsOf m c).tab 31 h).toReal else 0 := funext fun x => by
    rw [in4_b, near0 H.tab, hm]
  have e1 : (fun x : ℕ => ((V8 m ρ c (Pipeline.arrRef spec4 4) : (⟨4, ![8, 2, 256, 256]⟩ : Shape).Idx → EReal) (ix4 h 1 ⟨x % 256, by omega⟩ ⟨T % 256, by omega⟩)).toReal)
      = fun x => ((argsOf m c).tab (bucket (T.val % 8192 % 256 + 256 - x % 256)) h).toReal
        - ((argsOf m c).tab 31 h).toReal := funext fun x => by
    rw [in4_b, near1 H.tab, hm]
  rw [ez, ev, e0, e1]
  exact near_bias (fun n => ((argsOf m c).tab n h).toReal) _ _ (T.val % 8192) (by omega)

/-- The differential attention. -/
theorem r4_o (T : Fin 16384) (C : Fin 1024) : mat2 16384 1024 (W9 m ρ c (Proc.devRef .tc main_v65)) T C
    = oB (argsOf m c) T ⟨C / 128, by omega⟩ ⟨C % 128, by omega⟩ := by
  have hz : ∀ T h s, ∃ r : ℝ, Stick.scoreA (V8 m ρ c (Pipeline.arrRef spec4 1)) (V8 m ρ c (Pipeline.arrRef spec4 2)) T h s = (r : EReal) := by
    intro T h s
    have e : h = ⟨2 * (h.val / 2) + h.val % 2, by omega⟩ := Fin.ext (by dsimp only; omega)
    rw [e]
    obtain ⟨r, hr⟩ := zB_real H ⟨h.val % 2, by omega⟩ T ⟨h.val / 2, by omega⟩ s
    exact ⟨r, (in4_z m ρ c T ⟨h.val / 2, by omega⟩ ⟨h.val % 2, by omega⟩ (by dsimp only; omega) s).trans hr⟩
  have hv : ∀ T C s, ∃ r : ℝ, Stick.valueA (V8 m ρ c (Pipeline.arrRef spec4 3)) T C s = (r : EReal) := by
    intro T C s
    obtain ⟨r, hr⟩ := vB_real H T C s
    exact ⟨r, (in4_v m ρ c T C s).trans hr⟩
  have hb0 : ∀ (h : Fin 8) (x q : Fin 256), ∃ r : ℝ, (V8 m ρ c (Pipeline.arrRef spec4 4) (ix4 h 0 x q) : EReal) = if x.val ≤ q.val then (r : EReal) else ⊥ := by
    intro h x q
    obtain ⟨r, hr⟩ := (H.tab (bucket (q.val - x.val)) h).sub (H.tab 31 h)
    refine ⟨r, (in4_b m ρ c h 0 x q).trans ?_⟩
    unfold nearA
    rw [if_pos rfl, ← hr]
    rfl
  have hb1 : ∀ (h : Fin 8) (x q : Fin 256), ∃ r : ℝ, (V8 m ρ c (Pipeline.arrRef spec4 4) (ix4 h 1 x q) : EReal) = (r : EReal) := by
    intro h x q
    obtain ⟨r, hr⟩ := (H.tab (bucket (q.val + 256 - x.val)) h).sub (H.tab 31 h)
    refine ⟨r, (in4_b m ρ c h 1 x q).trans ?_⟩
    unfold nearA
    rw [if_neg (by decide), ← hr]
  refine (congrFun ((W9_arr m ρ c 6).trans (arr4_o (V8 m ρ) c hz hv hb0 hb1)) (ix2 T C : S16384x1024.Idx)).trans ?_
  unfold result4 diffA oB
  refine finish_congr (in4_l m ρ c) (fun d => ?_) (fun d => ?_) (fun k => in4_g m ρ c k) _
  · exact mean_eq m ρ c H T ⟨C / 128, by omega⟩ 0 _ d _
  · exact mean_eq m ρ c H T ⟨C / 128, by omega⟩ 1 _ d _
end Cert.KernelIdeal.Value
end
-- ==== Proof.FinalArray.lean ====
module
public import proofs.«01_k».proof.Proof.ProjArray
public import proofs.«01_k».proof.Proof.Gen.KernelIdeal.Frame.Region5
public import Idealize.ShloMosaic.Lib.Pipeline.ValueKit
@[expose] public section
set_option maxRecDepth 16384
noncomputable section
open Idealize.ShloMosaic Idealize.ShloMosaic.TcCoe Idealize.SL.Sem

/-! The result array of the last call: the rows after the second layer, normalised. -/

namespace Cert.KernelIdeal.Value
open Cert.KernelIdeal Cert.KernelIdeal.Gen Layer
open Idealize.ShloMosaic.Pipeline (Dat)

section Block
variable (x0 x1 x2 : Vec Ideal S512x1024 .f32) (x3 : Vec Ideal S512x256 .f32) (x4 x5 : Vec Ideal S1x1024 .f32)
  (x6 x7 : Vec Ideal S1024x1024 .bf16) (x8 : Vec Ideal S256x1024 .bf16)

/-- The attention's projection added to the rows. -/
theorem k5_pay2_eq (r : Fin 512) (c : Fin 1024) :
    k5_pay2 x1 x2 x0 x6 (ix2 r c) = gated (mat x0 r) (mat x1 r) (mat x2 r) (mat x6) c := by
  unfold gated mat
  pointwise [k5_pay2]

/-- The gate of the embedding. -/
theorem k5_pay4_eq (r : Fin 512) (c : Fin 1024) :
    k5_pay4 x1 x2 x0 x6 x4 x7 (ix2 r c)
      = Ideal.logistic (∑ k, rms (gated (mat x0 r) (mat x1 r) (mat x2 r) (mat x6)) (mat x4 0) k * mat x7 k c) := by
  unfold rms
  pointwise [k5_pay4, k5_pay2_eq]
  rfl

/-- The rows of a block after the second layer. -/
def last (r : Fin 512) : Fin 1024 → EReal :=
  ple (gated (mat x0 r) (mat x1 r) (mat x2 r) (mat x6)) (mat x3 r) (mat x4 0) (mat x7) (mat x8)

theorem last_eq (r : Fin 512) (c : Fin 1024) : last x0 x1 x2 x3 x4 x6 x7 x8 r c
    = k5_pay2 x1 x2 x0 x6 (ix2 r c) + k5_pay4 x1 x2 x0 x6 x4 x7 (ix2 r c) * ∑ k, x3 (ix2 r k) * x8 (ix2 k c) := by
  unfold last ple
  rw [← k5_pay4_eq, ← k5_pay2_eq]
  rfl

/-- The result block. -/
theorem k5_pay1_eq (r : Fin 512) (c : Fin 1024) :
    k5_pay1 (k5_pay2 x1 x2 x0 x6) (k5_pay3 x8) (k5_pay4 x1 x2 x0 x6 x4 x7) (k5_pay5 x3) x5 (ix2 r c)
      = rms (last x0 x1 x2 x3 x4 x6 x7 x8 r) (mat x5 0) c := by
  unfold rms mat
  simp only [last_eq]
  pointwise [k5_pay1, k5_pay3, k5_pay5]

theorem ld5_rows (x : Vec Ideal S512x1024 .f32) : View.ld x r5_0 = x := View.ld_unit_zero zero2 _ x
theorem ld5_square (x : Vec Ideal S1024x1024 .bf16) : View.ld x r5_1 = x := View.ld_unit_zero zero2 _ x
theorem ld5_emb (x : Vec Ideal S512x256 .f32) : View.ld x r5_2 = x := View.ld_unit_zero zero2 _ x
theorem ld5_gain (x : Vec Ideal S1x1024 .f32) : View.ld x r5_3 = x := View.ld_unit_zero zero2 _ x
theorem ld5_ple (x : Vec Ideal S256x1024 .bf16) : View.ld x r5_4 = x := View.ld_unit_zero zero2 _ x

theorem out5_9_eq (r : Fin 512) (c : Fin 1024) :
    out5_9 x0 x1 x2 x3 x4 x5 x6 x7 x8 (ix2 r c) = rms (last x0 x1 x2 x3 x4 x6 x7 x8 r) (mat x5 0) c := by
  unfold out5_9
  rw [View.canon_unit_zero (S := S512x1024) zero2]
  simp only [ld5_rows, ld5_square, ld5_emb, ld5_gain, ld5_ple]
  exact k5_pay1_eq ..
end Block

variable (V : (c : Dev nD) → (b : Ref sig .tc) → Buf (Elt Ideal) ((c : Thread nD τ).loc b))

theorem idx5_0 : ∀ t : Fin grid5.N, win5_0.index t = ![t.val, 0] := by decide +kernel
theorem idx5_1 : ∀ t : Fin grid5.N, win5_1.index t = ![t.val, 0] := by decide +kernel
theorem idx5_2 : ∀ t : Fin grid5.N, win5_2.index t = ![t.val, 0] := by decide +kernel
theorem idx5_3 : ∀ t : Fin grid5.N, win5_3.index t = ![t.val, 0] := by decide +kernel
theorem idx5_9 : ∀ t : Fin grid5.N, win5_9.index t = ![t.val, 0] := by decide +kernel
theorem idx5_4 : ∀ t : Fin grid5.N, win5_4.index t = ![0, 0] := by decide +kernel
theorem idx5_5 : ∀ t : Fin grid5.N, win5_5.index t = ![0, 0] := by decide +kernel
theorem idx5_6 : ∀ t : Fin grid5.N, win5_6.index t = ![0, 0] := by decide +kernel
theorem idx5_7 : ∀ t : Fin grid5.N, win5_7.index t = ![0, 0] := by decide +kernel
theorem idx5_8 : ∀ t : Fin grid5.N, win5_8.index t = ![0, 0] := by decide +kernel

theorem N32' (t : Fin cfg5.N) : t.val < 32 := t.isLt

/-- Row `r` of block `t`. -/
def row5 (t : Fin cfg5.N) (r : Fin 512) : Fin 16384 := ⟨t.val * 512 + r, by have := N32' t; omega⟩

theorem read5_0 (c : Dev nD) (t : Fin cfg5.N) (r : Fin 512) : mat (iblk5 V c 0 t) r
    = mat (n := 16384) (m := 1024) (V c (Pipeline.arrRef spec5 0)) (row5 t r) := by
  have ht := N32' t
  funext k
  unfold mat row5
  blk_ext [iblk5, idx5_0]
theorem read5_1 (c : Dev nD) (t : Fin cfg5.N) (r : Fin 512) : mat (iblk5 V c 1 t) r
    = mat (n := 16384) (m := 1024) (V c (Pipeline.arrRef spec5 1)) (row5 t r) := by
  have ht := N32' t
  funext k
  unfold mat row5
  blk_ext [iblk5, idx5_1]
theorem read5_2 (c : Dev nD) (t : Fin cfg5.N) (r : Fin 512) : mat (iblk5 V c 2 t) r
    = mat (n := 16384) (m := 1024) (V c (Pipeline.arrRef spec5 2)) (row5 t r) := by
  have ht := N32' t
  funext k
  unfold mat row5
  blk_ext [iblk5, idx5_2]
theorem read5_3 (c : Dev nD) (t : Fin cfg5.N) (r : Fin 512) : mat (iblk5 V c 3 t) r
    = mat (n := 16384) (m := 256) (V c (Pipeline.arrRef spec5 3)) (row5 t r) := by
  have ht := N32' t
  funext k
  unfold mat row5
  blk_ext [iblk5, idx5_3]
theorem read5_4 (c : Dev nD) (t : Fin cfg5.N) : mat (iblk5 V c 4 t) 0
    = mat (n := 1) (m := 1024) (V c (Pipeline.arrRef spec5 4)) 0 := by
  funext k
  unfold mat
  blk_ext [iblk5, idx5_4]
theorem read5_5 (c : Dev nD) (t : Fin cfg5.N) : mat (iblk5 V c 5 t) 0
    = mat (n := 1) (m := 1024) (V c (Pipeline.arrRef spec5 5)) 0 := by
  funext k
  unfold mat
  blk_ext [iblk5, idx5_5]
theorem read5_6 (c : Dev nD) (t : Fin cfg5.N) : mat (iblk5 V c 6 t)
    = mat (n := 1024) (m := 1024) (V c (Pipeline.arrRef spec5 6)) := by
  funext k j
  unfold mat
  blk_ext [iblk5, idx5_6]
theorem read5_7 (c : Dev nD) (t : Fin cfg5.N) : mat (iblk5 V c 7 t)
    = mat (n := 1024) (m := 1024) (V c (Pipeline.arrRef spec5 7)) := by
  funext k j
  unfold mat
  blk_ext [iblk5, idx5_7]
theorem read5_8 (c : Dev nD) (t : Fin cfg5.N) : mat (iblk5 V c 8 t)
    = mat (n := 256) (m := 1024) (V c (Pipeline.arrRef spec5 8)) := by
  funext k j
  unfold mat
  blk_ext [iblk5, idx5_8]

/-- The rows of the result. -/
def resB (c : Dev nD) (T : Fin 16384) : Fin 1024 → EReal :=
  rms (ple (gated (mat (V c (Pipeline.arrRef spec5 0)) T) (mat (V c (Pipeline.arrRef spec5 1)) T)
    (mat (V c (Pipeline.arrRef spec5 2)) T) (mat (V c (Pipeline.arrRef spec5 6)))) (mat (V c (Pipeline.arrRef spec5 3)) T)
    (mat (V c (Pipeline.arrRef spec5 4)) 0) (mat (V c (Pipeline.arrRef spec5 7))) (mat (V c (Pipeline.arrRef spec5 8))))
    (mat (V c (Pipeline.arrRef spec5 5)) 0)

set_option maxHeartbeats 1000000 in
theorem res_eq (c : Dev nD) (t : Fin cfg5.N) (r : Fin 512) :
    rms (last (iblk5 V c 0 t) (iblk5 V c 1 t) (iblk5 V c 2 t) (iblk5 V c 3 t) (iblk5 V c 4 t) (iblk5 V c 6 t)
      (iblk5 V c 7 t) (iblk5 V c 8 t) r) (mat (iblk5 V c 5 t) 0) = resB V c (row5 t r) := by
  unfold last resB
  rw [read5_0, read5_1, read5_2, read5_3, read5_4, read5_5, read5_6, read5_7, read5_8]

attribute [local irreducible] resB

set_option maxHeartbeats 1000000 in
/-- The result array. -/
theorem arr5_9 (c : Dev nD) : (dat5 V c).arrAt 9 cfg5.N = fun j : S16384x1024.Idx => resB V c (j 0) (j 1) := by
  refine (dat5 V c).arrAt_eq_of_covers 9 _ (by decide +kernel) fun t hf y => ?_
  have ht := N32' t
  blk_simp
  rw [after5_9]
  idx_vars y
  refine (out5_9_eq ..).trans ?_
  rw [res_eq]
  refine congrArg₂ (resB V c) (Fin.ext ?_) (Fin.ext ?_)
  · unfold row5; blk_simp [idx5_9]
  · blk_simp [idx5_9]
end Cert.KernelIdeal.Value
end
-- ==== Proof.KernelValue.lean ====
module
public import proofs.«01_k».proof.Proof.KernelSecond
public import proofs.«01_k».proof.Proof.FinalArray
@[expose] public section
set_option maxRecDepth 16384
noncomputable section
open Idealize.ShloMosaic Idealize.ShloMosaic.TcCoe Idealize.SL.Sem

/-! The kernel's result, as a function of the arguments. -/

namespace Cert.KernelIdeal.Value
open Cert.KernelIdeal Cert.KernelIdeal.Gen Layer
variable (m : (ℓ : Loc nD τ sig) → Buf (Elt Ideal) ℓ) (ρ : Dev nD → PrngReg) (c : Dev nD)

theorem in5_h (T : Fin 16384) (k : Fin 1024) : mat2 16384 1024 (V10 m ρ c (Pipeline.arrRef spec5 0)) T k = h1 (argsOf m c) T k :=
  (congrFun (keep10_v61_0 m ρ c) (ix2 T k : S16384x1024.Idx)).trans (r3_h m ρ c T k)
theorem in5_g (T : Fin 16384) (k : Fin 1024) : mat2 16384 1024 (V10 m ρ c (Pipeline.arrRef spec5 2)) T k
    = qg (argsOf m c) T ⟨1024 + k, by omega⟩ :=
  (congrFun (keep10_v61_4 m ρ c) (ix2 T k : S16384x1024.Idx)).trans (r3_g m ρ c T k)
theorem in5_p (T : Fin 16384) (k : Fin 256) : mat2 16384 256 (V10 m ρ c (Pipeline.arrRef spec5 3)) T k = (argsOf m c).p 1 T k :=
  (host_v67 (W9 m ρ c) T k).trans ((congrFun (keep9_v1 m ρ c) (ix3 1 T k : S2x16384x256.Idx)).trans (host_v1 _ 1 T k))
theorem in5_gP (k : Fin 1024) : mat2 1 1024 (V10 m ρ c (Pipeline.arrRef spec5 4)) 0 k = (argsOf m c).gP 1 k :=
  (host_v70 (W9 m ρ c) k).trans (congrFun (W9_args m ρ c main_arg12 (by decide)) (ix2 1 k : S2x1024.Idx))
theorem in5_gF (k : Fin 1024) : mat2 1 1024 (V10 m ρ c (Pipeline.arrRef spec5 5)) 0 k = (argsOf m c).gF k :=
  (host_v71 (W9 m ρ c) k).trans (congrFun (W9_args m ρ c main_arg15 (by decide)) (ix1 k : S1024.Idx))
theorem in5_oB (k C : Fin 1024) : mat2 1024 1024 (V10 m ρ c (Pipeline.arrRef spec5 6)) k C = (argsOf m c).oB k C :=
  (host_v73 (W9 m ρ c) k C).trans (congrFun (W9_args m ρ c main_arg10 (by decide)) (ix3 0 k C : S1x1024x1024.Idx))
theorem in5_wG (k C : Fin 1024) : mat2 1024 1024 (V10 m ρ c (Pipeline.arrRef spec5 7)) k C = (argsOf m c).wG 1 k C :=
  (host_v76 (W9 m ρ c) k C).trans (congrFun (W9_args m ρ c main_arg14 (by decide)) (ix3 1 k C : S2x1024x1024.Idx))
theorem in5_wP (k : Fin 256) (C : Fin 1024) : mat2 256 1024 (V10 m ρ c (Pipeline.arrRef spec5 8)) k C = (argsOf m c).wP 1 k C :=
  (host_v79 (W9 m ρ c) k C).trans (congrFun (W9_args m ρ c main_arg13 (by decide)) (ix3 1 k C : S2x256x1024.Idx))

theorem rms_congr {x x' g g' : Fin 1024 → EReal} (hx : x = x') (hg : ∀ k, g k = g' k) : rms x g = rms x' g' := by
  rw [hx, funext hg]

variable (H : (argsOf m c).Real)
include H

theorem in5_o (T : Fin 16384) (k : Fin 1024) : mat2 16384 1024 (V10 m ρ c (Pipeline.arrRef spec5 1)) T k
    = oB (argsOf m c) T ⟨k / 128, by omega⟩ ⟨k % 128, by omega⟩ :=
  (congrFun (keep10_v65 m ρ c) (ix2 T k : S16384x1024.Idx)).trans (r4_o m ρ c H T k)

theorem res_row (T : Fin 16384) : resB (V10 m ρ) c T = out (argsOf m c) T := by
  unfold resB out hB
  exact rms_congr (ple_gated_congr (in5_h m ρ c T) (in5_o m ρ c H T) (in5_g m ρ c T) (in5_oB m ρ c) (in5_p m ρ c T) (in5_gP m ρ c)
    (in5_wG m ρ c) (in5_wP m ρ c)) (in5_gF m ρ c)

attribute [local irreducible] resB

/-- The kernel's result. -/
theorem result_at (b : Fin 2) (t : Fin 8192) (k : Fin 1024) :
    (W12 m ρ c (Proc.devRef .tc main_v81) : Vec Ideal S2x8192x1024 .f32) (ix3 b t k) = out (argsOf m c) ⟨b * 8192 + t, by omega⟩ k := by
  refine (host_v81 (W11 m ρ c) b t k).trans ?_
  refine (congrFun ((W11_arr m ρ c 9).trans (arr5_9 (V10 m ρ) c)) (ix2 ⟨b * 8192 + t, by omega⟩ k : S16384x1024.Idx)).trans ?_
  exact congrFun (res_row m ρ c H _) k
end Cert.KernelIdeal.Value
end
-- ==== Proof.RefStick.lean ====
module
public import proofs.«01_k».proof.Proof.Args
public import proofs.«01_k».proof.Proof.Gen.RefIdeal.Run
public import Idealize.ShloMosaic.Lib.Pointwise
@[expose] public section
set_option maxRecDepth 16384
noncomputable section
open Idealize.ShloMosaic Idealize.ShloMosaic.TcCoe Idealize.SL.Sem

/-! The plain stick-breaking attention, stage by stage: the softplus, the reversed running sum, the weights,
and the result, each read at one index. -/

namespace Stick

/-- A left fold of additions from zero over all positions is the sum. -/
theorem fold_sum {N : ℕ} (g : Fin N → EReal) : (List.finRange N).foldl (fun r n => r + g n) 0 = ∑ n, g n := by
  have key : ∀ (l : List (Fin N)) (a : EReal), l.foldl (fun r n => r + g n) a = a + (l.map g).sum := by
    intro l
    induction l with
    | nil => intro a; simp
    | cons n l ih => intro a; simp only [List.foldl_cons, List.map_cons, List.sum_cons, ih, add_assoc]
  rw [key, zero_add, Fin.sum_univ_def]

/-- A four-axis index whose first three axes have one position is its last coordinate. -/
def lastAxis : (⟨4, ![1, 1, 1, 8192]⟩ : Shape).Idx ≃ Fin 8192 where
  toFun i := i 3
  invFun y := ix4 0 0 0 y
  left_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv y := rfl

/-- The running sum from the right along the last axis: entry `k` is the sum of the entries from `k` on. -/
theorem cumRev {B H Q : ℕ} (x : (⟨4, ![B, H, Q, 8192]⟩ : Shape).Idx → EReal)
    (h : (⟨4, ![B, H, Q, 8192]⟩ : Shape).ReduceWindows ![1, 1, 1, 8192] ![1, 1, 1, 1] ![0, 0, 0, 0] ![0, 0, 0, 8191]
      ⟨4, ![B, H, Q, 8192]⟩) (b : Fin B) (hd : Fin H) (q : Fin Q) (k : Fin 8192) :
    Ideal.hostReduceWindowAdd ![1, 1, 1, 8192] ![1, 1, 1, 1] ![0, 0, 0, 0] ![0, 0, 0, 8191] h x 0 (ix4 b hd q k)
      = ∑ u ∈ Finset.Ico k.val 8192, if hu : u < 8192 then x (ix4 b hd q ⟨u, hu⟩) else 0 := by
  have hk := k.isLt
  unfold Ideal.hostReduceWindowAdd Host.reduceWindow
  dsimp only
  rw [fold_sum]
  rw [← Equiv.sum_comp (lastAxis.symm.trans (Shape.rowMajor ⟨4, ![1, 1, 1, 8192]⟩))]
  simp only [Equiv.trans_apply, Equiv.symm_apply_apply]
  rw [Finset.sum_congr rfl (g := fun y : Fin 8192 => if hu : k.val + y.val < 8192 then x (ix4 b hd q ⟨k.val + y.val, hu⟩) else 0) (fun y _ => by
    by_cases hu : k.val + y.val < 8192
    · rw [dif_pos hu, dif_pos]
      · refine congrArg x (funext fun a => Fin.ext ?_)
        match a with
        | ⟨0, _⟩ => show b.val * 1 + 0 - 0 = b.val; omega
        | ⟨1, _⟩ => show hd.val * 1 + 0 - 0 = hd.val; omega
        | ⟨2, _⟩ => show q.val * 1 + 0 - 0 = q.val; omega
        | ⟨3, _⟩ => show k.val * 1 + y.val - 0 = k.val + y.val; omega
      · intro a
        match a with
        | ⟨0, _⟩ => show 0 ≤ b.val * 1 + 0 ∧ b.val * 1 + 0 - 0 < B; have := b.isLt; omega
        | ⟨1, _⟩ => show 0 ≤ hd.val * 1 + 0 ∧ hd.val * 1 + 0 - 0 < H; have := hd.isLt; omega
        | ⟨2, _⟩ => show 0 ≤ q.val * 1 + 0 ∧ q.val * 1 + 0 - 0 < Q; have := q.isLt; omega
        | ⟨3, _⟩ => show 0 ≤ k.val * 1 + y.val ∧ k.val * 1 + y.val - 0 < 8192; omega
    · rw [dif_neg hu, dif_neg]
      intro hin
      have h3 := (hin 3).2
      change k.val * 1 + y.val - 0 < 8192 at h3
      omega)]
  rw [Fin.sum_univ_eq_sum_range (fun n => if hu : k.val + n < 8192 then x (ix4 b hd q ⟨k.val + n, hu⟩) else 0) 8192,
    Finset.sum_Ico_eq_sum_range]
  symm
  refine Finset.sum_subset (fun n hn => ?_) fun n hn hn' => ?_
  · rw [Finset.mem_range] at hn ⊢; omega
  · rw [Finset.mem_range] at hn hn'
    exact dif_neg (by omega)

end Stick

namespace Cert.RefIdeal.Value
open Cert.RefIdeal Cert.RefIdeal.Gen Idealize.ShloMosaic.StableHlo

/-- A zero at every score. -/
def ref0 : FVec Ideal S2x16x8192x8192 .f32 := broadcastInDim S2x16x8192x8192 ![] bcast_S_S2x16x8192x8192 (constant S_ .f32 0x00000000#32)

/-- The softplus as the reference computes it. -/
def refSp (x : FVec Ideal S2x16x8192x8192 .f32) : FVec Ideal S2x16x8192x8192 .f32 :=
  select (cmpf .une (subf x ref0) (subf x ref0)) (addf x ref0) (addf (maximumf x ref0) (Host.log1p (Host.exp (Host.negf (Host.absf (subf x ref0))))))

/-- Whether the key position lies before the query position. -/
def refPast : IVec S2x16x8192x8192 1 :=
  broadcastInDim S2x16x8192x8192 ![2, 3] bcast_S8192x8192_S2x16x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- What the mask puts in place of a future key. -/
def refOff : FVec Ideal S2x16x8192x8192 .f32 := broadcastInDim S2x16x8192x8192 ![] bcast_S_S2x16x8192x8192 (id (constant S_ .f32 0x00000000#32))

/-- The running sum from the right. -/
def refCum (x : FVec Ideal S2x16x8192x8192 .f32) : FVec Ideal S2x16x8192x8192 .f32 :=
  Host.reduceWindowAdd ![1, 1, 1, 8192] ![1, 1, 1, 1] ![0, 0, 0, 0] ![0, 0, 0, 8191] x (broadcastInDim S_ ![] bcast_S_S_ (constant S_ .f32 0x00000000#32)) reduceWindows_S2x16x8192x8192_S2x16x8192x8192_w1s1p0_0_w1s1p0_0_w1s1p0_0_w8192s1p0_8191 h_S_

/-- The running sum of what comes after each key. -/
def refAfter (y : FVec Ideal S2x16x8192x8192 .f32) : FVec Ideal S2x16x8192x8192 .f32 :=
  concatenate S2x16x8192x8192 3 [⟨S2x16x8192x8191, (extractStridedSlice S2x16x8192x8191 ![0, 0, 0, 1] y slices_S2x16x8192x8192_S2x16x8192x8191_0_0_0_1)⟩, ⟨S2x16x8192x1, (broadcastInDim S2x16x8192x1 ![] bcast_S_S2x16x8192x1 (constant S_ .f32 0x00000000#32))⟩] concatenates_S2x16x8192x8191_S2x16x8192x1_S2x16x8192x8192_d3

/-- The weights from the scores. -/
def refW (z : FVec Ideal S2x16x8192x8192 .f32) : FVec Ideal S2x16x8192x8192 .f32 :=
  select refPast (Host.exp (addf (Host.negf (refSp (Host.negf z))) (refAfter (refCum (select refPast (Host.negf (refSp (Host.negf (Host.negf z)))) refOff))))) refOff

/-- The result from the projections and the weights. -/
def refO (p : FVec Ideal S2x8192x4096 .f32) (w : FVec Ideal S2x16x8192x8192 .f32) : FVec Ideal S2x8192x1024 .f32 :=
  shapeCast _ (transpose S2x8192x16x64 [0, 3, 1, 2] (Host.dotGeneral dot_S2x8192x16x64_S2x16x8192x8192_S2x16x64x8192_1_3_3_2_02_01 none (shapeCast _ (extractStridedSlice S2x8192x1024 ![0, 0, 2048] p slices_S2x8192x4096_S2x8192x1024_0_0_2048) shapeCasts_S2x8192x1024_S2x8192x16x64) w) transposes_S2x16x64x8192_S2x8192x16x64_0_3_1_2) shapeCasts_S2x8192x16x64_S2x8192x1024

/-- The hidden rows after an attention `o` gated by `g`. -/
def refH (x o g : FVec Ideal S2x8192x1024 .f32) (w : FVec Ideal S1x1024x1024 .f32) : FVec Ideal S2x8192x1024 .f32 :=
  addf x (Host.dotGeneral dot_S2x8192x1024_S1024x1024_S2x8192x1024_2_0_01_1_n_n none (mulf o (mulf g (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf g)))))) (shapeCast _ w shapeCasts_S1x1024x1024_S1024x1024))

/-- The hidden rows after the first attention are these stages. -/
theorem v52_eq (V0 : Valuation τ sig (Elt Ideal)) : res_main_v52 V0 = refH (V0 (Proc.devRef .tc main_arg0))
    (refO (res_main_v16 V0) (refW (res_main_v27 V0))) (res_main_v20 V0) (V0 (Proc.devRef .tc main_arg4)) := by
  rfl

/-- A gated row at one index. -/
theorem refH_at (x o g : FVec Ideal S2x8192x1024 .f32) (w : FVec Ideal S1x1024x1024 .f32) (b : Fin 2) (t : Fin 8192) (c : Fin 1024) :
    refH x o g w (ix3 b t c) = Layer.gated (fun k => x (ix3 b t k)) (fun k => o (ix3 b t k)) (fun k => g (ix3 b t k))
      (fun k c => w (ix3 0 k c)) c := by
  unfold refH Layer.gated
  pointwise
  rfl

/-- The softplus at one index. -/
theorem refSp_at (x : FVec Ideal S2x16x8192x8192 .f32) (b : Fin 2) (h : Fin 16) (s u : Fin 8192) :
    refSp x (ix4 b h s u) = Stick.sp (x (ix4 b h s u)) := by
  unfold refSp ref0
  pointwise
  rw [if_neg (by simp)]
  unfold Stick.sp Stick.soft
  rw [zero_sub]
  rfl

/-- The mask at one index. -/
theorem refPast_at (b : Fin 2) (h : Fin 16) (s u : Fin 8192) :
    refPast (ix4 b h s u) = if u.val < s.val then 1#1 else 0#1 := by
  unfold refPast
  pointwise
  rw [WordCmp.cmpi_slt_ofNat (by omega) (by omega)]
  by_cases hl : u.val < s.val <;> simp [hl]

/-- The running sum at one index. -/
theorem refCum_at (x : FVec Ideal S2x16x8192x8192 .f32) (b : Fin 2) (h : Fin 16) (s u : Fin 8192) :
    refCum x (ix4 b h s u) = ∑ t ∈ Finset.Ico u.val 8192, if ht : t < 8192 then x (ix4 b h s ⟨t, ht⟩) else 0 := by
  have e0 : (broadcastInDim S_ ![] bcast_S_S_ (constant (F := Ideal) S_ .f32 0x00000000#32)) (Shape.Idx.first h_S_) = (0 : EReal) := by
    pointwise
  unfold refCum Host.reduceWindowAdd
  rw [Ideal.hostReduceWindowAdd_def, e0]
  exact Stick.cumRev x _ b h s u

/-- The mask's value is zero. -/
theorem refOff_at (i) : refOff i = (0 : EReal) := by
  have e0 : constant (F := Ideal) S_ .f32 0x00000000#32 ix0 = (0 : EReal) := by pointwise
  unfold refOff
  pointwise
  exact e0

/-- What comes after a key, at one index. -/
theorem refAfter_at (y : FVec Ideal S2x16x8192x8192 .f32) (b : Fin 2) (h : Fin 16) (s u : Fin 8192) :
    refAfter y (ix4 b h s u) = if hu : u.val < 8191 then y (ix4 b h s ⟨1 + u.val, by omega⟩) else 0 := by
  unfold refAfter
  pointwise

/-- A result entry: the sum over the keys of the value times the weight. -/
theorem refO_at (p : FVec Ideal S2x8192x4096 .f32) (w : FVec Ideal S2x16x8192x8192 .f32) (b : Fin 2) (t : Fin 8192) (C : Fin 1024) :
    refO p w (ix3 b t C) = ∑ x : Fin 8192, p (ix3 b x ⟨2048 + C, by omega⟩) * w (ix4 b ⟨C.val / 64, by omega⟩ t x) := by
  unfold refO
  pointwise

/-- A weight is the stick-breaking weight of its key where the key lies before the query, and zero elsewhere. -/
theorem refW_at (z : FVec Ideal S2x16x8192x8192 .f32) (b : Fin 2) (h : Fin 16) (s u : Fin 8192) (f : ℕ → EReal)
    (hf : ∀ t : Fin 8192, z (ix4 b h s t) = f t.val) :
    refW z (ix4 b h s u) = if u.val < s.val then Ideal.exp (Stick.ls (f u.val) - Stick.tail f s.val u.val) else 0 := by
  have hs := s.isLt
  have hu := u.isLt
  have e1 : refSp (Host.negf z) (ix4 b h s u) = Stick.sp (-(f u.val)) := by
    rw [refSp_at, ← hf]; rfl
  have e2 : ∀ t : Fin 8192, (select refPast (Host.negf (refSp (Host.negf (Host.negf z)))) refOff) (ix4 b h s t)
      = if t.val < s.val then -(Stick.sp (f t.val)) else 0 := by
    intro t
    have e3 : refSp (Host.negf (Host.negf z)) (ix4 b h s t) = Stick.sp (f t.val) := by
      rw [refSp_at, ← hf]
      exact congrArg Stick.sp (neg_neg (z (ix4 b h s t) : EReal))
    pointwise
    rw [e3, refPast_at, refOff_at]
    by_cases ht : t.val < s.val <;> simp [ht, Scalar.select]
  have e4 : refAfter (refCum (select refPast (Host.negf (refSp (Host.negf (Host.negf z)))) refOff)) (ix4 b h s u) = -(Stick.tail f s.val u.val) := by
    rw [refAfter_at]
    unfold Stick.tail
    by_cases h1 : u.val < 8191
    · rw [dif_pos h1, refCum_at, ← Stick.neg_sum _ _ (fun i _ => Stick.sp_nonneg _)]
      rw [Finset.sum_congr rfl (g := fun t => if t < s.val then -(Stick.sp (f t)) else 0) (fun t ht => by
        rw [Finset.mem_Ico] at ht
        rw [dif_pos ht.2, e2])]
      rw [← Finset.sum_filter]
      refine Finset.sum_congr (Finset.ext fun t => ?_) fun _ _ => rfl
      simp only [Finset.mem_filter, Finset.mem_Ico]
      omega
    · rw [dif_neg h1, Finset.Ico_eq_empty (by omega), Finset.sum_empty, neg_zero]
  unfold refW
  pointwise
  rw [e1, refPast_at, refOff_at, e4, Stick.neg_sp_neg]
  by_cases ht : u.val < s.val <;> simp [ht, sub_eq_add_neg, Scalar.select]

/-- The attention of a row and a column, from the scores `f` and the values `v` of its keys. -/
theorem ref_attn (p : FVec Ideal S2x8192x4096 .f32) (z : FVec Ideal S2x16x8192x8192 .f32) (b : Fin 2) (t : Fin 8192) (C : Fin 1024)
    (f v : ℕ → EReal) (hf : ∀ s : Fin 8192, z (ix4 b ⟨C / 64, by omega⟩ t s) = f s) (hv : ∀ s : Fin 8192, p (ix3 b s ⟨2048 + C, by omega⟩) = v s) :
    refO p (refW z) (ix3 b t C) = Stick.stick f v t 0 := by
  have ht := t.isLt
  rw [refO_at]
  unfold Stick.stick
  have tf := Stick.tile_first (fun s => v s * Ideal.exp (Stick.ls (f s) - Stick.tail f t s)) 8192 0 t (by omega)
  simp only [zero_add] at tf
  rw [← tf]
  refine Finset.sum_congr rfl fun x _ => ?_
  rw [refW_at _ _ _ _ _ _ hf, hv]
  by_cases hl : x.val < t.val
  · rw [if_pos hl, if_pos hl]
  · rw [if_neg hl, if_neg hl, mul_zero]

end Cert.RefIdeal.Value
-- ==== Proof.RefFirst.lean ====
module
public import proofs.«01_k».proof.Proof.RefStick
@[expose] public section
set_option maxRecDepth 16384
noncomputable section
open Idealize.ShloMosaic Idealize.ShloMosaic.TcCoe Idealize.SL.Sem

/-! The reference's rows, up to the second layer's projections. -/

namespace Layer
/-- The row number of a position in an example. -/
def rowOf (b : Fin 2) (t : Fin 8192) : Fin 16384 := ⟨b * 8192 + t, by omega⟩
theorem rowOf_div (b : Fin 2) (t : Fin 8192) : (rowOf b t).val / 8192 = b := by unfold rowOf; dsimp only; omega
theorem rowOf_mod (b : Fin 2) (t : Fin 8192) : (rowOf b t).val % 8192 = t := by unfold rowOf; dsimp only; omega
theorem rowOf_key (b : Fin 2) (t s : Fin 8192) (h : (rowOf b t).val / 8192 * 8192 + s.val < 16384) :
    (⟨(rowOf b t).val / 8192 * 8192 + s.val, h⟩ : Fin 16384) = rowOf b s := by
  refine Fin.ext ?_
  dsimp only
  rw [rowOf_div]
  rfl

/-- The sigmoid as a quotient. -/
theorem sig_eq (x : EReal) : Ideal.div 1 (1 + Ideal.exp (-x)) = Ideal.logistic x := rfl

/-- A product of a scaled first factor is the product with the scale outside. -/
theorem sum_scale {n : ℕ} (q k : Fin n → EReal) : (∑ y, q y * k y) * scale = ∑ y, k y * (q y * scale) := by
  have h8 : scale = (((1 / 8 : ℝ)) : EReal) := by
    unfold scale; simp [Ideal.ofBits, Ideal.ieee]; rw [← EReal.coe_mul]; norm_num
  rw [Stick.sum_mul _ _ (by rw [h8]; exact_mod_cast (by norm_num : (0 : ℝ) ≤ 1 / 8)) (by rw [h8]; exact EReal.coe_ne_top _)]
  exact Finset.sum_congr rfl fun y _ => by rw [mul_comm (q y), mul_assoc]
end Layer

namespace Cert.RefIdeal.Value
open Cert.RefIdeal Cert.RefIdeal.Gen Idealize.ShloMosaic.StableHlo Layer
variable (V0 : Valuation τ sig (Elt Ideal))

/-- The layer's arguments in the reference's valuation. -/
def argsR : Args := mkArgs (V0 (Proc.devRef .tc main_arg0)) (V0 (Proc.devRef .tc main_arg1)) (V0 (Proc.devRef .tc main_arg2))
  (V0 (Proc.devRef .tc main_arg3)) (V0 (Proc.devRef .tc main_arg4)) (V0 (Proc.devRef .tc main_arg5)) (V0 (Proc.devRef .tc main_arg6))
  (V0 (Proc.devRef .tc main_arg7)) (V0 (Proc.devRef .tc main_arg8)) (V0 (Proc.devRef .tc main_arg9)) (V0 (Proc.devRef .tc main_arg10))
  (V0 (Proc.devRef .tc main_arg11)) (V0 (Proc.devRef .tc main_arg12)) (V0 (Proc.devRef .tc main_arg13)) (V0 (Proc.devRef .tc main_arg14))
  (V0 (Proc.devRef .tc main_arg15))

theorem x_row (b : Fin 2) (t : Fin 8192) (k : Fin 1024) :
    (argsR V0).x (rowOf b t) k = (V0 (Proc.devRef .tc main_arg0) : Vec Ideal S2x8192x1024 .f32) (ix3 b t k) := by
  unfold argsR mkArgs
  dsimp only
  exact congrArg₂ (fun b' t' => (V0 (Proc.devRef .tc main_arg0) : Vec Ideal S2x8192x1024 .f32) (ix3 b' t' k)) (Fin.ext (rowOf_div b t)) (Fin.ext (rowOf_mod b t))
theorem p_row (l b : Fin 2) (t : Fin 8192) (k : Fin 256) :
    (argsR V0).p l (rowOf b t) k = (V0 (Proc.devRef .tc main_arg1) : Vec Ideal S2x2x8192x256 .f32) (ix4 l b t k) := by
  unfold argsR mkArgs
  dsimp only
  exact congrArg₂ (fun b' t' => (V0 (Proc.devRef .tc main_arg1) : Vec Ideal S2x2x8192x256 .f32) (ix4 l b' t' k)) (Fin.ext (rowOf_div b t)) (Fin.ext (rowOf_mod b t))

theorem v16_rms (b : Fin 2) (t : Fin 8192) (c : Fin 4096) : (res_main_v16 V0 : Vec Ideal S2x8192x4096 .f32) (ix3 b t c)
    = projOf (fun k => (V0 (Proc.devRef .tc main_arg0) : Vec Ideal S2x8192x1024 .f32) (ix3 b t k))
      (fun k => (V0 (Proc.devRef .tc main_arg2) : Vec Ideal S2x1024 .f32) (ix2 0 k))
      (fun k c => (V0 (Proc.devRef .tc main_arg3) : Vec Ideal S1x1024x4096 .f32) (ix3 0 k c)) c := by
  unfold projOf rms
  pointwise [res_main_v16]

/-- The first layer's projections. -/
theorem v16_at (b : Fin 2) (t : Fin 8192) (c : Fin 4096) : (res_main_v16 V0 : Vec Ideal S2x8192x4096 .f32) (ix3 b t c)
    = proj (argsR V0) (rowOf b t) c := by
  rw [v16_rms]
  unfold proj
  rw [← funext fun k => x_row V0 b t k]
  rfl

/-- A projection entry. -/
abbrev e16 (b : Fin 2) (t : Fin 8192) (c : Fin 4096) : EReal := (res_main_v16 V0 : Vec Ideal S2x8192x4096 .f32) (ix3 b t c)

theorem v27_sum (b : Fin 2) (h : Fin 16) (t s : Fin 8192) : (res_main_v27 V0 : Vec Ideal S2x16x8192x8192 .f32) (ix4 b h t s)
    = (∑ x : Fin 64, e16 V0 b t ⟨h * 64 + x, by omega⟩ * e16 V0 b s ⟨1024 + (h * 64 + x), by omega⟩) * scale := by
  unfold scale
  pointwise [res_main_v27]

/-- The first layer's scores. -/
theorem v27_at (b : Fin 2) (h : Fin 16) (t s : Fin 8192) : (res_main_v27 V0 : Vec Ideal S2x16x8192x8192 .f32) (ix4 b h t s)
    = zA (argsR V0) (rowOf b t) h s := by
  refine (v27_sum V0 b h t s).trans ((sum_scale _ _).trans ?_)
  unfold zA
  rw [dif_pos s.isLt, rowOf_key]
  exact Finset.sum_congr rfl fun y _ => congrArg₂ (fun a b : EReal => a * (b * scale)) (v16_at ..) (v16_at ..)

/-- The stick-breaking attention. -/
theorem oA_at (b : Fin 2) (t : Fin 8192) (C : Fin 1024) :
    refO (res_main_v16 V0) (refW (res_main_v27 V0)) (ix3 b t C) = oA (argsR V0) (rowOf b t) C := by
  rw [ref_attn _ _ b t C (zA (argsR V0) (rowOf b t) ⟨C / 64, by omega⟩) (vA (argsR V0) (rowOf b t) C)
    (fun s => v27_at V0 b _ t s) (fun s => by
      unfold vA
      rw [dif_pos s.isLt, rowOf_key]
      exact v16_at V0 b s _)]
  unfold oA
  rw [rowOf_mod]

theorem v20_at (b : Fin 2) (t : Fin 8192) (c : Fin 1024) : (res_main_v20 V0 : Vec Ideal S2x8192x1024 .f32) (ix3 b t c)
    = (res_main_v16 V0 : Vec Ideal S2x8192x4096 .f32) (ix3 b t ⟨3072 + c, by omega⟩) := by
  pointwise [res_main_v20]

/-- The rows after the first attention. -/
theorem v52_at (b : Fin 2) (t : Fin 8192) (c : Fin 1024) : (res_main_v52 V0 : Vec Ideal S2x8192x1024 .f32) (ix3 b t c)
    = hA (argsR V0) (rowOf b t) c := by
  rw [v52_eq, refH_at]
  unfold hA
  rw [← funext fun k => x_row V0 b t k, funext fun k => oA_at V0 b t k,
    funext fun k => (v20_at V0 b t k).trans (v16_at V0 b t _)]
  rfl

theorem v83_ple (b : Fin 2) (t : Fin 8192) (c : Fin 1024) : (res_main_v83 V0 : Vec Ideal S2x8192x1024 .f32) (ix3 b t c)
    = ple (fun k => (res_main_v52 V0 : Vec Ideal S2x8192x1024 .f32) (ix3 b t k))
      (fun k => (V0 (Proc.devRef .tc main_arg1) : Vec Ideal S2x2x8192x256 .f32) (ix4 0 b t k))
      (fun k => (V0 (Proc.devRef .tc main_arg12) : Vec Ideal S2x1024 .f32) (ix2 0 k))
      (fun k c => (V0 (Proc.devRef .tc main_arg14) : Vec Ideal S2x1024x1024 .f32) (ix3 0 k c))
      (fun k c => (V0 (Proc.devRef .tc main_arg13) : Vec Ideal S2x256x1024 .f32) (ix3 0 k c)) c := by
  unfold ple rms
  pointwise [res_main_v83]
  rfl

/-- The rows after the first layer. -/
theorem v83_at (b : Fin 2) (t : Fin 8192) (c : Fin 1024) : (res_main_v83 V0 : Vec Ideal S2x8192x1024 .f32) (ix3 b t c)
    = h1 (argsR V0) (rowOf b t) c := by
  rw [v83_ple]
  unfold h1
  rw [funext fun k => v52_at V0 b t k, ← funext fun k => p_row V0 0 b t k]
  rfl

theorem v97_rms (b : Fin 2) (t : Fin 8192) (c : Fin 2048) : (res_main_v97 V0 : Vec Ideal S2x8192x2048 .f32) (ix3 b t c)
    = projOf (fun k => (res_main_v83 V0 : Vec Ideal S2x8192x1024 .f32) (ix3 b t k))
      (fun k => (V0 (Proc.devRef .tc main_arg5) : Vec Ideal S1024 .f32) (ix1 k))
      (fun k c => (V0 (Proc.devRef .tc main_arg6) : Vec Ideal S1024x2048 .f32) (ix2 k c)) c := by
  unfold projOf rms
  pointwise [res_main_v97]

/-- The shared keys and values. -/
theorem v97_at (b : Fin 2) (t : Fin 8192) (c : Fin 2048) : (res_main_v97 V0 : Vec Ideal S2x8192x2048 .f32) (ix3 b t c)
    = kv (argsR V0) (rowOf b t) c := by
  rw [v97_rms, funext fun k => v83_at V0 b t k]
  rfl

theorem v120_rms (b : Fin 2) (t : Fin 8192) (c : Fin 2048) : (res_main_v120 V0 : Vec Ideal S2x8192x2048 .f32) (ix3 b t c)
    = projOf (fun k => (res_main_v83 V0 : Vec Ideal S2x8192x1024 .f32) (ix3 b t k))
      (fun k => (V0 (Proc.devRef .tc main_arg2) : Vec Ideal S2x1024 .f32) (ix2 1 k))
      (fun k c => (V0 (Proc.devRef .tc main_arg7) : Vec Ideal S1x1024x2048 .f32) (ix3 0 k c)) c := by
  unfold projOf rms
  pointwise [res_main_v120]

/-- The second layer's queries and gates. -/
theorem v120_at (b : Fin 2) (t : Fin 8192) (c : Fin 2048) : (res_main_v120 V0 : Vec Ideal S2x8192x2048 .f32) (ix3 b t c)
    = qg (argsR V0) (rowOf b t) c := by
  rw [v120_rms, funext fun k => v83_at V0 b t k]
  rfl
end Cert.RefIdeal.Value
end
-- ==== Proof.RefBias.lean ====
module
public import proofs.«01_k».proof.Proof.RefFirst
@[expose] public section
set_option maxRecDepth 16384
noncomputable section
open Idealize.ShloMosaic Idealize.ShloMosaic.TcCoe Idealize.SL.Sem

/-! The reference's position bias: the table's row of a distance's bucket. -/

namespace Cert.RefIdeal.Value
open Cert.RefIdeal Cert.RefIdeal.Gen Idealize.ShloMosaic.StableHlo Layer
variable (V0 : Valuation τ sig (Elt Ideal))

/-- The table read at a start index that is a row number. -/
theorem gather_at (x : FVec Ideal S32x8 .f32) (idx : IVec S8192x8192x1 32) (t s : Fin 8192) (h : Fin 8) (n : Fin 32)
    (hn : idx (ix3 t s 0) = BitVec.ofNat 32 n) :
    Host.gather gather_S32x8_S8192x8192x1_S8192x8192x8_2_0_n_n_0_2_18 x idx (ix3 t s h) = x (ix2 n h) := by
  have hi : gather_S32x8_S8192x8192x1_S8192x8192x8_2_0_n_n_0_2_18.siIdx (ix3 t s h) ⟨0, by decide⟩ = (ix3 t s 0 : S8192x8192x1.Idx) := by
    funext a
    match a with
    | ⟨0, _⟩ => exact Fin.ext rfl
    | ⟨1, _⟩ => exact Fin.ext rfl
    | ⟨2, _⟩ => exact Fin.ext rfl
  have hw : (BitVec.ofNat 32 n.val).toInt.toNat = n.val := by
    have := n.isLt
    rw [BitVec.toInt_ofNat', ]
    simp only [Int.bmod_def]
    omega
  unfold Host.gather
  refine congrArg x (funext fun a => Fin.ext ?_)
  match a with
  | ⟨0, _⟩ =>
    show min (idx (gather_S32x8_S8192x8192x1_S8192x8192x8_2_0_n_n_0_2_18.siIdx (ix3 t s h) ⟨0, by decide⟩)).toInt.toNat 31 + 0 + 0 = n.val
    rw [hi, hn, hw]
    have := n.isLt
    omega
  | ⟨1, _⟩ => show 0 + 0 + h.val = h.val; omega

theorem v148_at (t s : Fin 8192) : (res_main_v148 V0 : IVec S8192x8192 32) (ix2 t s)
    = IntOp.subi (BitVec.ofNat 32 t) (BitVec.ofNat 32 s) := by
  pointwise [res_main_v148, res_main_v143]

/-- The distance's word, for a key up to the query. -/
theorem sub_word (t s : Fin 8192) (h : s.val ≤ t.val) : IntOp.subi (BitVec.ofNat 32 t) (BitVec.ofNat 32 s) = BitVec.ofNat 32 (t.val - s.val) := by
  unfold IntOp.subi
  refine BitVec.eq_of_toNat_eq ?_
  rw [BitVec.toNat_sub, BitVec.toNat_ofNat, BitVec.toNat_ofNat, BitVec.toNat_ofNat]
  omega

theorem v170_bucket (t s : Fin 8192) : (res_main_v170 V0 : IVec S8192x8192 32) (ix2 t s)
    = bucketW ((res_main_v148 V0 : IVec S8192x8192 32) (ix2 t s)) := by
  unfold bucketW
  pointwise [res_main_v170, res_main_v152]

/-- The bucket's word, for a key up to the query. -/
theorem v170_at (t s : Fin 8192) (h : s.val ≤ t.val) : (res_main_v170 V0 : IVec S8192x8192 32) (ix2 t s)
    = BitVec.ofNat 32 (bucket (t.val - s.val)).val := by
  rw [v170_bucket, v148_at, sub_word t s h]
  exact bucketW_eq _ (by omega)

/-- A word below 32 is not negative. -/
theorem not_neg (n : Fin 32) (y : BitVec 32) : Scalar.select (IntOp.cmpi .slt (BitVec.ofNat 32 n) 0#32) y (BitVec.ofNat 32 n) = BitVec.ofNat 32 n := by
  revert n
  intro n
  have e : IntOp.cmpi .slt (BitVec.ofNat 32 n) 0#32 = 0#1 := by
    revert n; decide
  rw [e]
  rfl

/-- The bias of a key up to the query. -/
theorem v178_at (h : Fin 8) (t s : Fin 8192) (hs : s.val ≤ t.val) : (res_main_v178 V0 : Vec Ideal S8x8192x8192 .f32) (ix3 h t s)
    = (argsR V0).tab (bucket (t.val - s.val)) h := by
  have e : (res_main_v178 V0 : Vec Ideal S8x8192x8192 .f32) (ix3 h t s)
      = Host.gather gather_S32x8_S8192x8192x1_S8192x8192x8_2_0_n_n_0_2_18 (V0 (Proc.devRef .tc main_arg11) : Vec Ideal S32x8 .f32)
        (broadcastInDim S8192x8192x1 ![0, 1] bcast_S8192x8192_S8192x8192x1_0_1 (select (cmpi .slt (res_main_v170 V0)
          (broadcastInDim S8192x8192 ![] bcast_S_S8192x8192 (constantI S_ 32 0#32))) (addi (res_main_v170 V0)
          (broadcastInDim S8192x8192 ![] bcast_S_S8192x8192 (constantI S_ 32 32#32))) (res_main_v170 V0))) (ix3 t s h) := by
    pointwise [res_main_v178]
  rw [e, gather_at _ _ t s h (bucket (t.val - s.val))]
  · rfl
  · pointwise
    rw [v170_at V0 t s hs]
    exact not_neg _ _
end Cert.RefIdeal.Value
end
-- ==== Proof.SoftRef.lean ====
module
public import proofs.«01_k».proof.Proof.DiffArray
@[expose] public section
noncomputable section
open Idealize.ShloMosaic

/-! The softmax with its largest score taken off is the plain quotient of weights, and the difference of two means. -/

namespace Soft

/-- The largest of scores that are below `⊤`, one of them real, is real. -/
theorem fold_real {ι : Type*} (S : Finset ι) (f : ι → EReal) (i : ι) (hi : i ∈ S) (hb : f i ≠ ⊥) (ht : ∀ j, f j ≠ ⊤) :
    ∃ M : ℝ, Finset.fold max ⊥ f S = (M : EReal) := by
  have h1 : Finset.fold max ⊥ f S ≠ ⊤ := by
    refine ne_of_lt (Finset.fold_max_lt _ |>.mpr ⟨bot_lt_top, fun j _ => lt_top_iff_ne_top.mpr (ht j)⟩)
  have h2 : Finset.fold max ⊥ f S ≠ ⊥ := by
    intro h
    have := (Finset.le_fold_max (s := S) (f := f) (b := ⊥) (f i)).mpr (Or.inr ⟨i, hi, le_rfl⟩)
    rw [h] at this
    exact hb (le_bot_iff.mp this)
  exact ⟨_, (EReal.coe_toReal h1 h2).symm⟩

/-- A score's exponential with a constant taken off. -/
theorem exp_weight (z b : ℕ → ℝ) (t u : ℕ) (s : EReal) (hs : s = if u ≤ t then ((z u + b u : ℝ) : EReal) else ⊥) (M : ℝ) :
    Ideal.exp (s - (M : EReal)) = ((weight z b t u * Real.exp (-M) : ℝ) : EReal) := by
  unfold weight
  by_cases h : u ≤ t
  · rw [hs, if_pos h, if_pos h, ← EReal.coe_sub, exp_real, ← Real.exp_add, sub_eq_add_neg]
  · rw [hs, if_neg h, if_neg h, EReal.bot_sub, zero_mul]
    rfl

theorem weight_sum_pos (z b : ℕ → ℝ) (t : ℕ) (ht : t < 8192) : 0 < ∑ u : Fin 8192, weight z b t u := by
  refine Finset.sum_pos' (fun u _ => ?_) ⟨⟨t, ht⟩, Finset.mem_univ _, ?_⟩
  · unfold weight; split_ifs
    · exact (Real.exp_pos _).le
    · exact le_rfl
  · unfold weight; rw [if_pos le_rfl]; exact Real.exp_pos _

/-- The softmax of a row of scores. -/
theorem soft_quot (s : Fin 8192 → EReal) (z b : ℕ → ℝ) (t : ℕ) (ht : t < 8192)
    (hs : ∀ u : Fin 8192, s u = if u.val ≤ t then ((z u + b u : ℝ) : EReal) else ⊥) (M : ℝ) (u : Fin 8192) :
    Ideal.div (Ideal.exp (s u - (M : EReal))) (∑ u, Ideal.exp (s u - (M : EReal)))
      = ((weight z b t u / ∑ u : Fin 8192, weight z b t u : ℝ) : EReal) := by
  have hp := weight_sum_pos z b t ht
  have he := Real.exp_pos (-M)
  rw [Finset.sum_congr rfl fun (u : Fin 8192) _ => exp_weight z b t u (s u) (hs u) M, coe_sum, exp_weight z b t u (s u) (hs u) M,
    ← Finset.sum_mul, Ideal.div_coe (mul_pos hp he).ne', ← EReal.coe_mul]
  congr 1
  field_simp

/-- The values weighted by a difference of softmaxes sum to the difference of the means. -/
theorem diff_sum (z b z' b' v : ℕ → ℝ) (t : ℕ) (l : ℝ) :
    ∑ u : Fin 8192, ((v u : ℝ) : EReal) * (((weight z b t u / ∑ u : Fin 8192, weight z b t u : ℝ) : EReal)
        - (l : EReal) * ((weight z' b' t u / ∑ u : Fin 8192, weight z' b' t u : ℝ) : EReal))
      = ((avg z b v t : ℝ) : EReal) - (l : EReal) * ((avg z' b' v t : ℝ) : EReal) := by
  have e : ∀ u : Fin 8192, ((v u : ℝ) : EReal) * (((weight z b t u / ∑ u : Fin 8192, weight z b t u : ℝ) : EReal)
        - (l : EReal) * ((weight z' b' t u / ∑ u : Fin 8192, weight z' b' t u : ℝ) : EReal))
      = ((v u * (weight z b t u / ∑ u : Fin 8192, weight z b t u - l * (weight z' b' t u / ∑ u : Fin 8192, weight z' b' t u)) : ℝ) : EReal) := by
    intro u
    simp only [EReal.coe_mul, EReal.coe_sub]
  have e2 : (∑ u : Fin 8192, v u * (weight z b t u / ∑ u : Fin 8192, weight z b t u - l * (weight z' b' t u / ∑ u : Fin 8192, weight z' b' t u)))
      = avg z b v t - l * avg z' b' v t := by
    unfold avg
    rw [Finset.sum_div, Finset.sum_div, Finset.mul_sum, ← Finset.sum_sub_distrib]
    exact Finset.sum_congr rfl fun u _ => by ring
  rw [Finset.sum_congr rfl fun u _ => e u, coe_sum, e2, EReal.coe_sub, EReal.coe_mul]
end Soft
end
-- ==== Proof.RefSecond.lean ====
module
public import proofs.«01_k».proof.Proof.RefBias
public import proofs.«01_k».proof.Proof.SoftRef
public import proofs.«01_k».proof.Proof.Real
@[expose] public section
set_option maxRecDepth 16384
noncomputable section
open Idealize.ShloMosaic Idealize.ShloMosaic.TcCoe Idealize.SL.Sem

/-! The reference's differential attention and its last rows. -/

namespace Cert.RefIdeal.Value
open Cert.RefIdeal Cert.RefIdeal.Gen Idealize.ShloMosaic.StableHlo Layer
variable (V0 : Valuation τ sig (Elt Ideal))

/-- Entries of the reference's arrays. -/
abbrev e97 (b : Fin 2) (t : Fin 8192) (c : Fin 2048) : EReal := (res_main_v97 V0 : Vec Ideal S2x8192x2048 .f32) (ix3 b t c)
abbrev e120 (b : Fin 2) (t : Fin 8192) (c : Fin 2048) : EReal := (res_main_v120 V0 : Vec Ideal S2x8192x2048 .f32) (ix3 b t c)
abbrev e178 (h : Fin 8) (t s : Fin 8192) : EReal := (res_main_v178 V0 : Vec Ideal S8x8192x8192 .f32) (ix3 h t s)
abbrev e191 (b : Fin 2) (h : Fin 8) (t s : Fin 8192) : EReal := (res_main_v191 V0 : Vec Ideal S2x8x8192x8192 .f32) (ix4 b h t s)
abbrev e203 (b : Fin 2) (h : Fin 8) (t s : Fin 8192) : EReal := (res_main_v203 V0 : Vec Ideal S2x8x8192x8192 .f32) (ix4 b h t s)
abbrev e198 (b : Fin 2) (h : Fin 8) (t s : Fin 8192) : EReal := (res_main_v198 V0 : Vec Ideal S2x8x8192x8192 .f32) (ix4 b h t s)
abbrev e210 (b : Fin 2) (h : Fin 8) (t s : Fin 8192) : EReal := (res_main_v210 V0 : Vec Ideal S2x8x8192x8192 .f32) (ix4 b h t s)
abbrev e219 (b : Fin 2) (t : Fin 8192) (h : Fin 8) (d : Fin 128) : EReal := (res_main_v219 V0 : Vec Ideal S2x8192x8x128 .f32) (ix4 b t h d)

theorem bits_bot : Ideal.ofBits .f32 0xFF800000#32 = ⊥ := by
  simp [Ideal.ofBits, Ideal.ieee]

/-- The causal mask. -/
def keep (t s : Fin 8192) : BitVec 1 := IntOp.cmpi .sge (IntOp.subi (BitVec.ofNat 32 t) (BitVec.ofNat 32 s)) 0#32

theorem keep_le (t s : Fin 8192) (h : s.val ≤ t.val) : keep t s = 1#1 := by
  unfold keep
  rw [sub_word t s h, WordCmp.cmpi_sge_ofNat (by omega) (by omega), decide_eq_true (by omega)]
  rfl

theorem keep_gt (t s : Fin 8192) (h : ¬ s.val ≤ t.val) : keep t s = 0#1 := by
  unfold keep
  have e : (IntOp.subi (BitVec.ofNat 32 t.val) (BitVec.ofNat 32 s.val)).toNat = 2 ^ 32 + t.val - s.val := by
    simp only [IntOp.subi, BitVec.toNat_sub, BitVec.toNat_ofNat]
    omega
  rw [WordCmp.cmpi_sge_zero, e, decide_eq_false (by omega)]
  rfl

theorem e191_sel (b : Fin 2) (h : Fin 8) (t s : Fin 8192) : e191 V0 b h t s
    = Scalar.select (keep t s) ((∑ x : Fin 64, e120 V0 b t ⟨h * 64 + x, by omega⟩ * e97 V0 b s ⟨h * 64 + x, by omega⟩) * scale
      + e178 V0 h t s) (Ideal.ofBits .f32 0xFF800000#32) := by
  have e : (res_main_v148 V0 : IVec S8192x8192 32) (ix2 t s) = _ := v148_at V0 t s
  unfold e191 scale keep
  rw [← e]
  pointwise [res_main_v191, res_main_v150]
  rfl

theorem e203_sel (b : Fin 2) (h : Fin 8) (t s : Fin 8192) : e203 V0 b h t s
    = Scalar.select (keep t s) ((∑ x : Fin 64, e120 V0 b t ⟨512 + (h * 64 + x), by omega⟩ * e97 V0 b s ⟨512 + (h * 64 + x), by omega⟩) * scale
      + e178 V0 h t s) (Ideal.ofBits .f32 0xFF800000#32) := by
  have e : (res_main_v148 V0 : IVec S8192x8192 32) (ix2 t s) = _ := v148_at V0 t s
  unfold e203 scale keep
  rw [← e]
  pointwise [res_main_v203, res_main_v150]
  rfl

/-- A masked score is the score and the bias up to the query, and `⊥` after it. -/
theorem score_at (H : (argsR V0).Real) (m : Fin 2) (b : Fin 2) (h : Fin 8) (t s : Fin 8192) (e : EReal)
    (he : e = Scalar.select (keep t s) ((∑ x : Fin 64, e120 V0 b t ⟨m * 512 + (h * 64 + x), by omega⟩
      * e97 V0 b s ⟨m * 512 + (h * 64 + x), by omega⟩) * scale + e178 V0 h t s) (Ideal.ofBits .f32 0xFF800000#32)) :
    e = if s.val ≤ t.val then (((zB (argsR V0) m (rowOf b t) h s).toReal + bias (argsR V0) h t s : ℝ) : EReal) else ⊥ := by
  rw [he]
  by_cases hs : s.val ≤ t.val
  · rw [keep_le t s hs, if_pos hs, EReal.coe_add, (zB_real H m (rowOf b t) h s).toReal]
    show _ + _ = _
    have h1 : (∑ x : Fin 64, e120 V0 b t ⟨m * 512 + (h * 64 + x), by omega⟩ * e97 V0 b s ⟨m * 512 + (h * 64 + x), by omega⟩) * scale
        = zB (argsR V0) m (rowOf b t) h s := by
      rw [sum_scale]
      unfold zB
      rw [dif_pos s.isLt, rowOf_key]
      exact Finset.sum_congr rfl fun y _ => congrArg₂ (fun p q : EReal => p * (q * scale)) (v97_at ..) (v120_at ..)
    have h2 : e178 V0 h t s = ((bias (argsR V0) h t s : ℝ) : EReal) := by
      unfold bias
      rw [(H.tab _ h).toReal]
      exact v178_at V0 h t s hs
    rw [h1, h2]
  · rw [keep_gt t s hs, if_neg hs]
    exact bits_bot

theorem score0 (H : (argsR V0).Real) (b : Fin 2) (h : Fin 8) (t s : Fin 8192) : e191 V0 b h t s
    = if s.val ≤ t.val then (((zB (argsR V0) 0 (rowOf b t) h s).toReal + bias (argsR V0) h t s : ℝ) : EReal) else ⊥ := by
  refine score_at V0 H 0 b h t s _ ?_
  have e : ∀ x : Fin 64, (⟨(0 : Fin 2).val * 512 + (h * 64 + x), by have : (0 : Fin 2).val = 0 := rfl; omega⟩ : Fin 2048) = ⟨h * 64 + x, by omega⟩ := fun x => Fin.ext (by
    have : (0 : Fin 2).val = 0 := rfl
    dsimp only; omega)
  simp only [e]
  exact e191_sel V0 b h t s

theorem score1 (H : (argsR V0).Real) (b : Fin 2) (h : Fin 8) (t s : Fin 8192) : e203 V0 b h t s
    = if s.val ≤ t.val then (((zB (argsR V0) 1 (rowOf b t) h s).toReal + bias (argsR V0) h t s : ℝ) : EReal) else ⊥ := by
  refine score_at V0 H 1 b h t s _ ?_
  have e : ∀ x : Fin 64, (⟨(1 : Fin 2).val * 512 + (h * 64 + x), by have : (1 : Fin 2).val = 1 := rfl; omega⟩ : Fin 2048) = ⟨512 + (h * 64 + x), by omega⟩ := fun x => Fin.ext (by
    have : (1 : Fin 2).val = 1 := rfl
    dsimp only; omega)
  simp only [e]
  exact e203_sel V0 b h t s

/-- The largest entry of each row of scores. -/
def rowMax (x : FVec Ideal S2x8x8192x8192 .f32) : FVec Ideal S2x8x8192 .f32 :=
  Host.reduce FloatOps.maximumf x (constant S_ .f32 0xFF800000#32) reducesTo_S2x8x8192x8192_S2x8x8192_d3 h_S_

/-- The exponentials of the scores less a row's number. -/
def expOf (x : FVec Ideal S2x8x8192x8192 .f32) (r : FVec Ideal S2x8x8192 .f32) : FVec Ideal S2x8x8192x8192 .f32 :=
  Host.exp (subf x (broadcastInDim S2x8x8192x8192 ![0, 1, 2, 3] bcast_S2x8x8192x1_S2x8x8192x8192_0_1_2_3
    (broadcastInDim S2x8x8192x1 ![0, 1, 2] bcast_S2x8x8192_S2x8x8192x1_0_1_2
      (maximumf (broadcastInDim S2x8x8192 ![] bcast_S_S2x8x8192 (constant S_ .f32 0xFF800000#32)) r))))

theorem expOf_at (x : FVec Ideal S2x8x8192x8192 .f32) (r : FVec Ideal S2x8x8192 .f32) (b : Fin 2) (h : Fin 8) (t s : Fin 8192) :
    expOf x r (ix4 b h t s) = Ideal.exp (x (ix4 b h t s) - max (Ideal.ofBits .f32 0xFF800000#32) (r (ix3 b h t))) := by
  pointwise [expOf]

/-- The largest of a row of masked scores is real. -/
theorem rowMax_real (x : FVec Ideal S2x8x8192x8192 .f32) (b : Fin 2) (h : Fin 8) (t : Fin 8192)
    (hx : ∀ b h t s, x (ix4 b h t s) ≠ (⊤ : EReal)) (hb : x (ix4 b h t t) ≠ (⊥ : EReal)) :
    ∃ M : ℝ, rowMax x (ix3 b h t) = (M : EReal) := by
  obtain ⟨M, hM⟩ := Soft.fold_real (Finset.univ.filter fun i => reducesTo_S2x8x8192x8192_S2x8x8192_d3.drop i = (ix3 b h t : S2x8x8192.Idx)) x
    (ix4 b h t t) (by
      rw [Finset.mem_filter]
      refine ⟨Finset.mem_univ _, funext fun a => ?_⟩
      match a with
      | ⟨0, _⟩ => exact Fin.ext rfl
      | ⟨1, _⟩ => exact Fin.ext rfl
      | ⟨2, _⟩ => exact Fin.ext rfl) hb (fun i => by
      have e : i = (ix4 (i 0) (i 1) (i 2) (i 3) : S2x8x8192x8192.Idx) := by
        funext a
        match a with
        | ⟨0, _⟩ => rfl
        | ⟨1, _⟩ => rfl
        | ⟨2, _⟩ => rfl
        | ⟨3, _⟩ => rfl
      rw [e]
      exact hx _ _ _ _)
  refine ⟨M, ?_⟩
  have e := Host.reduce_eq_fold (max : EReal → EReal → EReal) x (fun _ : S_.Idx => (⊥ : EReal))
    reducesTo_S2x8x8192x8192_S2x8x8192_d3 h_S_ (ix3 b h t)
  have hc : (constant S_ .f32 0xFF800000#32 : FVec Ideal S_ .f32) = fun _ => (⊥ : EReal) := funext fun _ => bits_bot
  unfold rowMax
  rw [hc]
  exact e.trans hM

/-- A row of exponentials, the row's largest score being real. -/
theorem expOf_real (x : FVec Ideal S2x8x8192x8192 .f32) (b : Fin 2) (h : Fin 8) (t : Fin 8192)
    (hx : ∀ b h t s, x (ix4 b h t s) ≠ (⊤ : EReal)) (hb : x (ix4 b h t t) ≠ (⊥ : EReal)) :
    ∃ M : ℝ, ∀ s, expOf x (rowMax x) (ix4 b h t s) = Ideal.exp (x (ix4 b h t s) - (M : EReal)) := by
  obtain ⟨M, hM⟩ := rowMax_real x b h t hx hb
  exact ⟨M, fun s => by rw [expOf_at, hM, bits_bot, max_eq_right bot_le]⟩

theorem v198_exp : res_main_v198 V0 = expOf (res_main_v191 V0) (rowMax (res_main_v191 V0)) := rfl
theorem v210_exp : res_main_v210 V0 = expOf (res_main_v203 V0) (rowMax (res_main_v203 V0)) := rfl

theorem ite_top (P : Prop) [Decidable P] (r : ℝ) : (if P then (r : EReal) else ⊥) ≠ ⊤ := by
  split_ifs
  · exact EReal.coe_ne_top _
  · exact bot_ne_top

/-- The first map's softmax. -/
theorem soft0 (H : (argsR V0).Real) (b : Fin 2) (h : Fin 8) (t s : Fin 8192) :
    Ideal.div (e198 V0 b h t s) (∑ u, e198 V0 b h t u)
      = ((Soft.weight (fun u => (zB (argsR V0) 0 (rowOf b t) h u).toReal) (bias (argsR V0) h t) t s
        / ∑ u : Fin 8192, Soft.weight (fun u => (zB (argsR V0) 0 (rowOf b t) h u).toReal) (bias (argsR V0) h t) t u : ℝ) : EReal) := by
  obtain ⟨M, hM⟩ := expOf_real (res_main_v191 V0) b h t
    (fun b h t s => ne_of_eq_of_ne (score0 V0 H b h t s) (ite_top _ _)) (by
      have := score0 V0 H b h t t
      rw [if_pos le_rfl] at this
      exact ne_of_eq_of_ne this (EReal.coe_ne_bot _))
  have e : ∀ s, e198 V0 b h t s = Ideal.exp (e191 V0 b h t s - (M : EReal)) := fun s =>
    (congrFun (v198_exp V0) (ix4 b h t s : S2x8x8192x8192.Idx)).trans (hM s)
  rw [e s, Finset.sum_congr rfl fun u _ => e u]
  exact Soft.soft_quot (e191 V0 b h t) _ _ t t.isLt (fun u => score0 V0 H b h t u) M s

/-- The second map's softmax. -/
theorem soft1 (H : (argsR V0).Real) (b : Fin 2) (h : Fin 8) (t s : Fin 8192) :
    Ideal.div (e210 V0 b h t s) (∑ u, e210 V0 b h t u)
      = ((Soft.weight (fun u => (zB (argsR V0) 1 (rowOf b t) h u).toReal) (bias (argsR V0) h t) t s
        / ∑ u : Fin 8192, Soft.weight (fun u => (zB (argsR V0) 1 (rowOf b t) h u).toReal) (bias (argsR V0) h t) t u : ℝ) : EReal) := by
  obtain ⟨M, hM⟩ := expOf_real (res_main_v203 V0) b h t
    (fun b h t s => ne_of_eq_of_ne (score1 V0 H b h t s) (ite_top _ _)) (by
      have := score1 V0 H b h t t
      rw [if_pos le_rfl] at this
      exact ne_of_eq_of_ne this (EReal.coe_ne_bot _))
  have e : ∀ s, e210 V0 b h t s = Ideal.exp (e203 V0 b h t s - (M : EReal)) := fun s =>
    (congrFun (v210_exp V0) (ix4 b h t s : S2x8x8192x8192.Idx)).trans (hM s)
  rw [e s, Finset.sum_congr rfl fun u _ => e u]
  exact Soft.soft_quot (e203 V0 b h t) _ _ t t.isLt (fun u => score1 V0 H b h t u) M s

theorem e219_sum (b : Fin 2) (t : Fin 8192) (h : Fin 8) (d : Fin 128) : e219 V0 b t h d
    = ∑ x : Fin 8192, e97 V0 b x ⟨1024 + (h * 128 + d), by omega⟩ * (Ideal.div (e198 V0 b h t x) (∑ u, e198 V0 b h t u)
      - lam (argsR V0) * Ideal.div (e210 V0 b h t x) (∑ u, e210 V0 b h t u)) := by
  have e : ∀ (a : Fin 4) (y : Fin 64), (argsR V0).lp a y = (res_main_v126 V0 : FVec Ideal S4x64 .f32) (ix2 a y) := by
    intro a y
    have : (res_main_v126 V0 : FVec Ideal S4x64 .f32) (ix2 a y) = (V0 (Proc.devRef .tc main_arg8) : Vec Ideal S1x4x64 .f32) (ix3 0 a y) := by
      pointwise [res_main_v126]
    exact this.symm
  unfold lam
  simp only [e]
  unfold e219
  pointwise [res_main_v219]

/-- The difference of the two means. -/
theorem e219_at (H : (argsR V0).Real) (b : Fin 2) (t : Fin 8192) (h : Fin 8) (d : Fin 128) : e219 V0 b t h d
    = mean (argsR V0) 0 (rowOf b t) h d - lam (argsR V0) * mean (argsR V0) 1 (rowOf b t) h d := by
  obtain ⟨l, hl⟩ := lam_real H
  rw [e219_sum, hl]
  unfold mean
  rw [rowOf_mod, ← Soft.diff_sum]
  refine Finset.sum_congr rfl fun x _ => ?_
  rw [soft0 V0 H, soft1 V0 H]
  refine congrArg (· * _) ?_
  rw [(vB_real H _ _ x).toReal]
  unfold vB
  rw [dif_pos x.isLt, rowOf_key]
  exact v97_at V0 b x _
end Cert.RefIdeal.Value
end
-- ==== Proof.RefLast.lean ====
module
public import proofs.«01_k».proof.Proof.RefSecond
@[expose] public section
set_option maxRecDepth 16384
noncomputable section
open Idealize.ShloMosaic Idealize.ShloMosaic.TcCoe Idealize.SL.Sem

/-! The reference's rows from the differential attention to the result. -/

namespace Cert.RefIdeal.Value
open Cert.RefIdeal Cert.RefIdeal.Gen Idealize.ShloMosaic.StableHlo Layer
variable (V0 : Valuation τ sig (Elt Ideal))

/-- The normalised heads, side by side. -/
def refNorm (a : FVec Ideal S2x8192x8x128 .f32) (g : FVec Ideal S1x128 .f32) : FVec Ideal S2x8192x1024 .f32 :=
  shapeCast _ (mulf (mulf (mulf a (broadcastInDim S2x8192x8x128 ![0, 1, 2, 3] bcast_S2x8192x8x1_S2x8192x8x128_0_1_2_3 (Host.rsqrt (addf (Host.divf (broadcastInDim S2x8192x8x1 ![0, 1, 2] bcast_S2x8192x8_S2x8192x8x1_0_1_2 (Host.reduceAdd (mulf a a) (constant S_ .f32 0x00000000#32) reducesTo_S2x8192x8x128_S2x8192x8_d3 h_S_)) (broadcastInDim S2x8192x8x1 ![] bcast_S_S2x8192x8x1 (constant S_ .f32 0x43000000#32))) (broadcastInDim S2x8192x8x1 ![] bcast_S_S2x8192x8x1 (constant S_ .f32 0x358637BD#32)))))) (broadcastInDim S2x8192x8x128 ![0, 1, 2, 3] bcast_S1x1x1x128_S2x8192x8x128_0_1_2_3 (broadcastInDim S1x1x1x128 ![3] bcast_S128_S1x1x1x128_3 (shapeCast _ g shapeCasts_S1x128_S128)))) (broadcastInDim S2x8192x8x128 ![] bcast_S_S2x8192x8x128 (constant S_ .f32 0x3F24FD5C#32))) shapeCasts_S2x8192x8x128_S2x8192x1024

/-- A normalised head. -/
def headNorm (f g : Fin 128 → EReal) (d : Fin 128) : EReal :=
  f d * Ideal.rsqrt (Ideal.div (∑ k, f k * f k) (Ideal.ofBits .f32 0x43000000#32) + Ideal.ofBits .f32 0x358637BD#32) * g d
    * Ideal.ofBits .f32 0x3F24FD5C#32

theorem refNorm_at (a : FVec Ideal S2x8192x8x128 .f32) (g : FVec Ideal S1x128 .f32) (b : Fin 2) (t : Fin 8192) (c : Fin 1024) :
    refNorm a g (ix3 b t c) = headNorm (fun d => a (ix4 b t ⟨c / 128, by omega⟩ d)) (fun d => g (ix2 0 d)) ⟨c % 128, by omega⟩ := by
  unfold headNorm
  pointwise [refNorm]

theorem v241_eq : res_main_v241 V0 = refH (res_main_v83 V0) (refNorm (res_main_v219 V0) (V0 (Proc.devRef .tc main_arg9)))
    (res_main_v123 V0) (V0 (Proc.devRef .tc main_arg10)) := rfl

theorem v123_at (b : Fin 2) (t : Fin 8192) (c : Fin 1024) : (res_main_v123 V0 : Vec Ideal S2x8192x1024 .f32) (ix3 b t c)
    = qg (argsR V0) (rowOf b t) ⟨1024 + c, by omega⟩ := by
  refine Eq.trans ?_ (v120_at V0 b t ⟨1024 + c, by omega⟩)
  pointwise [res_main_v123]

variable (H : (argsR V0).Real)
include H

/-- The normalised differential attention. -/
theorem norm_at (b : Fin 2) (t : Fin 8192) (c : Fin 1024) :
    refNorm (res_main_v219 V0) (V0 (Proc.devRef .tc main_arg9)) (ix3 b t c)
      = oB (argsR V0) (rowOf b t) ⟨c / 128, by omega⟩ ⟨c % 128, by omega⟩ := by
  refine (refNorm_at _ _ b t c).trans ?_
  have e : (fun d : Fin 128 => (res_main_v219 V0 : FVec Ideal S2x8192x8x128 .f32) (ix4 b t ⟨c / 128, by omega⟩ d))
      = fun d => mean (argsR V0) 0 (rowOf b t) ⟨c / 128, by omega⟩ d - lam (argsR V0) * mean (argsR V0) 1 (rowOf b t) ⟨c / 128, by omega⟩ d :=
    funext fun d => e219_at V0 H b t _ d
  rw [e]
  rfl

/-- The hidden rows after the second attention. -/
theorem v241_at (b : Fin 2) (t : Fin 8192) (c : Fin 1024) : (res_main_v241 V0 : Vec Ideal S2x8192x1024 .f32) (ix3 b t c)
    = hB (argsR V0) (rowOf b t) c := by
  rw [v241_eq, refH_at, funext fun k => v83_at V0 b t k, funext fun k => norm_at V0 H b t k, funext fun k => v123_at V0 b t k]
  rfl

omit H in
theorem v272_ple (b : Fin 2) (t : Fin 8192) (c : Fin 1024) : (res_main_v272 V0 : Vec Ideal S2x8192x1024 .f32) (ix3 b t c)
    = ple (fun k => (res_main_v241 V0 : Vec Ideal S2x8192x1024 .f32) (ix3 b t k))
      (fun k => (V0 (Proc.devRef .tc main_arg1) : Vec Ideal S2x2x8192x256 .f32) (ix4 1 b t k))
      (fun k => (V0 (Proc.devRef .tc main_arg12) : Vec Ideal S2x1024 .f32) (ix2 1 k))
      (fun k c => (V0 (Proc.devRef .tc main_arg14) : Vec Ideal S2x1024x1024 .f32) (ix3 1 k c))
      (fun k c => (V0 (Proc.devRef .tc main_arg13) : Vec Ideal S2x256x1024 .f32) (ix3 1 k c)) c := by
  unfold ple rms
  pointwise [res_main_v272]
  rfl

theorem v272_at (b : Fin 2) (t : Fin 8192) (c : Fin 1024) : (res_main_v272 V0 : Vec Ideal S2x8192x1024 .f32) (ix3 b t c)
    = ple (hB (argsR V0) (rowOf b t)) ((argsR V0).p 1 (rowOf b t)) ((argsR V0).gP 1) ((argsR V0).wG 1) ((argsR V0).wP 1) c := by
  rw [v272_ple, funext fun k => v241_at V0 H b t k, ← funext fun k => p_row V0 1 b t k]
  rfl

omit H in
/-- The last normalisation. -/
def refOut (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

omit H in
theorem refOut_at (x : FVec Ideal S2x8192x1024 .f32) (g : FVec Ideal S1024 .f32) (b : Fin 2) (t : Fin 8192) (c : Fin 1024) :
    refOut x g (ix3 b t c) = rms (fun k => x (ix3 b t k)) (fun k => g (ix1 k)) c := by
  unfold rms
  pointwise [refOut]

/-- The reference's result. -/
theorem result_at (b : Fin 2) (t : Fin 8192) (c : Fin 1024) :
    refOut (res_main_v272 V0) (V0 (Proc.devRef .tc main_arg15)) (ix3 b t c) = out (argsR V0) (rowOf b t) c := by
  rw [refOut_at, funext fun k => v272_at V0 H b t k]
  rfl
end Cert.RefIdeal.Value
end
-- ==== Proof.Whole.lean ====
module
public import proofs.«01_k».proof.Proof.PreReal
public import proofs.«01_k».proof.Proof.KernelValue
public import proofs.«01_k».proof.Proof.RefLast
public import proofs.«01_k».proof.Proof.Gen.RefIdeal.Run
public import Idealize.ShloMosaic.Lib.Claim
public import Idealize.ShloMosaic.Lib.Quiescent
@[expose] public section
set_option maxRecDepth 16384
noncomputable section
open Idealize.ShloMosaic Idealize.ShloMosaic.TcCoe Idealize.SL.Sem

/-! The kernel and the reference end with the same array. -/

namespace Cert.Proof
open Idealize.ShloMosaic.StableHlo

/-- Two launch memories that agree on the arguments hold the same layer. -/
theorem args_agree (m : (ℓ : Loc Cert.KernelIdeal.nD Cert.KernelIdeal.τ Cert.KernelIdeal.sig) → Buf (Elt Ideal) ℓ)
    (m' : (ℓ : Loc Cert.RefIdeal.nD Cert.RefIdeal.τ Cert.RefIdeal.sig) → Buf (Elt Ideal) ℓ) (c : Dev Cert.KernelIdeal.nD)
    (h : m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)
      ∧ m' ((c.tc : Thread Cert.RefIdeal.nD Cert.RefIdeal.τ).loc Cert.RefIdeal.main_arg7) = m ((c.tc : Thread Cert.KernelIdeal.nD Cert.KernelIdeal.τ).loc Cert.KernelIdeal.main_arg7)
      ∧ m' ((c.tc : Thread Cert.RefIdeal.nD Cert.RefIdeal.τ).loc Cert.RefIdeal.main_arg8) = m ((c.tc : Thread Cert.KernelIdeal.nD Cert.KernelIdeal.τ).loc Cert.KernelIdeal.main_arg8)
      ∧ m' ((c.tc : Thread Cert.RefIdeal.nD Cert.RefIdeal.τ).loc Cert.RefIdeal.main_arg9) = m ((c.tc : Thread Cert.KernelIdeal.nD Cert.KernelIdeal.τ).loc Cert.KernelIdeal.main_arg9)
      ∧ m' ((c.tc : Thread Cert.RefIdeal.nD Cert.RefIdeal.τ).loc Cert.RefIdeal.main_arg10) = m ((c.tc : Thread Cert.KernelIdeal.nD Cert.KernelIdeal.τ).loc Cert.KernelIdeal.main_arg10)
      ∧ m' ((c.tc : Thread Cert.RefIdeal.nD Cert.RefIdeal.τ).loc Cert.RefIdeal.main_arg11) = m ((c.tc : Thread Cert.KernelIdeal.nD Cert.KernelIdeal.τ).loc Cert.KernelIdeal.main_arg11)
      ∧ m' ((c.tc : Thread Cert.RefIdeal.nD Cert.RefIdeal.τ).loc Cert.RefIdeal.main_arg12) = m ((c.tc : Thread Cert.KernelIdeal.nD Cert.KernelIdeal.τ).loc Cert.KernelIdeal.main_arg12)
      ∧ m' ((c.tc : Thread Cert.RefIdeal.nD Cert.RefIdeal.τ).loc Cert.RefIdeal.main_arg13) = m ((c.tc : Thread Cert.KernelIdeal.nD Cert.KernelIdeal.τ).loc Cert.KernelIdeal.main_arg13)
      ∧ m' ((c.tc : Thread Cert.RefIdeal.nD Cert.RefIdeal.τ).loc Cert.RefIdeal.main_arg14) = m ((c.tc : Thread Cert.KernelIdeal.nD Cert.KernelIdeal.τ).loc Cert.KernelIdeal.main_arg14)
      ∧ m' ((c.tc : Thread Cert.RefIdeal.nD Cert.RefIdeal.τ).loc Cert.RefIdeal.main_arg15) = m ((c.tc : Thread Cert.KernelIdeal.nD Cert.KernelIdeal.τ).loc Cert.KernelIdeal.main_arg15)) :
    Cert.RefIdeal.Value.argsR (launchContents m' c) = Cert.KernelIdeal.Value.argsOf m c := by
  obtain ⟨e0, e1, e2, e3, e4, e5, e6, e7, e8, e9, e10, e11, e12, e13, e14, e15⟩ := h
  show Layer.mkArgs (m' ((c.tc : Thread Cert.RefIdeal.nD Cert.RefIdeal.τ).loc Cert.RefIdeal.main_arg0)) (m' ((c.tc : Thread Cert.RefIdeal.nD Cert.RefIdeal.τ).loc Cert.RefIdeal.main_arg1)) (m' ((c.tc : Thread Cert.RefIdeal.nD Cert.RefIdeal.τ).loc Cert.RefIdeal.main_arg2)) (m' ((c.tc : Thread Cert.RefIdeal.nD Cert.RefIdeal.τ).loc Cert.RefIdeal.main_arg3)) (m' ((c.tc : Thread Cert.RefIdeal.nD Cert.RefIdeal.τ).loc Cert.RefIdeal.main_arg4)) (m' ((c.tc : Thread Cert.RefIdeal.nD Cert.RefIdeal.τ).loc Cert.RefIdeal.main_arg5)) (m' ((c.tc : Thread Cert.RefIdeal.nD Cert.RefIdeal.τ).loc Cert.RefIdeal.main_arg6)) (m' ((c.tc : Thread Cert.RefIdeal.nD Cert.RefIdeal.τ).loc Cert.RefIdeal.main_arg7)) (m' ((c.tc : Thread Cert.RefIdeal.nD Cert.RefIdeal.τ).loc Cert.RefIdeal.main_arg8)) (m' ((c.tc : Thread Cert.RefIdeal.nD Cert.RefIdeal.τ).loc Cert.RefIdeal.main_arg9)) (m' ((c.tc : Thread Cert.RefIdeal.nD Cert.RefIdeal.τ).loc Cert.RefIdeal.main_arg10)) (m' ((c.tc : Thread Cert.RefIdeal.nD Cert.RefIdeal.τ).loc Cert.RefIdeal.main_arg11)) (m' ((c.tc : Thread Cert.RefIdeal.nD Cert.RefIdeal.τ).loc Cert.RefIdeal.main_arg12)) (m' ((c.tc : Thread Cert.RefIdeal.nD Cert.RefIdeal.τ).loc Cert.RefIdeal.main_arg13)) (m' ((c.tc : Thread Cert.RefIdeal.nD Cert.RefIdeal.τ).loc Cert.RefIdeal.main_arg14)) (m' ((c.tc : Thread Cert.RefIdeal.nD Cert.RefIdeal.τ).loc Cert.RefIdeal.main_arg15)) = _
  rw [e0, e1, e2, e3, e4, e5, e6, e7, e8, e9, e10, e11, e12, e13, e14, e15]
  rfl

/-- The reference runs and leaves its arguments as they were. -/
theorem ref_frame : Cert.quiescent_RefIdeal := by
  intro m ρ _
  refine (θ_run _ _ _).mono (fun r h => ⟨fun c => (h c).2, ?_⟩) (Cert.RefIdeal.Value.run m ρ)
  exact sem_eq_zero_of_no_sems (by decide) r.2

/-- **The kernel and the reference end with equal results over the extended reals.** -/
theorem algebraic [Cert.Pre_finite.Facts] : Cert.algebraic_KernelIdeal_RefIdeal_pre_finite := by
  intro m ρ m' ρ' hpre hag
  refine ⟨fun c => Cert.KernelIdeal.Gen.W12 m ρ c (Proc.devRef .tc Cert.KernelIdeal.main_v81), ?_, ?_⟩
  · refine (θ_run _ _ _).mono (fun r h c => ?_) (Cert.KernelIdeal.Gen.run m ρ)
    exact ⟨h.1 c _ (Cert.KernelIdeal.Gen.mem_uc Cert.KernelIdeal.main_v81 (by decide)),
      (h.1 c _ (Cert.KernelIdeal.Gen.mem_uc Cert.KernelIdeal.main_arg0 (by decide))).trans (Cert.KernelIdeal.Gen.W12_main_arg0 m ρ c),
      (h.1 c _ (Cert.KernelIdeal.Gen.mem_uc Cert.KernelIdeal.main_arg1 (by decide))).trans (Cert.KernelIdeal.Gen.W12_main_arg1 m ρ c),
      (h.1 c _ (Cert.KernelIdeal.Gen.mem_uc Cert.KernelIdeal.main_arg2 (by decide))).trans (Cert.KernelIdeal.Gen.W12_main_arg2 m ρ c),
      (h.1 c _ (Cert.KernelIdeal.Gen.mem_uc Cert.KernelIdeal.main_arg3 (by decide))).trans (Cert.KernelIdeal.Gen.W12_main_arg3 m ρ c),
      (h.1 c _ (Cert.KernelIdeal.Gen.mem_uc Cert.KernelIdeal.main_arg4 (by decide))).trans (Cert.KernelIdeal.Gen.W12_main_arg4 m ρ c),
      (h.1 c _ (Cert.KernelIdeal.Gen.mem_uc Cert.KernelIdeal.main_arg5 (by decide))).trans (Cert.KernelIdeal.Gen.W12_main_arg5 m ρ c),
      (h.1 c _ (Cert.KernelIdeal.Gen.mem_uc Cert.KernelIdeal.main_arg6 (by decide))).trans (Cert.KernelIdeal.Gen.W12_main_arg6 m ρ c),
      (h.1 c _ (Cert.KernelIdeal.Gen.mem_uc Cert.KernelIdeal.main_arg7 (by decide))).trans (Cert.KernelIdeal.Gen.W12_main_arg7 m ρ c),
      (h.1 c _ (Cert.KernelIdeal.Gen.mem_uc Cert.KernelIdeal.main_arg8 (by decide))).trans (Cert.KernelIdeal.Gen.W12_main_arg8 m ρ c),
      (h.1 c _ (Cert.KernelIdeal.Gen.mem_uc Cert.KernelIdeal.main_arg9 (by decide))).trans (Cert.KernelIdeal.Gen.W12_main_arg9 m ρ c),
      (h.1 c _ (Cert.KernelIdeal.Gen.mem_uc Cert.KernelIdeal.main_arg10 (by decide))).trans (Cert.KernelIdeal.Gen.W12_main_arg10 m ρ c),
      (h.1 c _ (Cert.KernelIdeal.Gen.mem_uc Cert.KernelIdeal.main_arg11 (by decide))).trans (Cert.KernelIdeal.Gen.W12_main_arg11 m ρ c),
      (h.1 c _ (Cert.KernelIdeal.Gen.mem_uc Cert.KernelIdeal.main_arg12 (by decide))).trans (Cert.KernelIdeal.Gen.W12_main_arg12 m ρ c),
      (h.1 c _ (Cert.KernelIdeal.Gen.mem_uc Cert.KernelIdeal.main_arg13 (by decide))).trans (Cert.KernelIdeal.Gen.W12_main_arg13 m ρ c),
      (h.1 c _ (Cert.KernelIdeal.Gen.mem_uc Cert.KernelIdeal.main_arg14 (by decide))).trans (Cert.KernelIdeal.Gen.W12_main_arg14 m ρ c),
      (h.1 c _ (Cert.KernelIdeal.Gen.mem_uc Cert.KernelIdeal.main_arg15 (by decide))).trans (Cert.KernelIdeal.Gen.W12_main_arg15 m ρ c)⟩
  · refine (θ_run _ _ _).mono (fun r h c => ?_) (Cert.RefIdeal.Value.run m' ρ')
    refine ⟨(h c).1.trans ?_, (h c).2⟩
    have E := args_agree m m' c (hag c)
    have H := Cert.KernelIdeal.Value.args_real m hpre c
    have H' : (Cert.RefIdeal.Value.argsR (launchContents m' c)).Real := E ▸ H
    funext j
    idx_vars j
    exact (Cert.RefIdeal.Value.result_at (launchContents m' c) H' _ _ _).trans
      ((congrArg (fun A => Layer.out A _ _) E).trans (Cert.KernelIdeal.Value.result_at m ρ c H _ _ _).symm)
end Cert.Proof
end
-- ==== Proof.lean ====
module
public import proofs.«01_k».proof.Defs
public import proofs.«01_k».proof.Proof.Gen.Kernel
public import proofs.«01_k».proof.Proof.Gen.KernelIdeal
public import proofs.«01_k».proof.Proof.Gen.RefIdeal
public import proofs.«01_k».proof.Proof.Gen.Pre_finite
public import proofs.«01_k».proof.Proof.Gen.RefIdeal.Run
public import proofs.«01_k».proof.Proof.LaunchK
public import proofs.«01_k».proof.Proof.LaunchI
public import proofs.«01_k».proof.Proof.Whole
public import Idealize.ShloMosaic.Adequacy
public import Idealize.ShloMosaic.Init

@[expose] public section

noncomputable section

/-! The claims, put together: the frames of the kernel as it is and idealized and of the reference, the named mask, and
the equality of the results. -/

namespace Cert.Proof

open Idealize.ShloMosaic Idealize.SL.Sem

/-- Every claim of the certificate. -/
theorem claim : Cert.Claim := ⟨Cert.Kernel.Gen.facts, Cert.KernelIdeal.Gen.facts, Cert.RefIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  ref_frame,
  fun m ρ _ => ref_frame m ρ trivial,
  IdealRules.named_const.statement _ _ _ _ _ rfl,
  algebraic⟩

end Cert.Proof

end
